-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![65536, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S2x7x256x1024 : Shape := ⟨4, ![2, 7, 256, 1024]⟩
abbrev S2x8x512x1024 : Shape := ⟨4, ![2, 8, 512, 1024]⟩
abbrev S2x256x1024 : Shape := ⟨3, ![2, 256, 1024]⟩
abbrev S2 : Shape := ⟨1, ![2]⟩
abbrev S2x16 : Shape := ⟨2, ![2, 16]⟩
abbrev S2x6 : Shape := ⟨2, ![2, 6]⟩
abbrev S2x7 : Shape := ⟨2, ![2, 7]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x1x256x1024 : Shape := ⟨4, ![1, 1, 256, 1024]⟩
abbrev S1x1 : Shape := ⟨2, ![1, 1]⟩
abbrev S512x1024 : Shape := ⟨2, ![512, 1024]⟩
abbrev S1x1x512x1024 : Shape := ⟨4, ![1, 1, 512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .local _ .vmem, ⟨0, _⟩ => ⟨S2x7x256x1024, .bf16⟩
  | .local _ .vmem, ⟨1, _⟩ => ⟨S2x8x512x1024, .bf16⟩
  | .local _ .vmem, ⟨2, _⟩ => ⟨S2x8x512x1024, .bf16⟩
  | .local _ .vmem, ⟨3, _⟩ => ⟨S2x256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  (ofTc nBuf bufTy 1 114 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 32
abbrev τ : Topo := Topo.v7x

variable {F : FTy → Type} [FloatOps F]

abbrev grid0 : Pipeline.Grid := .none

def k0_off1 (d0 : Dev nD) (c0_i32_21 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c2048_i32 : BitVec 32 := 2048#32
  let v32 : BitVec 32 := Scalar.muli v16 c2048_i32
  let v33 : BitVec 32 := Scalar.addi v32 c0_i32_21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32 : BitVec 32 := 256#32
  let v34 : BitVec 32 := Scalar.muli v5 c256_i32
  let v35 : BitVec 32 := Scalar.addi v33 v34
  let c0_i32_26 : BitVec 32 := 0#32
  ![v35.toNat, 0]
def k0_dev1 (d0 : Dev nD) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v42 : BitVec 32 := Scalar.muli v2 c16_i32_28
  let v43 : BitVec 32 := Scalar.addi c0_i32_29 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_30 : BitVec 32 := 4#32
  let v44 : BitVec 32 := Scalar.muli v13 c4_i32_30
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v46 : BitVec 32 := Scalar.muli v8 c1_i32_31
  let v47 : BitVec 32 := Scalar.addi v45 v46
  v47.toNat
def k0_dev2 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v48 : BitVec 32 := Scalar.muli v2 c16_i32_33
  let v49 : BitVec 32 := Scalar.addi c0_i32_34 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_35 : BitVec 32 := 4#32
  let v50 : BitVec 32 := Scalar.muli v10 c4_i32_35
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v52 : BitVec 32 := Scalar.muli v8 c1_i32_36
  let v53 : BitVec 32 := Scalar.addi v51 v52
  v53.toNat
def k0_dev3 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_38 : BitVec 32 := 16#32
  let v54 : BitVec 32 := Scalar.muli v20 c16_i32_38
  let v55 : BitVec 32 := Scalar.addi c0_i32_39 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v56 : BitVec 32 := Scalar.muli v5 c4_i32_40
  let v57 : BitVec 32 := Scalar.addi v55 v56
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_41 : BitVec 32 := 1#32
  let v58 : BitVec 32 := Scalar.muli v23 c1_i32_41
  let v59 : BitVec 32 := Scalar.addi v57 v58
  v59.toNat
def k0_dev4 (d0 : Dev nD) : Nat :=
  let c0_i32_44 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_43 : BitVec 32 := 16#32
  let v60 : BitVec 32 := Scalar.muli v28 c16_i32_43
  let v61 : BitVec 32 := Scalar.addi c0_i32_44 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_45 : BitVec 32 := 4#32
  let v62 : BitVec 32 := Scalar.muli v5 c4_i32_45
  let v63 : BitVec 32 := Scalar.addi v61 v62
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_46 : BitVec 32 := 1#32
  let v64 : BitVec 32 := Scalar.muli v31 c1_i32_46
  let v65 : BitVec 32 := Scalar.addi v63 v64
  v65.toNat
def k0_off2 (d0 : Dev nD) (c0_i32_62 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c2048_i32 : BitVec 32 := 2048#32
  let v32 : BitVec 32 := Scalar.muli v16 c2048_i32
  let v80 : BitVec 32 := Scalar.addi v32 c0_i32_62
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v77 : BitVec 32 := Scalar.addi v5 c4_i32_59
  let c1_i32_60 : BitVec 32 := 1#32
  let v78 : BitVec 32 := Scalar.subi v77 c1_i32_60
  let c4_i32_61 : BitVec 32 := 4#32
  let v79 : BitVec 32 := Scalar.remsi v78 c4_i32_61
  let c256_i32_63 : BitVec 32 := 256#32
  let v81 : BitVec 32 := Scalar.muli v79 c256_i32_63
  let v82 : BitVec 32 := Scalar.addi v80 v81
  let c0_i32_68 : BitVec 32 := 0#32
  ![v82.toNat, 0]
def k0_dev5 (d0 : Dev nD) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_77 : BitVec 32 := 16#32
  let v88 : BitVec 32 := Scalar.muli v2 c16_i32_77
  let v89 : BitVec 32 := Scalar.addi c0_i32_78 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_79 : BitVec 32 := 4#32
  let v90 : BitVec 32 := Scalar.muli v10 c4_i32_79
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v92 : BitVec 32 := Scalar.muli v8 c1_i32_80
  let v93 : BitVec 32 := Scalar.addi v91 v92
  v93.toNat
def k0_off3 (d0 : Dev nD) (c0_i32_89 : BitVec 32) (c0_i32_87 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c2048_i32 : BitVec 32 := 2048#32
  let v32 : BitVec 32 := Scalar.muli v16 c2048_i32
  let v106 : BitVec 32 := Scalar.addi v32 c0_i32_89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_85 : BitVec 32 := 4#32
  let v102 : BitVec 32 := Scalar.addi v5 c4_i32_85
  let c2_i32_86 : BitVec 32 := 2#32
  let v103 : BitVec 32 := Scalar.subi v102 c2_i32_86
  let v104 : BitVec 32 := Scalar.subi v103 c0_i32_87
  let c4_i32_88 : BitVec 32 := 4#32
  let v105 : BitVec 32 := Scalar.remsi v104 c4_i32_88
  let c256_i32_90 : BitVec 32 := 256#32
  let v107 : BitVec 32 := Scalar.muli v105 c256_i32_90
  let v108 : BitVec 32 := Scalar.addi v106 v107
  let c0_i32_95 : BitVec 32 := 0#32
  ![v108.toNat, 0]
def k0_dev6 (d0 : Dev nD) : Nat :=
  let c0_i32_136 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_135 : BitVec 32 := 16#32
  let v141 : BitVec 32 := Scalar.muli v2 c16_i32_135
  let v142 : BitVec 32 := Scalar.addi c0_i32_136 v141
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_137 : BitVec 32 := 4#32
  let v143 : BitVec 32 := Scalar.muli v10 c4_i32_137
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v145 : BitVec 32 := Scalar.muli v8 c1_i32_138
  let v146 : BitVec 32 := Scalar.addi v144 v145
  v146.toNat
def k0_dev7 (d0 : Dev nD) : Nat :=
  let c0_i32_193 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_192 : BitVec 32 := 16#32
  let v194 : BitVec 32 := Scalar.muli v2 c16_i32_192
  let v195 : BitVec 32 := Scalar.addi c0_i32_193 v194
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_194 : BitVec 32 := 4#32
  let v196 : BitVec 32 := Scalar.muli v10 c4_i32_194
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v198 : BitVec 32 := Scalar.muli v8 c1_i32_195
  let v199 : BitVec 32 := Scalar.addi v197 v198
  v199.toNat
def k0_dev8 (d0 : Dev nD) : Nat :=
  let c0_i32_240 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_239 : BitVec 32 := 16#32
  let v235 : BitVec 32 := Scalar.muli v2 c16_i32_239
  let v236 : BitVec 32 := Scalar.addi c0_i32_240 v235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_241 : BitVec 32 := 4#32
  let v237 : BitVec 32 := Scalar.muli v10 c4_i32_241
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_242 : BitVec 32 := 1#32
  let v239 : BitVec 32 := Scalar.muli v8 c1_i32_242
  let v240 : BitVec 32 := Scalar.addi v238 v239
  v240.toNat
def k0_dev9 (d0 : Dev nD) : Nat :=
  let c0_i32_271 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_270 : BitVec 32 := 16#32
  let v261 : BitVec 32 := Scalar.muli v2 c16_i32_270
  let v262 : BitVec 32 := Scalar.addi c0_i32_271 v261
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_272 : BitVec 32 := 4#32
  let v263 : BitVec 32 := Scalar.muli v10 c4_i32_272
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v265 : BitVec 32 := Scalar.muli v8 c1_i32_273
  let v266 : BitVec 32 := Scalar.addi v264 v265
  v266.toNat
def k0_dev10 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v287 : BitVec 32 := Scalar.muli v2 c16_i32_301
  let v288 : BitVec 32 := Scalar.addi c0_i32_302 v287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_303 : BitVec 32 := 4#32
  let v289 : BitVec 32 := Scalar.muli v10 c4_i32_303
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v291 : BitVec 32 := Scalar.muli v8 c1_i32_304
  let v292 : BitVec 32 := Scalar.addi v290 v291
  v292.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_325 : BitVec 32 := 8#32
  let v313 : BitVec 32 := Scalar.addi v5 c8_i32_325
  let c3_i32_326 : BitVec 32 := 3#32
  let v314 : BitVec 32 := Scalar.subi v313 c3_i32_326
  let c4_i32_327 : BitVec 32 := 4#32
  let v315 : BitVec 32 := Scalar.remsi v314 c4_i32_327
  let c2_i32_330 : BitVec 32 := 2#32
  let v318 : BitVec 1 := Scalar.cmpi .slt v315 c2_i32_330
  let v319 : BitVec 32 := Scalar.extui v318
  let c0_i32_331 : BitVec 32 := 0#32
  let v320 : BitVec 1 := Scalar.cmpi .ne v319 c0_i32_331
  v320

def k0_off4 (d0 : Dev nD) : Fin 4 → Nat :=
  let c0_2721 : Index := 0#32
  let c0_2722 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_325 : BitVec 32 := 8#32
  let v313 : BitVec 32 := Scalar.addi v5 c8_i32_325
  let c3_i32_326 : BitVec 32 := 3#32
  let v314 : BitVec 32 := Scalar.subi v313 c3_i32_326
  let c4_i32_327 : BitVec 32 := 4#32
  let v315 : BitVec 32 := Scalar.remsi v314 c4_i32_327
  let c2_i32_328 : BitVec 32 := 2#32
  let v316 : BitVec 32 := Scalar.remsi v315 c2_i32_328
  let c256_i32_329 : BitVec 32 := 256#32
  let v317 : BitVec 32 := Scalar.muli v316 c256_i32_329
  let v2120 : Index := Scalar.indexCast v317
  let c0_2723 : Index := 0#32
  ![0, 0, v2120.toNat, 0]
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_325 : BitVec 32 := 8#32
  let v313 : BitVec 32 := Scalar.addi v5 c8_i32_325
  let c3_i32_326 : BitVec 32 := 3#32
  let v314 : BitVec 32 := Scalar.subi v313 c3_i32_326
  let c4_i32_327 : BitVec 32 := 4#32
  let v315 : BitVec 32 := Scalar.remsi v314 c4_i32_327
  let c2_i32_330 : BitVec 32 := 2#32
  let v318 : BitVec 1 := Scalar.cmpi .slt v315 c2_i32_330
  let true_332 : BitVec 1 := 1#1
  let v321 : BitVec 1 := Scalar.xori v318 true_332
  let v322 : BitVec 32 := Scalar.extui v321
  let c0_i32_333 : BitVec 32 := 0#32
  let v323 : BitVec 1 := Scalar.cmpi .ne v322 c0_i32_333
  v323

def k0_off5 (d0 : Dev nD) : Fin 4 → Nat :=
  let c0_2721 : Index := 0#32
  let c0_2722 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_325 : BitVec 32 := 8#32
  let v313 : BitVec 32 := Scalar.addi v5 c8_i32_325
  let c3_i32_326 : BitVec 32 := 3#32
  let v314 : BitVec 32 := Scalar.subi v313 c3_i32_326
  let c4_i32_327 : BitVec 32 := 4#32
  let v315 : BitVec 32 := Scalar.remsi v314 c4_i32_327
  let c2_i32_328 : BitVec 32 := 2#32
  let v316 : BitVec 32 := Scalar.remsi v315 c2_i32_328
  let c256_i32_329 : BitVec 32 := 256#32
  let v317 : BitVec 32 := Scalar.muli v316 c256_i32_329
  let v2120 : Index := Scalar.indexCast v317
  let c0_2723 : Index := 0#32
  ![0, 0, v2120.toNat, 0]
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_334 : BitVec 32 := 8#32
  let v324 : BitVec 32 := Scalar.addi v5 c8_i32_334
  let c4_i32_335 : BitVec 32 := 4#32
  let v325 : BitVec 32 := Scalar.subi v324 c4_i32_335
  let c4_i32_336 : BitVec 32 := 4#32
  let v326 : BitVec 32 := Scalar.remsi v325 c4_i32_336
  let c2_i32_339 : BitVec 32 := 2#32
  let v329 : BitVec 1 := Scalar.cmpi .slt v326 c2_i32_339
  let v330 : BitVec 32 := Scalar.extui v329
  let c0_i32_340 : BitVec 32 := 0#32
  let v331 : BitVec 1 := Scalar.cmpi .ne v330 c0_i32_340
  v331

def k0_off6 (d0 : Dev nD) : Fin 4 → Nat :=
  let c0_2720 : Index := 0#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_334 : BitVec 32 := 8#32
  let v324 : BitVec 32 := Scalar.addi v5 c8_i32_334
  let c4_i32_335 : BitVec 32 := 4#32
  let v325 : BitVec 32 := Scalar.subi v324 c4_i32_335
  let c4_i32_336 : BitVec 32 := 4#32
  let v326 : BitVec 32 := Scalar.remsi v325 c4_i32_336
  let c2_i32_337 : BitVec 32 := 2#32
  let v327 : BitVec 32 := Scalar.remsi v326 c2_i32_337
  let c256_i32_338 : BitVec 32 := 256#32
  let v328 : BitVec 32 := Scalar.muli v327 c256_i32_338
  let v2120 : Index := Scalar.indexCast v328
  let c0_2722 : Index := 0#32
  ![0, 0, v2120.toNat, 0]
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_334 : BitVec 32 := 8#32
  let v324 : BitVec 32 := Scalar.addi v5 c8_i32_334
  let c4_i32_335 : BitVec 32 := 4#32
  let v325 : BitVec 32 := Scalar.subi v324 c4_i32_335
  let c4_i32_336 : BitVec 32 := 4#32
  let v326 : BitVec 32 := Scalar.remsi v325 c4_i32_336
  let c2_i32_339 : BitVec 32 := 2#32
  let v329 : BitVec 1 := Scalar.cmpi .slt v326 c2_i32_339
  let true_341 : BitVec 1 := 1#1
  let v332 : BitVec 1 := Scalar.xori v329 true_341
  let v333 : BitVec 32 := Scalar.extui v332
  let c0_i32_342 : BitVec 32 := 0#32
  let v334 : BitVec 1 := Scalar.cmpi .ne v333 c0_i32_342
  v334

def k0_off7 (d0 : Dev nD) : Fin 4 → Nat :=
  let c0_2720 : Index := 0#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_334 : BitVec 32 := 8#32
  let v324 : BitVec 32 := Scalar.addi v5 c8_i32_334
  let c4_i32_335 : BitVec 32 := 4#32
  let v325 : BitVec 32 := Scalar.subi v324 c4_i32_335
  let c4_i32_336 : BitVec 32 := 4#32
  let v326 : BitVec 32 := Scalar.remsi v325 c4_i32_336
  let c2_i32_337 : BitVec 32 := 2#32
  let v327 : BitVec 32 := Scalar.remsi v326 c2_i32_337
  let c256_i32_338 : BitVec 32 := 256#32
  let v328 : BitVec 32 := Scalar.muli v327 c256_i32_338
  let v2120 : Index := Scalar.indexCast v328
  let c0_2722 : Index := 0#32
  ![0, 0, v2120.toNat, 0]
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_343 : BitVec 32 := 8#32
  let v335 : BitVec 32 := Scalar.addi v5 c8_i32_343
  let c5_i32_344 : BitVec 32 := 5#32
  let v336 : BitVec 32 := Scalar.subi v335 c5_i32_344
  let c4_i32_345 : BitVec 32 := 4#32
  let v337 : BitVec 32 := Scalar.remsi v336 c4_i32_345
  let c2_i32_348 : BitVec 32 := 2#32
  let v340 : BitVec 1 := Scalar.cmpi .slt v337 c2_i32_348
  let v341 : BitVec 32 := Scalar.extui v340
  let c0_i32_349 : BitVec 32 := 0#32
  let v342 : BitVec 1 := Scalar.cmpi .ne v341 c0_i32_349
  v342

def k0_off8 (d0 : Dev nD) : Fin 4 → Nat :=
  let c0_2720 : Index := 0#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_343 : BitVec 32 := 8#32
  let v335 : BitVec 32 := Scalar.addi v5 c8_i32_343
  let c5_i32_344 : BitVec 32 := 5#32
  let v336 : BitVec 32 := Scalar.subi v335 c5_i32_344
  let c4_i32_345 : BitVec 32 := 4#32
  let v337 : BitVec 32 := Scalar.remsi v336 c4_i32_345
  let c2_i32_346 : BitVec 32 := 2#32
  let v338 : BitVec 32 := Scalar.remsi v337 c2_i32_346
  let c256_i32_347 : BitVec 32 := 256#32
  let v339 : BitVec 32 := Scalar.muli v338 c256_i32_347
  let v2120 : Index := Scalar.indexCast v339
  let c0_2722 : Index := 0#32
  ![0, 0, v2120.toNat, 0]
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_343 : BitVec 32 := 8#32
  let v335 : BitVec 32 := Scalar.addi v5 c8_i32_343
  let c5_i32_344 : BitVec 32 := 5#32
  let v336 : BitVec 32 := Scalar.subi v335 c5_i32_344
  let c4_i32_345 : BitVec 32 := 4#32
  let v337 : BitVec 32 := Scalar.remsi v336 c4_i32_345
  let c2_i32_348 : BitVec 32 := 2#32
  let v340 : BitVec 1 := Scalar.cmpi .slt v337 c2_i32_348
  let true_350 : BitVec 1 := 1#1
  let v343 : BitVec 1 := Scalar.xori v340 true_350
  let v344 : BitVec 32 := Scalar.extui v343
  let c0_i32_351 : BitVec 32 := 0#32
  let v345 : BitVec 1 := Scalar.cmpi .ne v344 c0_i32_351
  v345

def k0_off9 (d0 : Dev nD) : Fin 4 → Nat :=
  let c0_2720 : Index := 0#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_343 : BitVec 32 := 8#32
  let v335 : BitVec 32 := Scalar.addi v5 c8_i32_343
  let c5_i32_344 : BitVec 32 := 5#32
  let v336 : BitVec 32 := Scalar.subi v335 c5_i32_344
  let c4_i32_345 : BitVec 32 := 4#32
  let v337 : BitVec 32 := Scalar.remsi v336 c4_i32_345
  let c2_i32_346 : BitVec 32 := 2#32
  let v338 : BitVec 32 := Scalar.remsi v337 c2_i32_346
  let c256_i32_347 : BitVec 32 := 256#32
  let v339 : BitVec 32 := Scalar.muli v338 c256_i32_347
  let v2120 : Index := Scalar.indexCast v339
  let c0_2722 : Index := 0#32
  ![0, 0, v2120.toNat, 0]
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_352 : BitVec 32 := 8#32
  let v346 : BitVec 32 := Scalar.addi v5 c8_i32_352
  let c6_i32_353 : BitVec 32 := 6#32
  let v347 : BitVec 32 := Scalar.subi v346 c6_i32_353
  let c4_i32_354 : BitVec 32 := 4#32
  let v348 : BitVec 32 := Scalar.remsi v347 c4_i32_354
  let c2_i32_357 : BitVec 32 := 2#32
  let v351 : BitVec 1 := Scalar.cmpi .slt v348 c2_i32_357
  let v352 : BitVec 32 := Scalar.extui v351
  let c0_i32_358 : BitVec 32 := 0#32
  let v353 : BitVec 1 := Scalar.cmpi .ne v352 c0_i32_358
  v353

def k0_off10 (d0 : Dev nD) : Fin 4 → Nat :=
  let c0_2720 : Index := 0#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_352 : BitVec 32 := 8#32
  let v346 : BitVec 32 := Scalar.addi v5 c8_i32_352
  let c6_i32_353 : BitVec 32 := 6#32
  let v347 : BitVec 32 := Scalar.subi v346 c6_i32_353
  let c4_i32_354 : BitVec 32 := 4#32
  let v348 : BitVec 32 := Scalar.remsi v347 c4_i32_354
  let c2_i32_355 : BitVec 32 := 2#32
  let v349 : BitVec 32 := Scalar.remsi v348 c2_i32_355
  let c256_i32_356 : BitVec 32 := 256#32
  let v350 : BitVec 32 := Scalar.muli v349 c256_i32_356
  let v2120 : Index := Scalar.indexCast v350
  let c0_2722 : Index := 0#32
  ![0, 0, v2120.toNat, 0]
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_352 : BitVec 32 := 8#32
  let v346 : BitVec 32 := Scalar.addi v5 c8_i32_352
  let c6_i32_353 : BitVec 32 := 6#32
  let v347 : BitVec 32 := Scalar.subi v346 c6_i32_353
  let c4_i32_354 : BitVec 32 := 4#32
  let v348 : BitVec 32 := Scalar.remsi v347 c4_i32_354
  let c2_i32_357 : BitVec 32 := 2#32
  let v351 : BitVec 1 := Scalar.cmpi .slt v348 c2_i32_357
  let true_359 : BitVec 1 := 1#1
  let v354 : BitVec 1 := Scalar.xori v351 true_359
  let v355 : BitVec 32 := Scalar.extui v354
  let c0_i32_360 : BitVec 32 := 0#32
  let v356 : BitVec 1 := Scalar.cmpi .ne v355 c0_i32_360
  v356

def k0_off11 (d0 : Dev nD) : Fin 4 → Nat :=
  let c0_2720 : Index := 0#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_352 : BitVec 32 := 8#32
  let v346 : BitVec 32 := Scalar.addi v5 c8_i32_352
  let c6_i32_353 : BitVec 32 := 6#32
  let v347 : BitVec 32 := Scalar.subi v346 c6_i32_353
  let c4_i32_354 : BitVec 32 := 4#32
  let v348 : BitVec 32 := Scalar.remsi v347 c4_i32_354
  let c2_i32_355 : BitVec 32 := 2#32
  let v349 : BitVec 32 := Scalar.remsi v348 c2_i32_355
  let c256_i32_356 : BitVec 32 := 256#32
  let v350 : BitVec 32 := Scalar.muli v349 c256_i32_356
  let v2120 : Index := Scalar.indexCast v350
  let c0_2722 : Index := 0#32
  ![0, 0, v2120.toNat, 0]
def k0_off12 (d0 : Dev nD) (c0_i32_361 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c2048_i32 : BitVec 32 := 2048#32
  let v32 : BitVec 32 := Scalar.muli v16 c2048_i32
  let v357 : BitVec 32 := Scalar.addi v32 c0_i32_361
  let c0_i32_367 : BitVec 32 := 0#32
  ![v357.toNat, 0]
def k0_off13 (d0 : Dev nD) (c0_i32_362 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c2048_i32 : BitVec 32 := 2048#32
  let v32 : BitVec 32 := Scalar.muli v16 c2048_i32
  let v358 : BitVec 32 := Scalar.addi v32 c0_i32_362
  let c512_i32 : BitVec 32 := 512#32
  let v359 : BitVec 32 := Scalar.addi v358 c512_i32
  let c0_i32_374 : BitVec 32 := 0#32
  ![v359.toNat, 0]
def k0_dev11 (d0 : Dev nD) : Nat :=
  let c0_i32_386 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_385 : BitVec 32 := 16#32
  let v370 : BitVec 32 := Scalar.muli v20 c16_i32_385
  let v371 : BitVec 32 := Scalar.addi c0_i32_386 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_387 : BitVec 32 := 4#32
  let v372 : BitVec 32 := Scalar.muli v5 c4_i32_387
  let v373 : BitVec 32 := Scalar.addi v371 v372
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_388 : BitVec 32 := 1#32
  let v374 : BitVec 32 := Scalar.muli v23 c1_i32_388
  let v375 : BitVec 32 := Scalar.addi v373 v374
  v375.toNat
def k0_dev12 (d0 : Dev nD) : Nat :=
  let c0_i32_402 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_401 : BitVec 32 := 16#32
  let v384 : BitVec 32 := Scalar.muli v28 c16_i32_401
  let v385 : BitVec 32 := Scalar.addi c0_i32_402 v384
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_403 : BitVec 32 := 4#32
  let v386 : BitVec 32 := Scalar.muli v5 c4_i32_403
  let v387 : BitVec 32 := Scalar.addi v385 v386
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_404 : BitVec 32 := 1#32
  let v388 : BitVec 32 := Scalar.muli v31 c1_i32_404
  let v389 : BitVec 32 := Scalar.addi v387 v388
  v389.toNat
def k0_dev13 (d0 : Dev nD) : Nat :=
  let c0_i32_446 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_445 : BitVec 32 := 16#32
  let v428 : BitVec 32 := Scalar.muli v2 c16_i32_445
  let v429 : BitVec 32 := Scalar.addi c0_i32_446 v428
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_447 : BitVec 32 := 4#32
  let v430 : BitVec 32 := Scalar.muli v10 c4_i32_447
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_448 : BitVec 32 := 1#32
  let v432 : BitVec 32 := Scalar.muli v8 c1_i32_448
  let v433 : BitVec 32 := Scalar.addi v431 v432
  v433.toNat
def k0_dev14 (d0 : Dev nD) : Nat :=
  let c0_i32_537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_536 : BitVec 32 := 16#32
  let v505 : BitVec 32 := Scalar.muli v20 c16_i32_536
  let v506 : BitVec 32 := Scalar.addi c0_i32_537 v505
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_538 : BitVec 32 := 4#32
  let v507 : BitVec 32 := Scalar.muli v5 c4_i32_538
  let v508 : BitVec 32 := Scalar.addi v506 v507
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_539 : BitVec 32 := 1#32
  let v509 : BitVec 32 := Scalar.muli v23 c1_i32_539
  let v510 : BitVec 32 := Scalar.addi v508 v509
  v510.toNat
def k0_dev15 (d0 : Dev nD) : Nat :=
  let c0_i32_553 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_552 : BitVec 32 := 16#32
  let v519 : BitVec 32 := Scalar.muli v28 c16_i32_552
  let v520 : BitVec 32 := Scalar.addi c0_i32_553 v519
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_554 : BitVec 32 := 4#32
  let v521 : BitVec 32 := Scalar.muli v5 c4_i32_554
  let v522 : BitVec 32 := Scalar.addi v520 v521
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_555 : BitVec 32 := 1#32
  let v523 : BitVec 32 := Scalar.muli v31 c1_i32_555
  let v524 : BitVec 32 := Scalar.addi v522 v523
  v524.toNat
def k0_off14 (d0 : Dev nD) (c0_i32_561 : BitVec 32) (c0_i32_568 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_560 : BitVec 32 := 8#32
  let v533 : BitVec 32 := Scalar.addi v16 c8_i32_560
  let v534 : BitVec 32 := Scalar.subi v533 c0_i32_561
  let c1_i32_562 : BitVec 32 := 1#32
  let v535 : BitVec 32 := Scalar.subi v534 c1_i32_562
  let c8_i32_563 : BitVec 32 := 8#32
  let v536 : BitVec 32 := Scalar.remsi v535 c8_i32_563
  let c2048_i32_567 : BitVec 32 := 2048#32
  let v540 : BitVec 32 := Scalar.muli v536 c2048_i32_567
  let v541 : BitVec 32 := Scalar.addi v540 c0_i32_568
  let c0_i32_576 : BitVec 32 := 0#32
  ![v541.toNat, 0]
def k0_off15 (d0 : Dev nD) (c0_i32_564 : BitVec 32) (c0_i32_570 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let v537 : BitVec 32 := Scalar.addi v16 c0_i32_564
  let c1_i32_565 : BitVec 32 := 1#32
  let v538 : BitVec 32 := Scalar.addi v537 c1_i32_565
  let c8_i32_566 : BitVec 32 := 8#32
  let v539 : BitVec 32 := Scalar.remsi v538 c8_i32_566
  let c2048_i32_569 : BitVec 32 := 2048#32
  let v542 : BitVec 32 := Scalar.muli v539 c2048_i32_569
  let v543 : BitVec 32 := Scalar.addi v542 c0_i32_570
  let c512_i32_571 : BitVec 32 := 512#32
  let v544 : BitVec 32 := Scalar.addi v543 c512_i32_571
  let c0_i32_583 : BitVec 32 := 0#32
  ![v544.toNat, 0]
def k0_dev16 (d0 : Dev nD) : Nat :=
  let c0_i32_595 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_594 : BitVec 32 := 16#32
  let v555 : BitVec 32 := Scalar.muli v2 c16_i32_594
  let v556 : BitVec 32 := Scalar.addi c0_i32_595 v555
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_596 : BitVec 32 := 4#32
  let v557 : BitVec 32 := Scalar.muli v10 c4_i32_596
  let v558 : BitVec 32 := Scalar.addi v556 v557
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_597 : BitVec 32 := 1#32
  let v559 : BitVec 32 := Scalar.muli v8 c1_i32_597
  let v560 : BitVec 32 := Scalar.addi v558 v559
  v560.toNat
def k0_dev17 (d0 : Dev nD) : Nat :=
  let c0_i32_686 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_685 : BitVec 32 := 16#32
  let v632 : BitVec 32 := Scalar.muli v20 c16_i32_685
  let v633 : BitVec 32 := Scalar.addi c0_i32_686 v632
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_687 : BitVec 32 := 4#32
  let v634 : BitVec 32 := Scalar.muli v5 c4_i32_687
  let v635 : BitVec 32 := Scalar.addi v633 v634
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_688 : BitVec 32 := 1#32
  let v636 : BitVec 32 := Scalar.muli v23 c1_i32_688
  let v637 : BitVec 32 := Scalar.addi v635 v636
  v637.toNat
def k0_dev18 (d0 : Dev nD) : Nat :=
  let c0_i32_702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_701 : BitVec 32 := 16#32
  let v646 : BitVec 32 := Scalar.muli v28 c16_i32_701
  let v647 : BitVec 32 := Scalar.addi c0_i32_702 v646
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_703 : BitVec 32 := 4#32
  let v648 : BitVec 32 := Scalar.muli v5 c4_i32_703
  let v649 : BitVec 32 := Scalar.addi v647 v648
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_704 : BitVec 32 := 1#32
  let v650 : BitVec 32 := Scalar.muli v31 c1_i32_704
  let v651 : BitVec 32 := Scalar.addi v649 v650
  v651.toNat
def k0_dev19 (d0 : Dev nD) : Nat :=
  let c0_i32_744 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_743 : BitVec 32 := 16#32
  let v682 : BitVec 32 := Scalar.muli v2 c16_i32_743
  let v683 : BitVec 32 := Scalar.addi c0_i32_744 v682
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_745 : BitVec 32 := 4#32
  let v684 : BitVec 32 := Scalar.muli v10 c4_i32_745
  let v685 : BitVec 32 := Scalar.addi v683 v684
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_746 : BitVec 32 := 1#32
  let v686 : BitVec 32 := Scalar.muli v8 c1_i32_746
  let v687 : BitVec 32 := Scalar.addi v685 v686
  v687.toNat
def k0_dev20 (d0 : Dev nD) : Nat :=
  let c0_i32_824 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_823 : BitVec 32 := 16#32
  let v747 : BitVec 32 := Scalar.muli v20 c16_i32_823
  let v748 : BitVec 32 := Scalar.addi c0_i32_824 v747
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_825 : BitVec 32 := 4#32
  let v749 : BitVec 32 := Scalar.muli v5 c4_i32_825
  let v750 : BitVec 32 := Scalar.addi v748 v749
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_826 : BitVec 32 := 1#32
  let v751 : BitVec 32 := Scalar.muli v23 c1_i32_826
  let v752 : BitVec 32 := Scalar.addi v750 v751
  v752.toNat
def k0_dev21 (d0 : Dev nD) : Nat :=
  let c0_i32_840 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_839 : BitVec 32 := 16#32
  let v761 : BitVec 32 := Scalar.muli v28 c16_i32_839
  let v762 : BitVec 32 := Scalar.addi c0_i32_840 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_841 : BitVec 32 := 4#32
  let v763 : BitVec 32 := Scalar.muli v5 c4_i32_841
  let v764 : BitVec 32 := Scalar.addi v762 v763
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_842 : BitVec 32 := 1#32
  let v765 : BitVec 32 := Scalar.muli v31 c1_i32_842
  let v766 : BitVec 32 := Scalar.addi v764 v765
  v766.toNat
def k0_dev22 (d0 : Dev nD) : Nat :=
  let c0_i32_882 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_881 : BitVec 32 := 16#32
  let v797 : BitVec 32 := Scalar.muli v2 c16_i32_881
  let v798 : BitVec 32 := Scalar.addi c0_i32_882 v797
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_883 : BitVec 32 := 4#32
  let v799 : BitVec 32 := Scalar.muli v10 c4_i32_883
  let v800 : BitVec 32 := Scalar.addi v798 v799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_884 : BitVec 32 := 1#32
  let v801 : BitVec 32 := Scalar.muli v8 c1_i32_884
  let v802 : BitVec 32 := Scalar.addi v800 v801
  v802.toNat
def k0_dev23 (d0 : Dev nD) : Nat :=
  let c0_i32_946 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_945 : BitVec 32 := 16#32
  let v847 : BitVec 32 := Scalar.muli v20 c16_i32_945
  let v848 : BitVec 32 := Scalar.addi c0_i32_946 v847
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_947 : BitVec 32 := 4#32
  let v849 : BitVec 32 := Scalar.muli v5 c4_i32_947
  let v850 : BitVec 32 := Scalar.addi v848 v849
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_948 : BitVec 32 := 1#32
  let v851 : BitVec 32 := Scalar.muli v23 c1_i32_948
  let v852 : BitVec 32 := Scalar.addi v850 v851
  v852.toNat
def k0_dev24 (d0 : Dev nD) : Nat :=
  let c0_i32_962 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_961 : BitVec 32 := 16#32
  let v861 : BitVec 32 := Scalar.muli v28 c16_i32_961
  let v862 : BitVec 32 := Scalar.addi c0_i32_962 v861
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_963 : BitVec 32 := 4#32
  let v863 : BitVec 32 := Scalar.muli v5 c4_i32_963
  let v864 : BitVec 32 := Scalar.addi v862 v863
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_964 : BitVec 32 := 1#32
  let v865 : BitVec 32 := Scalar.muli v31 c1_i32_964
  let v866 : BitVec 32 := Scalar.addi v864 v865
  v866.toNat
def k0_dev25 (d0 : Dev nD) : Nat :=
  let c0_i32_1003 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1002 : BitVec 32 := 16#32
  let v897 : BitVec 32 := Scalar.muli v2 c16_i32_1002
  let v898 : BitVec 32 := Scalar.addi c0_i32_1003 v897
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_1004 : BitVec 32 := 4#32
  let v899 : BitVec 32 := Scalar.muli v10 c4_i32_1004
  let v900 : BitVec 32 := Scalar.addi v898 v899
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1005 : BitVec 32 := 1#32
  let v901 : BitVec 32 := Scalar.muli v8 c1_i32_1005
  let v902 : BitVec 32 := Scalar.addi v900 v901
  v902.toNat
def k0_dev26 (d0 : Dev nD) : Nat :=
  let c0_i32_1067 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_1066 : BitVec 32 := 16#32
  let v947 : BitVec 32 := Scalar.muli v20 c16_i32_1066
  let v948 : BitVec 32 := Scalar.addi c0_i32_1067 v947
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1068 : BitVec 32 := 4#32
  let v949 : BitVec 32 := Scalar.muli v5 c4_i32_1068
  let v950 : BitVec 32 := Scalar.addi v948 v949
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_1069 : BitVec 32 := 1#32
  let v951 : BitVec 32 := Scalar.muli v23 c1_i32_1069
  let v952 : BitVec 32 := Scalar.addi v950 v951
  v952.toNat
def k0_dev27 (d0 : Dev nD) : Nat :=
  let c0_i32_1083 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_1082 : BitVec 32 := 16#32
  let v961 : BitVec 32 := Scalar.muli v28 c16_i32_1082
  let v962 : BitVec 32 := Scalar.addi c0_i32_1083 v961
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1084 : BitVec 32 := 4#32
  let v963 : BitVec 32 := Scalar.muli v5 c4_i32_1084
  let v964 : BitVec 32 := Scalar.addi v962 v963
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_1085 : BitVec 32 := 1#32
  let v965 : BitVec 32 := Scalar.muli v31 c1_i32_1085
  let v966 : BitVec 32 := Scalar.addi v964 v965
  v966.toNat
def k0_dev28 (d0 : Dev nD) : Nat :=
  let c0_i32_1123 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1122 : BitVec 32 := 16#32
  let v997 : BitVec 32 := Scalar.muli v2 c16_i32_1122
  let v998 : BitVec 32 := Scalar.addi c0_i32_1123 v997
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_1124 : BitVec 32 := 4#32
  let v999 : BitVec 32 := Scalar.muli v10 c4_i32_1124
  let v1000 : BitVec 32 := Scalar.addi v998 v999
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1125 : BitVec 32 := 1#32
  let v1001 : BitVec 32 := Scalar.muli v8 c1_i32_1125
  let v1002 : BitVec 32 := Scalar.addi v1000 v1001
  v1002.toNat
def k0_dev29 (d0 : Dev nD) : Nat :=
  let c0_i32_1187 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_1186 : BitVec 32 := 16#32
  let v1047 : BitVec 32 := Scalar.muli v20 c16_i32_1186
  let v1048 : BitVec 32 := Scalar.addi c0_i32_1187 v1047
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1188 : BitVec 32 := 4#32
  let v1049 : BitVec 32 := Scalar.muli v5 c4_i32_1188
  let v1050 : BitVec 32 := Scalar.addi v1048 v1049
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_1189 : BitVec 32 := 1#32
  let v1051 : BitVec 32 := Scalar.muli v23 c1_i32_1189
  let v1052 : BitVec 32 := Scalar.addi v1050 v1051
  v1052.toNat
def k0_dev30 (d0 : Dev nD) : Nat :=
  let c0_i32_1203 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_1202 : BitVec 32 := 16#32
  let v1061 : BitVec 32 := Scalar.muli v28 c16_i32_1202
  let v1062 : BitVec 32 := Scalar.addi c0_i32_1203 v1061
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1204 : BitVec 32 := 4#32
  let v1063 : BitVec 32 := Scalar.muli v5 c4_i32_1204
  let v1064 : BitVec 32 := Scalar.addi v1062 v1063
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_1205 : BitVec 32 := 1#32
  let v1065 : BitVec 32 := Scalar.muli v31 c1_i32_1205
  let v1066 : BitVec 32 := Scalar.addi v1064 v1065
  v1066.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1234 : BitVec 32 := 8#32
  let v1097 : BitVec 32 := Scalar.addi v5 c8_i32_1234
  let c3_i32_1235 : BitVec 32 := 3#32
  let v1098 : BitVec 32 := Scalar.subi v1097 c3_i32_1235
  let c4_i32_1236 : BitVec 32 := 4#32
  let v1099 : BitVec 32 := Scalar.remsi v1098 c4_i32_1236
  let c2_i32_1239 : BitVec 32 := 2#32
  let v1102 : BitVec 1 := Scalar.cmpi .slt v1099 c2_i32_1239
  let v1103 : BitVec 32 := Scalar.extui v1102
  let c0_i32_1240 : BitVec 32 := 0#32
  let v1104 : BitVec 1 := Scalar.cmpi .ne v1103 c0_i32_1240
  v1104

def k0_off16 (d0 : Dev nD) : Fin 4 → Nat :=
  let c1_2721 : Index := 1#32
  let c0_2722 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1234 : BitVec 32 := 8#32
  let v1097 : BitVec 32 := Scalar.addi v5 c8_i32_1234
  let c3_i32_1235 : BitVec 32 := 3#32
  let v1098 : BitVec 32 := Scalar.subi v1097 c3_i32_1235
  let c4_i32_1236 : BitVec 32 := 4#32
  let v1099 : BitVec 32 := Scalar.remsi v1098 c4_i32_1236
  let c2_i32_1237 : BitVec 32 := 2#32
  let v1100 : BitVec 32 := Scalar.remsi v1099 c2_i32_1237
  let c256_i32_1238 : BitVec 32 := 256#32
  let v1101 : BitVec 32 := Scalar.muli v1100 c256_i32_1238
  let v2120 : Index := Scalar.indexCast v1101
  let c0_2723 : Index := 0#32
  ![1, 0, v2120.toNat, 0]
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1234 : BitVec 32 := 8#32
  let v1097 : BitVec 32 := Scalar.addi v5 c8_i32_1234
  let c3_i32_1235 : BitVec 32 := 3#32
  let v1098 : BitVec 32 := Scalar.subi v1097 c3_i32_1235
  let c4_i32_1236 : BitVec 32 := 4#32
  let v1099 : BitVec 32 := Scalar.remsi v1098 c4_i32_1236
  let c2_i32_1239 : BitVec 32 := 2#32
  let v1102 : BitVec 1 := Scalar.cmpi .slt v1099 c2_i32_1239
  let true_1241 : BitVec 1 := 1#1
  let v1105 : BitVec 1 := Scalar.xori v1102 true_1241
  let v1106 : BitVec 32 := Scalar.extui v1105
  let c0_i32_1242 : BitVec 32 := 0#32
  let v1107 : BitVec 1 := Scalar.cmpi .ne v1106 c0_i32_1242
  v1107

def k0_off17 (d0 : Dev nD) : Fin 4 → Nat :=
  let c1_2721 : Index := 1#32
  let c0_2722 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1234 : BitVec 32 := 8#32
  let v1097 : BitVec 32 := Scalar.addi v5 c8_i32_1234
  let c3_i32_1235 : BitVec 32 := 3#32
  let v1098 : BitVec 32 := Scalar.subi v1097 c3_i32_1235
  let c4_i32_1236 : BitVec 32 := 4#32
  let v1099 : BitVec 32 := Scalar.remsi v1098 c4_i32_1236
  let c2_i32_1237 : BitVec 32 := 2#32
  let v1100 : BitVec 32 := Scalar.remsi v1099 c2_i32_1237
  let c256_i32_1238 : BitVec 32 := 256#32
  let v1101 : BitVec 32 := Scalar.muli v1100 c256_i32_1238
  let v2120 : Index := Scalar.indexCast v1101
  let c0_2723 : Index := 0#32
  ![1, 0, v2120.toNat, 0]
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1243 : BitVec 32 := 8#32
  let v1108 : BitVec 32 := Scalar.addi v5 c8_i32_1243
  let c4_i32_1244 : BitVec 32 := 4#32
  let v1109 : BitVec 32 := Scalar.subi v1108 c4_i32_1244
  let c4_i32_1245 : BitVec 32 := 4#32
  let v1110 : BitVec 32 := Scalar.remsi v1109 c4_i32_1245
  let c2_i32_1248 : BitVec 32 := 2#32
  let v1113 : BitVec 1 := Scalar.cmpi .slt v1110 c2_i32_1248
  let v1114 : BitVec 32 := Scalar.extui v1113
  let c0_i32_1249 : BitVec 32 := 0#32
  let v1115 : BitVec 1 := Scalar.cmpi .ne v1114 c0_i32_1249
  v1115

def k0_off18 (d0 : Dev nD) : Fin 4 → Nat :=
  let c1_2720 : Index := 1#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1243 : BitVec 32 := 8#32
  let v1108 : BitVec 32 := Scalar.addi v5 c8_i32_1243
  let c4_i32_1244 : BitVec 32 := 4#32
  let v1109 : BitVec 32 := Scalar.subi v1108 c4_i32_1244
  let c4_i32_1245 : BitVec 32 := 4#32
  let v1110 : BitVec 32 := Scalar.remsi v1109 c4_i32_1245
  let c2_i32_1246 : BitVec 32 := 2#32
  let v1111 : BitVec 32 := Scalar.remsi v1110 c2_i32_1246
  let c256_i32_1247 : BitVec 32 := 256#32
  let v1112 : BitVec 32 := Scalar.muli v1111 c256_i32_1247
  let v2120 : Index := Scalar.indexCast v1112
  let c0_2722 : Index := 0#32
  ![1, 0, v2120.toNat, 0]
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1243 : BitVec 32 := 8#32
  let v1108 : BitVec 32 := Scalar.addi v5 c8_i32_1243
  let c4_i32_1244 : BitVec 32 := 4#32
  let v1109 : BitVec 32 := Scalar.subi v1108 c4_i32_1244
  let c4_i32_1245 : BitVec 32 := 4#32
  let v1110 : BitVec 32 := Scalar.remsi v1109 c4_i32_1245
  let c2_i32_1248 : BitVec 32 := 2#32
  let v1113 : BitVec 1 := Scalar.cmpi .slt v1110 c2_i32_1248
  let true_1250 : BitVec 1 := 1#1
  let v1116 : BitVec 1 := Scalar.xori v1113 true_1250
  let v1117 : BitVec 32 := Scalar.extui v1116
  let c0_i32_1251 : BitVec 32 := 0#32
  let v1118 : BitVec 1 := Scalar.cmpi .ne v1117 c0_i32_1251
  v1118

def k0_off19 (d0 : Dev nD) : Fin 4 → Nat :=
  let c1_2720 : Index := 1#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1243 : BitVec 32 := 8#32
  let v1108 : BitVec 32 := Scalar.addi v5 c8_i32_1243
  let c4_i32_1244 : BitVec 32 := 4#32
  let v1109 : BitVec 32 := Scalar.subi v1108 c4_i32_1244
  let c4_i32_1245 : BitVec 32 := 4#32
  let v1110 : BitVec 32 := Scalar.remsi v1109 c4_i32_1245
  let c2_i32_1246 : BitVec 32 := 2#32
  let v1111 : BitVec 32 := Scalar.remsi v1110 c2_i32_1246
  let c256_i32_1247 : BitVec 32 := 256#32
  let v1112 : BitVec 32 := Scalar.muli v1111 c256_i32_1247
  let v2120 : Index := Scalar.indexCast v1112
  let c0_2722 : Index := 0#32
  ![1, 0, v2120.toNat, 0]
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1252 : BitVec 32 := 8#32
  let v1119 : BitVec 32 := Scalar.addi v5 c8_i32_1252
  let c5_i32_1253 : BitVec 32 := 5#32
  let v1120 : BitVec 32 := Scalar.subi v1119 c5_i32_1253
  let c4_i32_1254 : BitVec 32 := 4#32
  let v1121 : BitVec 32 := Scalar.remsi v1120 c4_i32_1254
  let c2_i32_1257 : BitVec 32 := 2#32
  let v1124 : BitVec 1 := Scalar.cmpi .slt v1121 c2_i32_1257
  let v1125 : BitVec 32 := Scalar.extui v1124
  let c0_i32_1258 : BitVec 32 := 0#32
  let v1126 : BitVec 1 := Scalar.cmpi .ne v1125 c0_i32_1258
  v1126

def k0_off20 (d0 : Dev nD) : Fin 4 → Nat :=
  let c1_2720 : Index := 1#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1252 : BitVec 32 := 8#32
  let v1119 : BitVec 32 := Scalar.addi v5 c8_i32_1252
  let c5_i32_1253 : BitVec 32 := 5#32
  let v1120 : BitVec 32 := Scalar.subi v1119 c5_i32_1253
  let c4_i32_1254 : BitVec 32 := 4#32
  let v1121 : BitVec 32 := Scalar.remsi v1120 c4_i32_1254
  let c2_i32_1255 : BitVec 32 := 2#32
  let v1122 : BitVec 32 := Scalar.remsi v1121 c2_i32_1255
  let c256_i32_1256 : BitVec 32 := 256#32
  let v1123 : BitVec 32 := Scalar.muli v1122 c256_i32_1256
  let v2120 : Index := Scalar.indexCast v1123
  let c0_2722 : Index := 0#32
  ![1, 0, v2120.toNat, 0]
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1252 : BitVec 32 := 8#32
  let v1119 : BitVec 32 := Scalar.addi v5 c8_i32_1252
  let c5_i32_1253 : BitVec 32 := 5#32
  let v1120 : BitVec 32 := Scalar.subi v1119 c5_i32_1253
  let c4_i32_1254 : BitVec 32 := 4#32
  let v1121 : BitVec 32 := Scalar.remsi v1120 c4_i32_1254
  let c2_i32_1257 : BitVec 32 := 2#32
  let v1124 : BitVec 1 := Scalar.cmpi .slt v1121 c2_i32_1257
  let true_1259 : BitVec 1 := 1#1
  let v1127 : BitVec 1 := Scalar.xori v1124 true_1259
  let v1128 : BitVec 32 := Scalar.extui v1127
  let c0_i32_1260 : BitVec 32 := 0#32
  let v1129 : BitVec 1 := Scalar.cmpi .ne v1128 c0_i32_1260
  v1129

def k0_off21 (d0 : Dev nD) : Fin 4 → Nat :=
  let c1_2720 : Index := 1#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1252 : BitVec 32 := 8#32
  let v1119 : BitVec 32 := Scalar.addi v5 c8_i32_1252
  let c5_i32_1253 : BitVec 32 := 5#32
  let v1120 : BitVec 32 := Scalar.subi v1119 c5_i32_1253
  let c4_i32_1254 : BitVec 32 := 4#32
  let v1121 : BitVec 32 := Scalar.remsi v1120 c4_i32_1254
  let c2_i32_1255 : BitVec 32 := 2#32
  let v1122 : BitVec 32 := Scalar.remsi v1121 c2_i32_1255
  let c256_i32_1256 : BitVec 32 := 256#32
  let v1123 : BitVec 32 := Scalar.muli v1122 c256_i32_1256
  let v2120 : Index := Scalar.indexCast v1123
  let c0_2722 : Index := 0#32
  ![1, 0, v2120.toNat, 0]
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1261 : BitVec 32 := 8#32
  let v1130 : BitVec 32 := Scalar.addi v5 c8_i32_1261
  let c6_i32_1262 : BitVec 32 := 6#32
  let v1131 : BitVec 32 := Scalar.subi v1130 c6_i32_1262
  let c4_i32_1263 : BitVec 32 := 4#32
  let v1132 : BitVec 32 := Scalar.remsi v1131 c4_i32_1263
  let c2_i32_1266 : BitVec 32 := 2#32
  let v1135 : BitVec 1 := Scalar.cmpi .slt v1132 c2_i32_1266
  let v1136 : BitVec 32 := Scalar.extui v1135
  let c0_i32_1267 : BitVec 32 := 0#32
  let v1137 : BitVec 1 := Scalar.cmpi .ne v1136 c0_i32_1267
  v1137

def k0_off22 (d0 : Dev nD) : Fin 4 → Nat :=
  let c1_2720 : Index := 1#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1261 : BitVec 32 := 8#32
  let v1130 : BitVec 32 := Scalar.addi v5 c8_i32_1261
  let c6_i32_1262 : BitVec 32 := 6#32
  let v1131 : BitVec 32 := Scalar.subi v1130 c6_i32_1262
  let c4_i32_1263 : BitVec 32 := 4#32
  let v1132 : BitVec 32 := Scalar.remsi v1131 c4_i32_1263
  let c2_i32_1264 : BitVec 32 := 2#32
  let v1133 : BitVec 32 := Scalar.remsi v1132 c2_i32_1264
  let c256_i32_1265 : BitVec 32 := 256#32
  let v1134 : BitVec 32 := Scalar.muli v1133 c256_i32_1265
  let v2120 : Index := Scalar.indexCast v1134
  let c0_2722 : Index := 0#32
  ![1, 0, v2120.toNat, 0]
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1261 : BitVec 32 := 8#32
  let v1130 : BitVec 32 := Scalar.addi v5 c8_i32_1261
  let c6_i32_1262 : BitVec 32 := 6#32
  let v1131 : BitVec 32 := Scalar.subi v1130 c6_i32_1262
  let c4_i32_1263 : BitVec 32 := 4#32
  let v1132 : BitVec 32 := Scalar.remsi v1131 c4_i32_1263
  let c2_i32_1266 : BitVec 32 := 2#32
  let v1135 : BitVec 1 := Scalar.cmpi .slt v1132 c2_i32_1266
  let true_1268 : BitVec 1 := 1#1
  let v1138 : BitVec 1 := Scalar.xori v1135 true_1268
  let v1139 : BitVec 32 := Scalar.extui v1138
  let c0_i32_1269 : BitVec 32 := 0#32
  let v1140 : BitVec 1 := Scalar.cmpi .ne v1139 c0_i32_1269
  v1140

def k0_off23 (d0 : Dev nD) : Fin 4 → Nat :=
  let c1_2720 : Index := 1#32
  let c0_2721 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_1261 : BitVec 32 := 8#32
  let v1130 : BitVec 32 := Scalar.addi v5 c8_i32_1261
  let c6_i32_1262 : BitVec 32 := 6#32
  let v1131 : BitVec 32 := Scalar.subi v1130 c6_i32_1262
  let c4_i32_1263 : BitVec 32 := 4#32
  let v1132 : BitVec 32 := Scalar.remsi v1131 c4_i32_1263
  let c2_i32_1264 : BitVec 32 := 2#32
  let v1133 : BitVec 32 := Scalar.remsi v1132 c2_i32_1264
  let c256_i32_1265 : BitVec 32 := 256#32
  let v1134 : BitVec 32 := Scalar.muli v1133 c256_i32_1265
  let v2120 : Index := Scalar.indexCast v1134
  let c0_2722 : Index := 0#32
  ![1, 0, v2120.toNat, 0]
def k0_dev31 (d0 : Dev nD) : Nat :=
  let c0_i32_1296 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_1295 : BitVec 32 := 16#32
  let v1154 : BitVec 32 := Scalar.muli v20 c16_i32_1295
  let v1155 : BitVec 32 := Scalar.addi c0_i32_1296 v1154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1297 : BitVec 32 := 4#32
  let v1156 : BitVec 32 := Scalar.muli v5 c4_i32_1297
  let v1157 : BitVec 32 := Scalar.addi v1155 v1156
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_1298 : BitVec 32 := 1#32
  let v1158 : BitVec 32 := Scalar.muli v23 c1_i32_1298
  let v1159 : BitVec 32 := Scalar.addi v1157 v1158
  v1159.toNat
def k0_dev32 (d0 : Dev nD) : Nat :=
  let c0_i32_1312 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_1311 : BitVec 32 := 16#32
  let v1168 : BitVec 32 := Scalar.muli v28 c16_i32_1311
  let v1169 : BitVec 32 := Scalar.addi c0_i32_1312 v1168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1313 : BitVec 32 := 4#32
  let v1170 : BitVec 32 := Scalar.muli v5 c4_i32_1313
  let v1171 : BitVec 32 := Scalar.addi v1169 v1170
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_1314 : BitVec 32 := 1#32
  let v1172 : BitVec 32 := Scalar.muli v31 c1_i32_1314
  let v1173 : BitVec 32 := Scalar.addi v1171 v1172
  v1173.toNat
def k0_dev33 (d0 : Dev nD) : Nat :=
  let c0_i32_1416 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_1415 : BitVec 32 := 16#32
  let v1252 : BitVec 32 := Scalar.muli v20 c16_i32_1415
  let v1253 : BitVec 32 := Scalar.addi c0_i32_1416 v1252
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1417 : BitVec 32 := 4#32
  let v1254 : BitVec 32 := Scalar.muli v5 c4_i32_1417
  let v1255 : BitVec 32 := Scalar.addi v1253 v1254
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_1418 : BitVec 32 := 1#32
  let v1256 : BitVec 32 := Scalar.muli v23 c1_i32_1418
  let v1257 : BitVec 32 := Scalar.addi v1255 v1256
  v1257.toNat
def k0_dev34 (d0 : Dev nD) : Nat :=
  let c0_i32_1432 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_1431 : BitVec 32 := 16#32
  let v1266 : BitVec 32 := Scalar.muli v28 c16_i32_1431
  let v1267 : BitVec 32 := Scalar.addi c0_i32_1432 v1266
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1433 : BitVec 32 := 4#32
  let v1268 : BitVec 32 := Scalar.muli v5 c4_i32_1433
  let v1269 : BitVec 32 := Scalar.addi v1267 v1268
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_1434 : BitVec 32 := 1#32
  let v1270 : BitVec 32 := Scalar.muli v31 c1_i32_1434
  let v1271 : BitVec 32 := Scalar.addi v1269 v1270
  v1271.toNat
def k0_dev35 (d0 : Dev nD) : Nat :=
  let c0_i32_1506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_1505 : BitVec 32 := 16#32
  let v1326 : BitVec 32 := Scalar.muli v20 c16_i32_1505
  let v1327 : BitVec 32 := Scalar.addi c0_i32_1506 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1507 : BitVec 32 := 4#32
  let v1328 : BitVec 32 := Scalar.muli v5 c4_i32_1507
  let v1329 : BitVec 32 := Scalar.addi v1327 v1328
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_1508 : BitVec 32 := 1#32
  let v1330 : BitVec 32 := Scalar.muli v23 c1_i32_1508
  let v1331 : BitVec 32 := Scalar.addi v1329 v1330
  v1331.toNat
def k0_dev36 (d0 : Dev nD) : Nat :=
  let c0_i32_1522 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_1521 : BitVec 32 := 16#32
  let v1340 : BitVec 32 := Scalar.muli v28 c16_i32_1521
  let v1341 : BitVec 32 := Scalar.addi c0_i32_1522 v1340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1523 : BitVec 32 := 4#32
  let v1342 : BitVec 32 := Scalar.muli v5 c4_i32_1523
  let v1343 : BitVec 32 := Scalar.addi v1341 v1342
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_1524 : BitVec 32 := 1#32
  let v1344 : BitVec 32 := Scalar.muli v31 c1_i32_1524
  let v1345 : BitVec 32 := Scalar.addi v1343 v1344
  v1345.toNat
def k0_dev37 (d0 : Dev nD) : Nat :=
  let c0_i32_1596 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_1595 : BitVec 32 := 16#32
  let v1400 : BitVec 32 := Scalar.muli v20 c16_i32_1595
  let v1401 : BitVec 32 := Scalar.addi c0_i32_1596 v1400
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1597 : BitVec 32 := 4#32
  let v1402 : BitVec 32 := Scalar.muli v5 c4_i32_1597
  let v1403 : BitVec 32 := Scalar.addi v1401 v1402
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_1598 : BitVec 32 := 1#32
  let v1404 : BitVec 32 := Scalar.muli v23 c1_i32_1598
  let v1405 : BitVec 32 := Scalar.addi v1403 v1404
  v1405.toNat
def k0_dev38 (d0 : Dev nD) : Nat :=
  let c0_i32_1612 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_1611 : BitVec 32 := 16#32
  let v1414 : BitVec 32 := Scalar.muli v28 c16_i32_1611
  let v1415 : BitVec 32 := Scalar.addi c0_i32_1612 v1414
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1613 : BitVec 32 := 4#32
  let v1416 : BitVec 32 := Scalar.muli v5 c4_i32_1613
  let v1417 : BitVec 32 := Scalar.addi v1415 v1416
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_1614 : BitVec 32 := 1#32
  let v1418 : BitVec 32 := Scalar.muli v31 c1_i32_1614
  let v1419 : BitVec 32 := Scalar.addi v1417 v1418
  v1419.toNat
def k0_dev39 (d0 : Dev nD) : Nat :=
  let c0_i32_1686 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_1685 : BitVec 32 := 16#32
  let v1474 : BitVec 32 := Scalar.muli v20 c16_i32_1685
  let v1475 : BitVec 32 := Scalar.addi c0_i32_1686 v1474
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1687 : BitVec 32 := 4#32
  let v1476 : BitVec 32 := Scalar.muli v5 c4_i32_1687
  let v1477 : BitVec 32 := Scalar.addi v1475 v1476
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_1688 : BitVec 32 := 1#32
  let v1478 : BitVec 32 := Scalar.muli v23 c1_i32_1688
  let v1479 : BitVec 32 := Scalar.addi v1477 v1478
  v1479.toNat
def k0_dev40 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_1701 : BitVec 32 := 16#32
  let v1488 : BitVec 32 := Scalar.muli v28 c16_i32_1701
  let v1489 : BitVec 32 := Scalar.addi c0_i32_1702 v1488
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1703 : BitVec 32 := 4#32
  let v1490 : BitVec 32 := Scalar.muli v5 c4_i32_1703
  let v1491 : BitVec 32 := Scalar.addi v1489 v1490
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_1704 : BitVec 32 := 1#32
  let v1492 : BitVec 32 := Scalar.muli v31 c1_i32_1704
  let v1493 : BitVec 32 := Scalar.addi v1491 v1492
  v1493.toNat
def k0_dev41 (d0 : Dev nD) : Nat :=
  let c0_i32_1776 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_1775 : BitVec 32 := 16#32
  let v1548 : BitVec 32 := Scalar.muli v20 c16_i32_1775
  let v1549 : BitVec 32 := Scalar.addi c0_i32_1776 v1548
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1777 : BitVec 32 := 4#32
  let v1550 : BitVec 32 := Scalar.muli v5 c4_i32_1777
  let v1551 : BitVec 32 := Scalar.addi v1549 v1550
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_1778 : BitVec 32 := 1#32
  let v1552 : BitVec 32 := Scalar.muli v23 c1_i32_1778
  let v1553 : BitVec 32 := Scalar.addi v1551 v1552
  v1553.toNat
def k0_dev42 (d0 : Dev nD) : Nat :=
  let c0_i32_1792 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_1791 : BitVec 32 := 16#32
  let v1562 : BitVec 32 := Scalar.muli v28 c16_i32_1791
  let v1563 : BitVec 32 := Scalar.addi c0_i32_1792 v1562
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1793 : BitVec 32 := 4#32
  let v1564 : BitVec 32 := Scalar.muli v5 c4_i32_1793
  let v1565 : BitVec 32 := Scalar.addi v1563 v1564
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_1794 : BitVec 32 := 1#32
  let v1566 : BitVec 32 := Scalar.muli v31 c1_i32_1794
  let v1567 : BitVec 32 := Scalar.addi v1565 v1566
  v1567.toNat
def k0_dev43 (d0 : Dev nD) : Nat :=
  let c0_i32_1866 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c1_i32_7 : BitVec 32 := 1#32
  let v17 : BitVec 32 := Scalar.addi v16 c1_i32_7
  let c8_i32 : BitVec 32 := 8#32
  let v18 : BitVec 32 := Scalar.remsi v17 c8_i32
  let c4_i32_8 : BitVec 32 := 4#32
  let v19 : BitVec 1 := Scalar.cmpi .slt v18 c4_i32_8
  let c0_i32_9 : BitVec 32 := 0#32
  let c1_i32_10 : BitVec 32 := 1#32
  let v20 : BitVec 32 := Scalar.select v19 c0_i32_9 c1_i32_10
  let c16_i32_1865 : BitVec 32 := 16#32
  let v1622 : BitVec 32 := Scalar.muli v20 c16_i32_1865
  let v1623 : BitVec 32 := Scalar.addi c0_i32_1866 v1622
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1867 : BitVec 32 := 4#32
  let v1624 : BitVec 32 := Scalar.muli v5 c4_i32_1867
  let v1625 : BitVec 32 := Scalar.addi v1623 v1624
  let c4_i32_11 : BitVec 32 := 4#32
  let v21 : BitVec 1 := Scalar.cmpi .slt v18 c4_i32_11
  let c7_i32_12 : BitVec 32 := 7#32
  let v22 : BitVec 32 := Scalar.subi c7_i32_12 v18
  let v23 : BitVec 32 := Scalar.select v21 v18 v22
  let c1_i32_1868 : BitVec 32 := 1#32
  let v1626 : BitVec 32 := Scalar.muli v23 c1_i32_1868
  let v1627 : BitVec 32 := Scalar.addi v1625 v1626
  v1627.toNat
def k0_dev44 (d0 : Dev nD) : Nat :=
  let c0_i32_1882 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v14 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v15 : BitVec 32 := Scalar.subi c7_i32 v8
  let v16 : BitVec 32 := Scalar.select v14 v8 v15
  let c8_i32_13 : BitVec 32 := 8#32
  let v24 : BitVec 32 := Scalar.addi v16 c8_i32_13
  let c1_i32_14 : BitVec 32 := 1#32
  let v25 : BitVec 32 := Scalar.subi v24 c1_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c0_i32_17 : BitVec 32 := 0#32
  let c1_i32_18 : BitVec 32 := 1#32
  let v28 : BitVec 32 := Scalar.select v27 c0_i32_17 c1_i32_18
  let c16_i32_1881 : BitVec 32 := 16#32
  let v1636 : BitVec 32 := Scalar.muli v28 c16_i32_1881
  let v1637 : BitVec 32 := Scalar.addi c0_i32_1882 v1636
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1883 : BitVec 32 := 4#32
  let v1638 : BitVec 32 := Scalar.muli v5 c4_i32_1883
  let v1639 : BitVec 32 := Scalar.addi v1637 v1638
  let c4_i32_19 : BitVec 32 := 4#32
  let v29 : BitVec 1 := Scalar.cmpi .slt v26 c4_i32_19
  let c7_i32_20 : BitVec 32 := 7#32
  let v30 : BitVec 32 := Scalar.subi c7_i32_20 v26
  let v31 : BitVec 32 := Scalar.select v29 v26 v30
  let c1_i32_1884 : BitVec 32 := 1#32
  let v1640 : BitVec 32 := Scalar.muli v31 c1_i32_1884
  let v1641 : BitVec 32 := Scalar.addi v1639 v1640
  v1641.toNat
-- ==== ReferenceIdeal.lean ====
abbrev S65536x1024 : Shape := ⟨2, ![65536, 1024]⟩
abbrev S4x16384x1024 : Shape := ⟨3, ![4, 16384, 1024]⟩
abbrev S_ : Shape := ⟨0, ![]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4x16384x1024, .f32⟩
  | .hbm, ⟨2, _⟩ => ⟨S_, .f32⟩
  | .hbm, ⟨3, _⟩ => ⟨S16384x1024, .f32⟩
  | .hbm, ⟨4, _⟩ => ⟨S16384x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Basic.lean ====
/- The mesh, the buffers' slots, the semaphores and the contents of the all-reduce.

The mesh has 32 devices; device `c` has the coordinates `x = c / 16`, `y = c / 4 % 4` and `z = c % 4`. The eight
devices of one `y` form a ring, `pos c` being `c`'s place on it; `yl`, `yr` are `c`'s neighbours along `y`, `pv`,
`nx` its neighbours on the ring. Three families of transfers run: `a`, the reduction along `y`, to `yr`; `w`, the
ring gather to `nx`; `v`, the ring gather to `pv`. A LANE is a family, a channel (0 or 1) and a hop. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-! ## Devices -/

/-- The place of a device on its ring, from its number. -/
abbrev posN (d : ℕ) : ℕ := if d / 16 = 0 then d % 4 else 7 - d % 4
/-- The place of a device on its ring. -/
def pos (c : Dev nD) : ℕ := posN c.val
/-- The device's coordinate along `y`. -/
def yc (c : Dev nD) : ℕ := c.val / 4 % 4
/-- The number of the device at place `P` of the ring of coordinate `Y`. -/
abbrev devN (P Y : ℕ) : ℕ := 16 * (if P < 4 then 0 else 1) + 4 * Y + (if P < 4 then P else 7 - P)

theorem pos_lt (c : Dev nD) : pos c < 8 := by unfold pos posN; split <;> omega
theorem yc_lt (c : Dev nD) : yc c < 4 := Nat.mod_lt _ (by decide)

theorem devN_lt {P Y : ℕ} (hP : P < 8) (hY : Y < 4) : devN P Y < nD := by
  unfold devN; show _ < 32; split <;> omega

/-- The device at place `P` of the ring of coordinate `Y`. -/
def devAt (P Y : ℕ) : Dev nD := ⟨devN (P % 8) (Y % 4), devN_lt (Nat.mod_lt _ (by decide)) (Nat.mod_lt _ (by decide))⟩

set_option backward.proofsInPublic true in
def yl (c : Dev nD) : Dev nD := ⟨16 * (c.val / 16) + 4 * (((c.val / 4) % 4 + 3) % 4) + c.val % 4, by have := c.isLt; show _ < 32; have : c.val < 32 := this; omega⟩
set_option backward.proofsInPublic true in
def yr (c : Dev nD) : Dev nD := ⟨16 * (c.val / 16) + 4 * (((c.val / 4) % 4 + 1) % 4) + c.val % 4, by have := c.isLt; show _ < 32; have : c.val < 32 := this; omega⟩
set_option backward.proofsInPublic true in
def nx (c : Dev nD) : Dev nD := ⟨devN ((posN c.val + 1) % 8) ((c.val / 4) % 4), devN_lt (Nat.mod_lt _ (by decide)) (Nat.mod_lt _ (by decide))⟩
set_option backward.proofsInPublic true in
def pv (c : Dev nD) : Dev nD := ⟨devN ((posN c.val + 7) % 8) ((c.val / 4) % 4), devN_lt (Nat.mod_lt _ (by decide)) (Nat.mod_lt _ (by decide))⟩

theorem yl_yr (c : Dev nD) : yl (yr c) = c := by revert c; decide +kernel
theorem yr_yl (c : Dev nD) : yr (yl c) = c := by revert c; decide +kernel
theorem pv_nx (c : Dev nD) : pv (nx c) = c := by revert c; decide +kernel
theorem nx_pv (c : Dev nD) : nx (pv c) = c := by revert c; decide +kernel

/-! ## Families of transfers -/

/-- `a`: the reduction along `y`; `w`: the gather around the ring, upward; `v`: downward. -/
inductive Fam | a | w | v

instance : DecidableEq Fam := fun f g => match f, g with
  | .a, .a | .w, .w | .v, .v => isTrue rfl
  | .a, .w | .a, .v | .w, .a | .w, .v | .v, .a | .v, .w => isFalse Fam.noConfusion

/-- Hops per channel. -/
def Fam.len : Fam → ℕ | .a => 6 | .w => 7 | .v => 7
/-- Whom a device sends to. -/
def Fam.tgt : Fam → Dev nD → Dev nD | .a => yr | .w => nx | .v => pv
/-- Whom a device receives from. -/
def Fam.src : Fam → Dev nD → Dev nD | .a => yl | .w => pv | .v => nx
/-- A slot's shape. -/
abbrev Fam.sh : Fam → Shape | .a => S256x1024 | .w => S512x1024 | .v => S512x1024

theorem src_tgt (f : Fam) (c : Dev nD) : f.src (f.tgt c) = c := by
  cases f <;> [exact yl_yr c; exact pv_nx c; exact nx_pv c]
theorem tgt_src (f : Fam) (c : Dev nD) : f.tgt (f.src c) = c := by
  cases f <;> [exact yr_yl c; exact nx_pv c; exact pv_nx c]

/-- The first send semaphore of a channel of a family, and the first receive semaphore. -/
def Fam.sBase (f : Fam) (ch : ℕ) : ℕ := match f with | .a => 34 + 6 * ch | .w => 58 + 7 * ch | .v => 86 + 7 * ch
def Fam.rBase (f : Fam) (ch : ℕ) : ℕ := match f with | .a => 46 + 6 * ch | .w => 72 + 7 * ch | .v => 100 + 7 * ch

/-- The DMA semaphore of a number. -/
def dsem (n : ℕ) : DmaSem sig := ⟨n % 114, Nat.mod_lt _ (by decide)⟩

abbrev tcell (c : Dev nD) (n : ℕ) : GSem nD τ sig := ((c : Thread nD τ), .dma (dsem n))
abbrev sCell (f : Fam) (c : Dev nD) (ch h : ℕ) : GSem nD τ sig := tcell c (f.sBase ch + h)
abbrev rCell (f : Fam) (c : Dev nD) (ch h : ℕ) : GSem nD τ sig := tcell c (f.rBase ch + h)

/-- The barrier semaphore all kernels of the program share. -/
abbrev barS : Sem sig := (SemArray.scalar (sig.barrier 0 rfl) : Sems sig S_).sem
abbrev barCell (c : Dev nD) : GSem nD τ sig := ((c : Thread nD τ), .reg barS)

/-! ## Buffers and slots -/

abbrev xM : Memref sig .tc .hbm S16384x1024 .f32 := Memref.whole main_arg0
abbrev oM : Memref sig .tc .hbm S16384x1024 .bf16 := Memref.whole main_v1
abbrev aM : Memref sig .tc .vmem S2x7x256x1024 .bf16 := Memref.whole cc0_scratch0
abbrev wM : Memref sig .tc .vmem S2x8x512x1024 .bf16 := Memref.whole cc0_scratch1
abbrev vM : Memref sig .tc .vmem S2x8x512x1024 .bf16 := Memref.whole cc0_scratch2
abbrev bM : Memref sig .tc .vmem S2x256x1024 .f32 := Memref.whole cc0_scratch3

theorem inbA (ch j : ℕ) : ∀ a, (![ch % 2, j % 7, 0, 0] : Fin 4 → ℕ) a + S1x1x256x1024.size a ≤ S2x7x256x1024.size a := by
  have h1 : ch % 2 < 2 := Nat.mod_lt _ (by decide)
  have h2 : j % 7 < 7 := Nat.mod_lt _ (by decide)
  intro a; fin_cases a
  · show ch % 2 + 1 ≤ 2; omega
  · show j % 7 + 1 ≤ 7; omega
  · show 0 + 256 ≤ 256; omega
  · show 0 + 1024 ≤ 1024; omega
theorem inbB (ch j : ℕ) : ∀ a, (![ch % 2, j % 8, 0, 0] : Fin 4 → ℕ) a + S1x1x512x1024.size a ≤ S2x8x512x1024.size a := by
  have h1 : ch % 2 < 2 := Nat.mod_lt _ (by decide)
  have h2 : j % 8 < 8 := Nat.mod_lt _ (by decide)
  intro a; fin_cases a
  · show ch % 2 + 1 ≤ 2; omega
  · show j % 8 + 1 ≤ 8; omega
  · show 0 + 512 ≤ 512; omega
  · show 0 + 1024 ≤ 1024; omega
theorem inbH (ch s : ℕ) : ∀ a, (![ch % 2, 0, 256 * (s % 2), 0] : Fin 4 → ℕ) a + S1x1x256x1024.size a ≤ S2x8x512x1024.size a := by
  have h1 : ch % 2 < 2 := Nat.mod_lt _ (by decide)
  have h2 : s % 2 < 2 := Nat.mod_lt _ (by decide)
  intro a; fin_cases a
  · show ch % 2 + 1 ≤ 2; omega
  · show 0 + 1 ≤ 8; omega
  · show 256 * (s % 2) + 256 ≤ 512; omega
  · show 0 + 1024 ≤ 1024; omega
theorem inbX (b : ℕ) : ∀ a, (![b % 2, 0, 0] : Fin 3 → ℕ) a + S1x256x1024.size a ≤ S2x256x1024.size a := by
  have h1 : b % 2 < 2 := Nat.mod_lt _ (by decide)
  intro a; fin_cases a
  · show b % 2 + 1 ≤ 2; omega
  · show 0 + 256 ≤ 256; omega
  · show 0 + 1024 ≤ 1024; omega
theorem inbO (q : ℕ) : ∀ a, (![512 * (q % 32), 0] : Fin 2 → ℕ) a + S512x1024.size a ≤ S16384x1024.size a := by
  have h1 : q % 32 < 32 := Nat.mod_lt _ (by decide)
  intro a; fin_cases a
  · show 512 * (q % 32) + 512 ≤ 16384; omega
  · show 0 + 1024 ≤ 1024; omega
theorem inbI (q : ℕ) : ∀ a, (![256 * (q % 64), 0] : Fin 2 → ℕ) a + S256x1024.size a ≤ S16384x1024.size a := by
  have h1 : q % 64 < 64 := Nat.mod_lt _ (by decide)
  intro a; fin_cases a
  · show 256 * (q % 64) + 256 ≤ 16384; omega
  · show 0 + 1024 ≤ 1024; omega

/-- Slot `j` of channel `ch`, as the rectangle of its buffer. -/
abbrev rA (ch j : ℕ) : Rect S2x7x256x1024 := Rect.unit (s := S2x7x256x1024) ![ch % 2, j % 7, 0, 0] S1x1x256x1024.size (inbA ch j)
abbrev rB (ch j : ℕ) : Rect S2x8x512x1024 := Rect.unit (s := S2x8x512x1024) ![ch % 2, j % 8, 0, 0] S1x1x512x1024.size (inbB ch j)
/-- A half of slot 0 of channel `ch`: 256 of its rows. -/
abbrev rH (ch s : ℕ) : Rect S2x8x512x1024 := Rect.unit (s := S2x8x512x1024) ![ch % 2, 0, 256 * (s % 2), 0] S1x1x256x1024.size (inbH ch s)
abbrev rX (b : ℕ) : Rect S2x256x1024 := Rect.unit (s := S2x256x1024) ![b % 2, 0, 0] S1x256x1024.size (inbX b)
/-- Rows `512 q …` of the result, and rows `256 q …` of the operand. -/
abbrev rO (q : ℕ) : Rect S16384x1024 := Rect.unit (s := S16384x1024) ![512 * (q % 32), 0] S512x1024.size (inbO q)
abbrev rI (q : ℕ) : Rect S16384x1024 := Rect.unit (s := S16384x1024) ![256 * (q % 64), 0] S256x1024.size (inbI q)

/-- A slot of a family's buffer. -/
def slot : (f : Fam) → ℕ → ℕ → Memref sig .tc .vmem f.sh .bf16
  | .a, ch, j => (aM.slice (rA ch j) (fun _ => rfl)).squeeze S256x1024 squeezes_S1x1x256x1024_S256x1024
  | .w, ch, j => (wM.slice (rB ch j) (fun _ => rfl)).squeeze S512x1024 squeezes_S1x1x512x1024_S512x1024
  | .v, ch, j => (vM.slice (rB ch j) (fun _ => rfl)).squeeze S512x1024 squeezes_S1x1x512x1024_S512x1024

/-- The buffer of a ring gather's family. -/
def bufM : Fam → Memref sig .tc .vmem S2x8x512x1024 .bf16 | .v => vM | _ => wM

/-- A half of slot 0 of a ring gather's buffer. -/
def half (f : Fam) (ch s : ℕ) : Memref sig .tc .vmem S256x1024 .bf16 :=
  ((bufM f).slice (rH ch s) (fun _ => rfl)).squeeze S256x1024 squeezes_S1x1x256x1024_S256x1024

/-- A slot of a ring gather's buffer: upward for an even number, downward for an odd one. -/
def bslot (n ch j : ℕ) : Memref sig .tc .vmem S512x1024 .bf16 := if n % 2 = 0 then slot .w ch j else slot .v ch j

/-- A load buffer. -/
def xbuf (b : ℕ) : Memref sig .tc .vmem S256x1024 .f32 :=
  (bM.slice (rX b) (fun _ => rfl)).squeeze S256x1024 squeezes_S1x256x1024_S256x1024

/-- Window `q` of the result: its rows `512 q …`. -/
def oWin (q : ℕ) : Memref sig .tc .hbm S512x1024 .bf16 := oM.slice (rO q) (fun _ => rfl)

/-- A copy's credit on a lane of a family. -/
def Fam.N (f : Fam) : ℕ := (slot f 0 0).view.dmaCredit
theorem N_pos (f : Fam) : 0 < f.N := View.dmaCredit_pos _ (by cases f <;> decide)
theorem credit_slot (f : Fam) (ch j : ℕ) : (slot f ch j).view.dmaCredit = f.N := by cases f <;> rfl

/-! ## Contents -/

/-- The operand a device holds. -/
abbrev Arg : Type := (c : Dev nD) → S16384x1024.Idx → Elt F .f32

variable (X : Arg (F := F))

/-- Sub-block `sb` of channel `ch` of the column block device `c` reduces, as device `c` holds it. -/
def xl (c : Dev nD) (ch sb : ℕ) : S256x1024.Idx → Elt F .f32 :=
  fun i => X c ((rI (8 * pos c + 4 * (ch % 2) + sb % 4)).emb i)

/-- What slot `j` of channel `ch` of the reduction's buffer holds at device `c` when the device sends it on (or, slot
    6, when it is read at the end): the sum, in hop order, of the blocks met so far. -/
def av (ch : ℕ) : ℕ → Dev nD → S256x1024.Idx → Elt F .bf16
  | 0, c => truncf (F := F) .bf16 (xl X c ch (yc c)) bitsLt_bf16_f32
  | h + 1, c =>
    if h < 3 then truncf (F := F) .bf16 (addf (extf (F := F) .f32 (av ch h (yl c)) bitsLt_bf16_f32) (xl X c ch (yc c + 3 - h))) bitsLt_bf16_f32
    else av ch h (yl c)

/-- The slot in which sub-block `sb` arrives complete at device `c`. -/
def slotOf (c : Dev nD) (sb : ℕ) : ℕ := 3 + (yc c + 5 - sb) % 4

/-- The complete sub-block `sb`. -/
def full (c : Dev nD) (ch sb : ℕ) : S256x1024.Idx → Elt F .bf16 := av X ch (slotOf c sb) c

/-- The row within a sub-block, of a row of a half block. -/
def lowIdx (i : S512x1024.Idx) : S256x1024.Idx := fun a => match a with
  | ⟨0, _⟩ => (⟨(i 0).val % 256, Nat.mod_lt _ (by decide)⟩ : Fin 256)
  | ⟨1, _⟩ => (i 1 : Fin 1024)

/-- The half block a device starts the ring gathers with: upward the sub-blocks 0 and 1, downward 2 and 3. -/
def ring0 (f : Fam) (c : Dev nD) (ch : ℕ) : S512x1024.Idx → Elt F .bf16 :=
  fun i => full X c ch ((if f = .v then 2 else 0) + (i 0).val / 256) (lowIdx i)

/-- What slot `j` of channel `ch` of a family's buffer holds when it is sent. -/
def lv : (f : Fam) → (ch j : ℕ) → Dev nD → f.sh.Idx → Elt F .bf16
  | .a, ch, j, c => av X ch j c
  | .w, ch, j, c => ring0 X .w (pv^[j] c) ch
  | .v, ch, j, c => ring0 X .v (nx^[j] c) ch

/-- What slot `j` of a ring gather's buffer holds: upward for an even number, downward for an odd one. -/
def bval (n ch j : ℕ) (c : Dev nD) : S512x1024.Idx → Elt F .bf16 := if n % 2 = 0 then lv X .w ch j c else lv X .v ch j c

/-- The window of the result that store `n` of channel `ch` writes. -/
def qOf (c : Dev nD) (ch n : ℕ) : ℕ :=
  if n % 2 = 0 then 4 * ((pos c + 8 - n / 2) % 8) + 2 * (ch % 2) else 4 * ((pos c + n / 2) % 8) + 2 * (ch % 2) + 1

/-- What lands in slot `h + 1` at hop `h`. -/
def landed (f : Fam) (ch h : ℕ) (c : Dev nD) : f.sh.Idx → Elt F .bf16 := lv X f ch h (f.src c)

theorem landed_w (ch h : ℕ) (c : Dev nD) : landed X .w ch h c = lv X .w ch (h + 1) c := rfl
theorem landed_v (ch h : ℕ) (c : Dev nD) : landed X .v ch h c = lv X .v ch (h + 1) c := rfl
theorem landed_a {ch h : ℕ} (hh : 3 ≤ h) (c : Dev nD) : landed X .a ch h c = lv X .a ch (h + 1) c := by
  show av X ch h (yl c) = av X ch (h + 1) c
  rw [av, if_neg (by omega)]

end Cert.RingProof

end
-- ==== Proof.Sched.lean ====
/- The protocol: for each semaphore that several devices share, who pays it, how much, and what the payment hands over.

A lane's send semaphore is paid by the copy itself and hands the source back; its receive semaphore is paid by the
neighbour's copy and hands over the slot it landed in, holding what the neighbour sent. The barrier semaphore is paid one
unit by each of four neighbours; three of them hand over the slots this device's copies will land in. -/
module

public import proofs.«01_k».proof.Proof.Basic

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## Reading a semaphore's number -/

/-- What the DMA semaphore of a number serves: whether it is a receive semaphore, its family, channel and hop. -/
def decode (n : ℕ) : Option (Bool × Fam × ℕ × ℕ) :=
  if n < 34 then none
  else if n < 46 then some (false, .a, (n - 34) / 6, (n - 34) % 6)
  else if n < 58 then some (true, .a, (n - 46) / 6, (n - 46) % 6)
  else if n < 72 then some (false, .w, (n - 58) / 7, (n - 58) % 7)
  else if n < 86 then some (true, .w, (n - 72) / 7, (n - 72) % 7)
  else if n < 100 then some (false, .v, (n - 86) / 7, (n - 86) % 7)
  else some (true, .v, (n - 100) / 7, (n - 100) % 7)

theorem sBase_lt {f : Fam} {ch h : ℕ} (hc : ch < 2) (hh : h < f.len) : 34 ≤ f.sBase ch + h ∧ f.sBase ch + h < 114 := by
  cases f <;> simp only [Fam.sBase, Fam.len] at * <;> omega
theorem rBase_lt {f : Fam} {ch h : ℕ} (hc : ch < 2) (hh : h < f.len) : 34 ≤ f.rBase ch + h ∧ f.rBase ch + h < 114 := by
  cases f <;> simp only [Fam.rBase, Fam.len] at * <;> omega

theorem decode_s {f : Fam} {ch h : ℕ} (hc : ch < 2) (hh : h < f.len) : decode (f.sBase ch + h) = some (false, f, ch, h) := by
  have e : ch = 0 ∨ ch = 1 := by omega
  rcases e with rfl | rfl
  · have key : ∀ h < f.len, decode (f.sBase 0 + h) = some (false, f, 0, h) := by cases f <;> decide
    exact key h hh
  · have key : ∀ h < f.len, decode (f.sBase 1 + h) = some (false, f, 1, h) := by cases f <;> decide
    exact key h hh
theorem decode_r {f : Fam} {ch h : ℕ} (hc : ch < 2) (hh : h < f.len) : decode (f.rBase ch + h) = some (true, f, ch, h) := by
  have e : ch = 0 ∨ ch = 1 := by omega
  rcases e with rfl | rfl
  · have key : ∀ h < f.len, decode (f.rBase 0 + h) = some (true, f, 0, h) := by cases f <;> decide
    exact key h hh
  · have key : ∀ h < f.len, decode (f.rBase 1 + h) = some (true, f, 1, h) := by cases f <;> decide
    exact key h hh

theorem dsem_val {n : ℕ} (h : n < 114) : (dsem n).val = n := Nat.mod_eq_of_lt h
theorem decode_low {n : ℕ} (h : n < 34) : decode (dsem n).val = none := by rw [dsem_val (by omega)]; exact if_pos h

/-! ## The lanes in the order the program sends on them -/

abbrev Lane : Type := Fam × ℕ × ℕ

/-- A lane's place in that order. -/
def lpos : Fam → ℕ → ℕ → ℕ
  | .a, 0, h => h
  | .a, _, h => 8 + 3 * h
  | .w, 0, h => 6 + 3 * h
  | .v, 0, h => 7 + 3 * h
  | .w, _, h => 26 + 2 * h
  | .v, _, h => 27 + 2 * h

/-- The lanes in that order: channel 0's reduction; then channel 1's beside channel 0's gathers; then channel 1's gathers. -/
def sends : List Lane :=
  (List.range 6).map (fun h => (.a, 0, h)) ++ [(.w, 0, 0), (.v, 0, 0)]
    ++ (List.range 6).flatMap (fun k => [(.a, 1, k), (.w, 0, k + 1), (.v, 0, k + 1)])
    ++ (List.range 7).flatMap (fun k => [(.w, 1, k), (.v, 1, k)])

theorem sends_after : ∀ n < 41, ∀ x ∈ sends.drop n, n ≤ lpos x.1 x.2.1 x.2.2 ∧ x.2.1 < 2 ∧ x.2.2 < x.1.len := by decide +kernel

/-! ## The schedule -/

variable (X : Arg (F := F))

/-- A device's slots that a family's copies land in. -/
def landSlots (f : Fam) (c : Dev nD) : sProp 𝕄 :=
  bigSep (Finset.Ico 0 2) fun ch => bigSep (Finset.Ico 0 f.len) fun h =>
    iprop(∃ Y, owns (c : Thread nD τ) (slot f ch (h + 1)) fullShare Y)

/-- What a unit of the barrier hands over, by who pays it: `yr c` hands the slots of the reduction it lets `c` write,
    `pv c` those of the downward gather, `nx c` those of the upward one; `yl c` hands nothing. -/
def barPay (c : Dev nD) : Fin 4 → sProp 𝕄
  | 0 => landSlots .a (yr c)
  | 1 => iprop(emp)
  | 2 => landSlots .v (pv c)
  | 3 => landSlots .w (nx c)

/-- What a lane's semaphore hands over. -/
def lanePay (c : Dev nD) : Option (Bool × Fam × ℕ × ℕ) → sProp 𝕄
  | none => iprop(emp)
  | some (false, f, ch, h) => owns (c : Thread nD τ) (slot f ch h) fullShare.left (lv X f ch h c)
  | some (true, f, ch, h) => owns (c : Thread nD τ) (slot f ch (h + 1)) fullShare (landed X f ch h c)

/-- The credit of a copy on a lane. -/
def laneN : Option (Bool × Fam × ℕ × ℕ) → ℕ
  | none => 1
  | some (_, f, _, _) => f.N

/-- The duties of a semaphore. -/
def semDuties : SemLoc sig → Finset (Fin 4)
  | .reg s => if s = barS then Finset.univ else ∅
  | .dma q => if (decode q.val).isSome then {0} else ∅

def semAmount : SemLoc sig → ℕ
  | .reg _ => 1
  | .dma q => laneN (decode q.val)

def semPay (c : Dev nD) (sm : SemLoc sig) (d : Fin 4) : sProp 𝕄 :=
  match sm with
  | .reg s => if s = barS then barPay c d else iprop(emp)
  | .dma q => lanePay X c (decode q.val)

/-- One round. -/
def Rd : Rounds.Schedule (GSem nD τ sig) (Fin 4) 𝕄 where
  duties g r := if r = 0 ∧ g.1.2 = .tc then semDuties g.2 else ∅
  unitless _ := False
  amount g _ _ := semAmount g.2
  payload g _ d := semPay X g.1.1 g.2 d
  amount_pos g _ _ _ := by
    obtain ⟨-, sm⟩ := g
    cases sm with
    | reg s => exact Nat.one_pos
    | dma q =>
      show 0 < laneN (decode q.val)
      rcases decode q.val with _ | ⟨_, f, _, _⟩
      · exact Nat.one_pos
      · exact N_pos f

instance landSlots_storable (f : Fam) (c : Dev nD) : BI.Storable (upEmb : UEmb _ 𝕄) (landSlots (F := F) f c) := by
  unfold landSlots; infer_instance
instance barPay_storable (c : Dev nD) (d : Fin 4) : BI.Storable (upEmb : UEmb _ 𝕄) (barPay (F := F) c d) := by
  fin_cases d <;> unfold barPay <;> infer_instance
instance lanePay_storable (c : Dev nD) (o : Option (Bool × Fam × ℕ × ℕ)) : BI.Storable (upEmb : UEmb _ 𝕄) (lanePay X c o) := by
  rcases o with _ | ⟨_ | _, f, ch, h⟩ <;> unfold lanePay <;> infer_instance
instance semPay_storable (c : Dev nD) (sm : SemLoc sig) (d : Fin 4) : BI.Storable (upEmb : UEmb _ 𝕄) (semPay X c sm d) := by
  cases sm with
  | reg s => unfold semPay; dsimp only; split <;> infer_instance
  | dma q => unfold semPay; infer_instance
instance Rd_payload_storable (g : GSem nD τ sig) (r : ℕ) (d : Fin 4) : BI.Storable (upEmb : UEmb _ 𝕄) ((Rd X).payload g r d) :=
  semPay_storable X g.1.1 g.2 d

theorem duties_later (g : GSem nD τ sig) : ∀ r, 1 ≤ r → (Rd X).duties g r = ∅ := fun r hr => if_neg fun h => by omega

section Lanes
variable {f : Fam} {ch h : ℕ} (hc : ch < 2) (hh : h < f.len) (c : Dev nD)
include hc hh

theorem dec_s : decode (dsem (f.sBase ch + h)).val = some (false, f, ch, h) := by
  rw [dsem_val (sBase_lt hc hh).2, decode_s hc hh]
theorem dec_r : decode (dsem (f.rBase ch + h)).val = some (true, f, ch, h) := by
  rw [dsem_val (rBase_lt hc hh).2, decode_r hc hh]

theorem duties_s : (Rd X).duties (sCell f c ch h) 0 = {0} := by
  show (if (0 : ℕ) = 0 ∧ (c : Thread nD τ).2 = .tc then semDuties (.dma (dsem (f.sBase ch + h))) else ∅) = _
  rw [if_pos ⟨rfl, rfl⟩]; unfold semDuties; dsimp only; rw [dec_s hc hh]; rfl
theorem duties_r : (Rd X).duties (rCell f c ch h) 0 = {0} := by
  show (if (0 : ℕ) = 0 ∧ (c : Thread nD τ).2 = .tc then semDuties (.dma (dsem (f.rBase ch + h))) else ∅) = _
  rw [if_pos ⟨rfl, rfl⟩]; unfold semDuties; dsimp only; rw [dec_r hc hh]; rfl
theorem amount_s (d : Fin 4) : (Rd X).amount (sCell f c ch h) 0 d = f.N := by
  show laneN (decode (dsem (f.sBase ch + h)).val) = _; rw [dec_s hc hh]; rfl
theorem amount_r (d : Fin 4) : (Rd X).amount (rCell f c ch h) 0 d = f.N := by
  show laneN (decode (dsem (f.rBase ch + h)).val) = _; rw [dec_r hc hh]; rfl
theorem expect_s : (Rd X).expect (sCell f c ch h) 0 = f.N := by
  unfold Schedule.expect Schedule.amountOf; rw [duties_s X hc hh, Finset.sum_singleton, amount_s X hc hh]
theorem expect_r : (Rd X).expect (rCell f c ch h) 0 = f.N := by
  unfold Schedule.expect Schedule.amountOf; rw [duties_r X hc hh, Finset.sum_singleton, amount_r X hc hh]
theorem payload_s (d : Fin 4) : (Rd X).payload (sCell f c ch h) 0 d
    = owns (c : Thread nD τ) (slot f ch h) fullShare.left (lv X f ch h c) := by
  show lanePay X c (decode (dsem (f.sBase ch + h)).val) = _; rw [dec_s hc hh]; rfl
theorem payload_r (d : Fin 4) : (Rd X).payload (rCell f c ch h) 0 d
    = owns (c : Thread nD τ) (slot f ch (h + 1)) fullShare (landed X f ch h c) := by
  show lanePay X c (decode (dsem (f.rBase ch + h)).val) = _; rw [dec_r hc hh]; rfl
theorem rest_s : bigSep ((Rd X).duties (sCell f c ch h) 0 \ ∅) (fun d => (Rd X).payload (sCell f c ch h) 0 d)
    = owns (c : Thread nD τ) (slot f ch h) fullShare.left (lv X f ch h c) := by
  rw [Finset.sdiff_empty, duties_s X hc hh, bigSep_singleton, payload_s X hc hh]
theorem rest_r : bigSep ((Rd X).duties (rCell f c ch h) 0 \ ∅) (fun d => (Rd X).payload (rCell f c ch h) 0 d)
    = owns (c : Thread nD τ) (slot f ch (h + 1)) fullShare (landed X f ch h c) := by
  rw [Finset.sdiff_empty, duties_r X hc hh, bigSep_singleton, payload_r X hc hh]

end Lanes

section Bar
variable (c : Dev nD)

theorem duties_bar : (Rd X).duties (barCell c) 0 = Finset.univ := by
  show (if (0 : ℕ) = 0 ∧ (c : Thread nD τ).2 = .tc then semDuties (.reg barS) else ∅) = _
  rw [if_pos ⟨rfl, rfl⟩]; show (if barS = barS then Finset.univ else ∅) = _; exact if_pos rfl
theorem amount_bar (d : Fin 4) : (Rd X).amount (barCell c) 0 d = 1 := rfl
theorem expect_bar : (Rd X).expect (barCell c) 0 = 4 := by
  unfold Schedule.expect Schedule.amountOf
  rw [duties_bar, Finset.sum_congr rfl fun d _ => amount_bar X c d, Finset.sum_const, Finset.card_univ, Fintype.card_fin, smul_eq_mul]
theorem payload_bar (d : Fin 4) : (Rd X).payload (barCell c) 0 d = barPay c d := by
  show (if barS = barS then barPay c d else iprop(emp)) = _; exact if_pos rfl
theorem rest_bar : bigSep ((Rd X).duties (barCell c) 0 \ ∅) (fun d => (Rd X).payload (barCell c) 0 d)
    = iprop(landSlots .a (yr c) ∗ emp ∗ landSlots .v (pv c) ∗ landSlots .w (nx c)) := by
  rw [Finset.sdiff_empty, duties_bar, bigSep_univ_eq_bigSepL [0, 1, 2, 3] (by decide) (by decide)]
  simp only [bigSepL_cons_cons, bigSepL_singleton, payload_bar]
  rfl

end Bar

/-! ## What a device owes -/

/-- The copies a device still owes: on each lane its target's receive semaphore, the lane's credit. -/
def oweL (c : Dev nD) : List Lane → CellTallies nD τ sig Unit
  | [] => 0
  | x :: l => oweL c l + tallyAt (rCell x.1 (x.1.tgt c) x.2.1 x.2.2) () x.1.N

def oweAt (c : Dev nD) (n : ℕ) : CellTallies nD τ sig Unit := oweL c (sends.drop n)

/-- At launch: all the copies, and a unit to each of the four neighbours' barriers, in the order they are paid. -/
def oweB3 (c : Dev nD) : CellTallies nD τ sig Unit := oweAt c 0 + tallyAt (barCell (pv c)) () 1
def oweB2 (c : Dev nD) : CellTallies nD τ sig Unit := oweB3 c + tallyAt (barCell (nx c)) () 1
def oweB1 (c : Dev nD) : CellTallies nD τ sig Unit := oweB2 c + tallyAt (barCell (yr c)) () 1
def O₀ (c : Dev nD) : CellTallies nD τ sig Unit := oweB1 c + tallyAt (barCell (yl c)) () 1

/-! ## The levels -/

def L (g : GSem nD τ sig) : Finset Unit := if g.1.2 = .tc then {()} else ∅

def semLev : SemLoc sig → ℕ
  | .reg s => if s = barS then 1 else 0
  | .dma q => match decode q.val with
    | some (true, f, ch, h) => 2 + lpos f ch h
    | _ => 0

/-- Barriers at 1, a receive semaphore at 2 and its lane's place, everything else at 0. -/
def lev (g : GSem nD τ sig) (_ : Unit) : ℕ := semLev g.2

theorem L_of_ne (g : GSem nD τ sig) (h : g.1.2 ≠ .tc) : L g = ∅ := if_neg h
theorem L_tc (c : Dev nD) (sm : SemLoc sig) : L ((c : Thread nD τ), sm) = {()} := if_pos rfl

theorem lev_bar (c : Dev nD) : lev (barCell c) () = 1 := by
  show (if barS = barS then 1 else 0) = _; exact if_pos rfl
theorem lev_r {f : Fam} {ch h : ℕ} (hc : ch < 2) (hh : h < f.len) (c : Dev nD) : lev (rCell f c ch h) () = 2 + lpos f ch h := by
  show semLev (.dma _) = _; unfold semLev; dsimp only; rw [dec_r hc hh]
theorem lev_s {f : Fam} {ch h : ℕ} (hc : ch < 2) (hh : h < f.len) (c : Dev nD) : lev (sCell f c ch h) () = 0 := by
  show semLev (.dma _) = _; unfold semLev; dsimp only; rw [dec_s hc hh]
theorem lev_low {n : ℕ} (hn : n < 34) (c : Dev nD) : lev (tcell c n) () = 0 := by
  show semLev (.dma _) = _; unfold semLev; dsimp only; rw [decode_low hn]

theorem oweL_pos (c : Dev nD) (l : List Lane) {g : GSem nD τ sig} {u : Unit} (h : 0 < oweL c l g u) :
    ∃ x ∈ l, g = rCell x.1 (x.1.tgt c) x.2.1 x.2.2 := by
  induction l with
  | nil => exact absurd h (Nat.lt_irrefl 0)
  | cons x l ih =>
    unfold oweL at h
    rw [Pi.add_apply, Finsupp.add_apply, tallyAt_apply] at h
    by_cases hg : g = rCell x.1 (x.1.tgt c) x.2.1 x.2.2 ∧ u = ()
    · exact ⟨x, List.mem_cons_self, hg.1⟩
    · rw [if_neg hg, Nat.add_zero] at h
      obtain ⟨y, hy, e⟩ := ih h
      exact ⟨y, List.mem_cons_of_mem _ hy, e⟩

/-- Of what a device owes with `n` copies sent, every semaphore is a receive semaphore of level at least `2 + n`. -/
theorem oweAt_pos (c : Dev nD) {n : ℕ} (hn : n < 41) {g : GSem nD τ sig} {u : Unit} (h : 0 < oweAt c n g u) :
    u ∈ L g ∧ 2 + n ≤ lev g u := by
  obtain ⟨x, hx, rfl⟩ := oweL_pos c _ h
  obtain ⟨h1, h2, h3⟩ := sends_after n hn x hx
  refine ⟨by rw [L_tc]; exact Finset.mem_singleton_self _, ?_⟩
  rw [lev_r h2 h3]; omega

/-- With `n` copies sent, a device may wait at a semaphore of level below `2 + n`. -/
theorem mayWait (c : Dev nD) {n : ℕ} (hn : n < 41) (sm : SemLoc sig) (hs : lev ((c : Thread nD τ), sm) () < 2 + n) :
    (levAts L lev : sProp 𝕄) ⊢ MayWait (c : Thread nD τ) sm () (oweAt c n) :=
  MayOwe.of_cut (L := L) (lev := lev) (1 + n)
    (fun p hp => by rw [Finset.mem_singleton.mp hp, L_tc]; exact Finset.mem_singleton_self _)
    (fun g u hg => (oweAt_pos c hn hg).1)
    (fun p hp => by rw [Finset.mem_singleton.mp hp]; show lev ((c : Thread nD τ), sm) () ≤ 1 + n; omega)
    (fun g u hg => lt_of_lt_of_le (by omega) (oweAt_pos c hn hg).2)

theorem O₀_pos {c : Dev nD} {g : GSem nD τ sig} {u : Unit} (h : 0 < O₀ c g u) : u ∈ L g ∧ 1 ≤ lev g u := by
  unfold O₀ oweB1 oweB2 oweB3 at h
  rw [Pi.add_apply, Finsupp.add_apply, Pi.add_apply, Finsupp.add_apply, Pi.add_apply, Finsupp.add_apply,
    Pi.add_apply, Finsupp.add_apply, tallyAt_apply, tallyAt_apply, tallyAt_apply, tallyAt_apply] at h
  have hb : ∀ d : Dev nD, g = barCell d → u ∈ L g ∧ 1 ≤ lev g u := fun d hd => by
    subst hd; exact ⟨by rw [L_tc]; exact Finset.mem_singleton_self _, by rw [lev_bar]⟩
  by_cases h0 : 0 < oweAt c 0 g u
  · have := oweAt_pos c (by decide) h0
    exact ⟨this.1, by omega⟩
  · by_contra hn
    rw [if_neg (fun h' => hn (hb _ h'.1)), if_neg (fun h' => hn (hb _ h'.1)), if_neg (fun h' => hn (hb _ h'.1)),
      if_neg (fun h' => hn (hb _ h'.1))] at h
    omega

end Cert.RingProof

end
-- ==== Proof.Lanes.lean ====
/- The steps on lanes: sending, awaiting an arrival, awaiting a send, and the barrier. What a device holds of a chain of
lanes (one family and channel) is one assertion with three counters: copies sent, arrivals met, sends awaited. -/
module

public import proofs.«01_k».proof.Proof.Sched
public import Idealize.ShloMosaic.Lib.MemrefSat
public import Idealize.SL.BI.BigOpNat

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The semaphores under the protocol, and what every device knows of them -/

/-- The semaphores the protocol governs: the barrier and those of the lanes. -/
def csem (k : Fin 81) : SemLoc sig := if k.val = 0 then .reg barS else .dma (dsem (33 + k.val))
abbrev kcell (ck : Dev nD × Fin 81) : GSem nD τ sig := ((ck.1 : Thread nD τ), csem ck.2)
/-- The index of the semaphore numbered `n` among those of the lanes. -/
def kidx (n : ℕ) : Fin 81 := ⟨(n - 33) % 81, Nat.mod_lt _ (by decide)⟩

theorem csem_zero : csem 0 = .reg barS := if_pos rfl
theorem csem_kidx {n : ℕ} (h1 : 34 ≤ n) (h2 : n < 114) : csem (kidx n) = .dma (dsem n) := by
  have e : (kidx n).val = n - 33 := Nat.mod_eq_of_lt (by omega)
  unfold csem
  rw [e, if_neg (by omega), show 33 + (n - 33) = n by omega]

variable (X : Arg (F := F)) (K : Dev nD × Fin 81 → ℕ)

/-- Every semaphore of the protocol runs by the schedule, under the invariant of its name, and has reached its round. -/
def records : sProp 𝕄 :=
  bigSep Finset.univ fun ck : Dev nD × Fin 81 => iprop(cellInv ER (Rd X) (K ck) (kcell ck) ∗ reached ER (kcell ck) 0)

instance records_persistent : BI.Persistent (records X K) := by unfold records; infer_instance

theorem rec_at (ck : Dev nD × Fin 81) : records X K ⊢ iprop(cellInv ER (Rd X) (K ck) (kcell ck) ∗ reached ER (kcell ck) 0) :=
  bigSep_elim (Finset.mem_univ ck)
theorem rec_bar (c : Dev nD) : records X K ⊢ iprop(cellInv ER (Rd X) (K (c, 0)) (barCell c) ∗ reached ER (barCell c) 0) := by
  have h := rec_at X K (c, 0)
  simp only [kcell, csem_zero] at h
  exact h
theorem rec_n {n : ℕ} (h1 : 34 ≤ n) (h2 : n < 114) (c : Dev nD) :
    records X K ⊢ iprop(cellInv ER (Rd X) (K (c, kidx n)) (tcell c n) ∗ reached ER (tcell c n) 0) := by
  have h := rec_at X K (c, kidx n)
  simp only [kcell, csem_kidx h1 h2] at h
  exact h

/-- What a device knows, and what it owes with `n` copies sent. -/
def Core (c : Dev nD) (n : ℕ) : sProp 𝕄 :=
  iprop(records X K ∗ levAts L lev ∗ ∃ W, owes (c : Thread nD τ) (oweAt c n) W)

/-! ## Chains -/

/-- For a copy to come: the right to pay both its semaphores, and the slot it lands in. -/
def lanePre (f : Fam) (ch : ℕ) (c : Dev nD) (h : ℕ) : sProp 𝕄 :=
  iprop(dutyTok ER (sCell f c ch h) 0 0 ∗ dutyTok ER (rCell f (f.tgt c) ch h) 0 0
    ∗ ∃ Y, owns (f.tgt c : Thread nD τ) (slot f ch (h + 1)) fullShare Y)
/-- For an arrival to come. -/
def recvPre (f : Fam) (ch : ℕ) (c : Dev nD) (h : ℕ) : sProp 𝕄 :=
  iprop(atPos ER (rCell f c ch h) 0 ∅ 0 ∗ cred (tallyAt (rCell f c ch h) () f.N))

/-- A chain with `s` copies sent, `r` arrivals met and `d` sends awaited. -/
def Chain (f : Fam) (ch : ℕ) (c : Dev nD) (s r d : ℕ) : sProp 𝕄 :=
  iprop((bigSep (Finset.Ico s f.len) (lanePre f ch c))
    ∗ (bigSep (Finset.Ico d s) fun h => cred (tallyAt (sCell f c ch h) () f.N))
    ∗ (bigSep (Finset.Ico d f.len) fun h => atPos ER (sCell f c ch h) 0 ∅ 0)
    ∗ (bigSep (Finset.Ico 0 d) fun h => semVal (sCell f c ch h) 0)
    ∗ (bigSep (Finset.Ico 0 d) fun h => owns (c : Thread nD τ) (slot f ch h) fullShare.left (lv X f ch h c))
    ∗ (bigSep (Finset.Ico r f.len) (recvPre f ch c))
    ∗ (bigSep (Finset.Ico 0 r) fun h => semVal (rCell f c ch h) 0))

/-- The next copy of a chain, from the left half of the source slot. -/
theorem wp_lane_send {α : Type} {Q : α → sProp 𝕄} {k : PUnit → Prog (TpuEff nD τ sig (Elt F) Λ₀ .tc) α}
    (c : Dev nD) (f : Fam) (ch : ℕ) {s r d n : ℕ} {t : Dev nD} {src dst : Memref sig .tc .vmem f.sh .bf16}
    {qs qr : DmaSem sig} (hc : ch < 2) (hs : s < f.len) (hd : d ≤ s) (hn : sends.drop n = (f, ch, s) :: sends.drop (n + 1))
    (et : t = f.tgt c) (es : src = slot f ch s) (ed : dst = slot f ch (s + 1)) (eqs : qs = dsem (f.sBase ch + s)) (eqr : qr = dsem (f.rBase ch + s))
    {hsc : dst.view.ref.isScScratch = false} {hsrc : src.view.WordExact} {hdst : dst.view.WordExact}
    {hsem : DmaTarget.Typed .vmem (.dma qr) (.remote (Dev.tc t : Thread nD τ) dst (.dma qs) hsc)} :
    iprop(Core X K c n ∗ Chain X f ch c s r d ∗ owns (c : Thread nD τ) (slot f ch s) fullShare.left (lv X f ch s c))
      ⊢ iprop(((Core X K c (n + 1) ∗ Chain X f ch c (s + 1) r d)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) dst (.dma qs) hsc) (.dma qr) hsrc hdst hsem) k) Q) := by
  subst et es ed eqs eqr
  unfold Core Chain
  rw [bigSep_Ico_succ_bot hs, bigSep_Ico_succ_top hd]
  unfold lanePre
  iintro ⟨⟨#HR, #Hlev, %W, HO⟩, ⟨⟨⟨Ht1, Ht2, %Y, Hdst⟩, Hpre⟩, Hcr, Hrest⟩, Hl⟩ Hk
  ihave ⟨#HIs, #Hrs⟩ := (rec_n X K (sBase_lt hc hs).1 (sBase_lt hc hs).2 c) $$ HR
  ihave ⟨#HIr, #Hrr⟩ := (rec_n X K (rBase_lt hc hs).1 (rBase_lt hc hs).2 (f.tgt c)) $$ HR
  unfold owns
  icases Hl with ⟨%fs, %hfs, Hl⟩
  icases Hdst with ⟨%fd, %hfd, Hdst⟩
  iapply (Rounds.wp_send_pointsTo 𝒱₀ ER (Rd X) (c : Thread nD τ) none (c' := (f.tgt c : Thread nD τ)) (src := slot f ch s) (dst := slot f ch (s + 1))
    (sS := .dma (dsem (f.sBase ch + s))) (sem := .dma (dsem (f.rBase ch + s))) (O₀ := oweAt c n) (κ₁ := K (c, kidx (f.sBase ch + s))) (κ₂ := K (f.tgt c, kidx (f.rBase ch + s)))
    (r₁ := 0) (r₂ := 0) (d₁ := 0) (d₂ := 0) (fs := fs) (fd := fd)
    (by rw [duties_s X hc hs]; exact Finset.mem_singleton_self _) (by rw [duties_r X hc hs]; exact Finset.mem_singleton_self _)
    () () f.N (credit_slot f ch (s + 1)) (amount_s X hc hs c 0) (amount_r X hc hs (f.tgt c) 0) (oweAt c (n + 1))
    (by unfold oweAt; rw [hn]; rfl) (W := W)
    (by rw [payload_s X hc hs, ← hfs]; exact owns_intro _ _ _ fs)
    (by
      rw [payload_r X hc hs]; unfold landed; rw [src_tgt, ← hfs]
      refine (owns_intro (f.tgt c : Thread nD τ) (slot f ch (s + 1)) fullShare _).trans (Entails.of_eq ?_)
      rw [View.read_write_univ])) $$ [Hl Hdst HO Ht1 Ht2]
  · isplitr; · iexact HIs
    isplitr; · iexact HIr
    isplitl [Hl]; · iexact Hl
    isplitl [Hdst]; · iexact Hdst
    isplitl [HO]; · iexact HO
    isplitl [Ht1]; · iexact Ht1
    isplitr; · iexact Hrs
    isplitl [Ht2]; · iexact Ht2
    iexact Hrr
  iintro ⟨Hc, HO⟩
  iapply Hk
  isplitl [HO]
  · isplitr; · iexact HR
    isplitr; · iexact Hlev
    iexists W; iexact HO
  isplitl [Hpre]; · iexact Hpre
  isplitl [Hc Hcr]
  · isplitl [Hc] <;> iassumption
  iexact Hrest

/-- The next arrival of a chain: the slot it landed in. -/
theorem wp_lane_recv {α : Type} {Q : α → sProp 𝕄} {k : PUnit → Prog (TpuEff nD τ sig (Elt F) Λ₀ .tc) α}
    (c : Dev nD) (f : Fam) (ch : ℕ) {s r d n : ℕ} {s₁ : Shape} {e₁ : EltTy} {sp₁ : Space} {src : Memref sig .tc sp₁ s₁ e₁}
    {dst : Memref sig .tc .vmem f.sh .bf16} {q : DmaSem sig} (hc : ch < 2) (hr : r < f.len) (hn : n < 41) (hl : lpos f ch r < n)
    (ed : dst = slot f ch (r + 1)) (eq : q = dsem (f.rBase ch + r)) {hsrc : src.view.WordExact} {hdst : dst.view.WordExact} :
    iprop(Core X K c n ∗ Chain X f ch c s r d)
      ⊢ iprop(((Core X K c n ∗ Chain X f ch c s (r + 1) d ∗ owns (c : Thread nD τ) (slot f ch (r + 1)) fullShare (landed X f ch r c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst ed eq
  unfold Core Chain
  rw [bigSep_Ico_succ_bot hr, bigSep_Ico_succ_top (Nat.zero_le r)]
  iintro ⟨⟨#HR, #Hlev, %W, HO⟩, H1, H2, H3, H4, H5, ⟨Hp, Hpre⟩, Hz⟩ Hk
  unfold recvPre
  icases Hp with ⟨Hat, Hcr⟩
  ihave ⟨#HI, #-⟩ := (rec_n X K (rBase_lt hc hr).1 (rBase_lt hc hr).2 c) $$ HR
  iapply (Rounds.wp_wait_rest_token 𝒱₀ ER (Rd X) (c : Thread nD τ) none (κ := K (c, kidx (f.rBase ch + r)))
      (wpE_waitDma2_eq 𝒱₀ (c : Thread nD τ) none Set.univ) (Set.mem_univ _) () (O := oweAt c n) (W := W) (R := 0) (m := 0) (T := ∅)
      (by rw [Nat.zero_add, expect_r X hc hr]; exact credit_slot f ch (r + 1))) $$ [Hcr HO Hat]
  · isplitr; · iexact HI
    isplitl [Hcr]; · rw [credit_slot f ch (r + 1)]; iexact Hcr
    isplitl [HO]; · iexact HO
    isplitr
    · iapply (mayWait c hn (.dma (dsem (f.rBase ch + r))) (by rw [lev_r hc hr c]; omega)); iexact Hlev
    iexact Hat
  iintro ⟨HO, Hat, -, Hpay⟩
  imod (Rounds.cell_close ER (Rd X) (Set.mem_univ (K (c, kidx (f.rBase ch + r)))) (fun h => h) (R := 0 + 1) (duties_later X (rCell f c ch r))) $$ [Hat] with Hv
  · isplitr; · iexact HI
    iexact Hat
  ihave Hpay := (Entails.of_eq (rest_r X hc hr c)) $$ Hpay
  iapply Hk
  isplitl [HO]
  · isplitr; · iexact HR
    isplitr; · iexact Hlev
    iexists _; iexact HO
  isplitr [Hpay]
  · isplitl [H1]; · iexact H1
    isplitl [H2]; · iexact H2
    isplitl [H3]; · iexact H3
    isplitl [H4]; · iexact H4
    isplitl [H5]; · iexact H5
    isplitl [Hpre]; · iexact Hpre
    isplitl [Hv] <;> iassumption
  iexact Hpay

/-- The next await of a send: the source slot's left half comes back into the chain. -/
theorem wp_lane_drain {α : Type} {Q : α → sProp 𝕄} {k : PUnit → Prog (TpuEff nD τ sig (Elt F) Λ₀ .tc) α}
    (c : Dev nD) (f : Fam) (ch : ℕ) {s r d n : ℕ} {s₁ : Shape} {e₁ : EltTy} {sp₁ : Space} {src : Memref sig .tc sp₁ s₁ e₁}
    {dst : Memref sig .tc .vmem f.sh .bf16} {q : DmaSem sig} {j : ℕ} (hc : ch < 2) (hd : d < f.len) (hds : d < s) (hn : n < 41)
    (ed : dst = slot f ch j) (eq : q = dsem (f.sBase ch + d)) {hsrc : src.view.WordExact} {hdst : dst.view.WordExact} :
    iprop(Core X K c n ∗ Chain X f ch c s r d)
      ⊢ iprop(((Core X K c n ∗ Chain X f ch c s r (d + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst ed eq
  unfold Core Chain
  rw [bigSep_Ico_succ_bot hd, bigSep_Ico_succ_bot hds, bigSep_Ico_succ_top (Nat.zero_le d), bigSep_Ico_succ_top (Nat.zero_le d)]
  iintro ⟨⟨#HR, #Hlev, %W, HO⟩, H1, ⟨Hcr, H2⟩, ⟨Hat, H3⟩, H4, H5, Hrest⟩ Hk
  ihave ⟨#HI, #-⟩ := (rec_n X K (sBase_lt hc hd).1 (sBase_lt hc hd).2 c) $$ HR
  iapply (Rounds.wp_wait_rest_token 𝒱₀ ER (Rd X) (c : Thread nD τ) none (κ := K (c, kidx (f.sBase ch + d)))
      (wpE_waitDma2_eq 𝒱₀ (c : Thread nD τ) none Set.univ) (Set.mem_univ _) () (O := oweAt c n) (W := W) (R := 0) (m := 0) (T := ∅)
      (by rw [Nat.zero_add, expect_s X hc hd]; exact credit_slot f ch j)) $$ [Hcr HO Hat]
  · isplitr; · iexact HI
    isplitl [Hcr]; · rw [credit_slot f ch j]; iexact Hcr
    isplitl [HO]; · iexact HO
    isplitr
    · iapply (mayWait c hn (.dma (dsem (f.sBase ch + d))) (by rw [lev_s hc hd c]; omega)); iexact Hlev
    iexact Hat
  iintro ⟨HO, Hat, -, Hpay⟩
  imod (Rounds.cell_close ER (Rd X) (Set.mem_univ (K (c, kidx (f.sBase ch + d)))) (fun h => h) (R := 0 + 1) (duties_later X (sCell f c ch d))) $$ [Hat] with Hv
  · isplitr; · iexact HI
    iexact Hat
  ihave Hpay := (Entails.of_eq (rest_s X hc hd c)) $$ Hpay
  iapply Hk
  isplitl [HO]
  · isplitr; · iexact HR
    isplitr; · iexact Hlev
    iexists _; iexact HO
  isplitl [H1]; · iexact H1
  isplitl [H2]; · iexact H2
  isplitl [H3]; · iexact H3
  isplitl [H4 Hv]
  · isplitl [Hv] <;> iassumption
  isplitl [H5 Hpay]
  · isplitl [Hpay] <;> iassumption
  iexact Hrest

/-! ## The barrier -/

/-- A unit paid to a neighbour's barrier. -/
theorem wp_bar_signal {α : Type} {Q : α → sProp 𝕄} {k : PUnit → Prog (TpuEff nD τ sig (Elt F) Λ₀ .tc) α}
    (c t t' : Dev nD) (dt : Fin 4) (et : t' = t) {O O' : CellTallies nD τ sig Unit} (hO : O' = O + tallyAt (barCell t) () 1)
    {W : Waits sig Unit} :
    iprop(records X K ∗ owes (c : Thread nD τ) O' W ∗ dutyTok ER (barCell t) 0 dt ∗ barPay t dt)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (t', .tc) barS (BitVec.toInt 1#32)) k) Q) := by
  subst et
  iintro ⟨#HR, HO, Ht, Hpay⟩ Hk
  ihave ⟨#HI, #Hr⟩ := (rec_bar X K t') $$ HR
  iapply (Rounds.wp_signal 𝒱₀ ER (Rd X) (c : Thread nD τ) none (dst := (t' : Thread nD τ)) (κ := K (t', 0))
      (d := dt) (by rw [duties_bar]; exact Finset.mem_univ _) ((amount_bar X t' dt).trans (by decide)) () O hO) $$ [HO Ht Hpay]
  · isplitr; · iexact HI
    isplitl [HO]; · iexact HO
    isplitl [Ht]; · iexact Ht
    isplitl [Hpay]; · rw [payload_bar]; iexact Hpay
    iexact Hr
  iexact Hk

/-- The barrier: with all four signals paid, the wait hands over the slots of the neighbours. -/
theorem wp_bar_wait {α : Type} {Q : α → sProp 𝕄} {k : PUnit → Prog (TpuEff nD τ sig (Elt F) Λ₀ .tc) α}
    (c : Dev nD) {W : Waits sig Unit} :
    iprop(records X K ∗ levAts L lev ∗ owes (c : Thread nD τ) (oweAt c 0) W ∗ atPos ER (barCell c) 0 ∅ 0 ∗ cred (tallyAt (barCell c) () 4))
      ⊢ iprop(((Core X K c 0 ∗ semVal (barCell c) 0 ∗ landSlots .a (yr c) ∗ landSlots .v (pv c) ∗ landSlots .w (nx c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (BitVec.toInt 4#32)) k) Q) := by
  unfold Core
  iintro ⟨#HR, #Hlev, HO, Hat, Hcr⟩ Hk
  ihave ⟨#HI, #-⟩ := (rec_bar X K c) $$ HR
  iapply (Rounds.wp_wait_rest_token 𝒱₀ ER (Rd X) (c : Thread nD τ) none (κ := K (c, 0))
      (wpE_semWait_eq 𝒱₀ (c : Thread nD τ) none Set.univ) (Set.mem_univ _) () (O := oweAt c 0) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait c (by decide) (.reg barS) (by rw [lev_bar c]; decide)); iexact Hlev
    iexact Hat
  iintro ⟨HO, Hat, -, Hpay⟩
  imod (Rounds.cell_close ER (Rd X) (Set.mem_univ (K (c, 0))) (fun h => h) (R := 0 + 1) (duties_later X (barCell c))) $$ [Hat] with Hv
  · isplitr; · iexact HI
    iexact Hat
  ihave ⟨H1, -, H2, H3⟩ := (Entails.of_eq (rest_bar X c)) $$ Hpay
  iapply Hk
  isplitl [HO]
  · isplitr; · iexact HR
    isplitr; · iexact Hlev
    iexists _; iexact HO
  isplitl [Hv]; · iexact Hv
  isplitl [H1]; · iexact H1
  isplitl [H2] <;> iassumption

end Cert.RingProof

end
-- ==== Proof.Local.lean ====
/- The steps a device takes alone: loading sub-blocks of its operand into the load buffers, reading and writing slots,
and storing slots into windows of the result. -/
module

public import proofs.«01_k».proof.Proof.Lanes
public import Idealize.ShloMosaic.Lib.Transfers
public import Idealize.ShloMosaic.Lib.Pipeline.Value

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Reading and writing a squeezed slice of a memref -/

theorem set_squeeze {κ : Kind} {sp : Space} {s t : Shape} {e : EltTy} (m : Memref sig κ sp s e) (r : Rect s) (hr : ∀ a, r.stride a = 1)
    (hq : r.shape.Squeezes t) : ((m.slice r hr).squeeze t hq).view.set = (m.view.slice r).set := View.set_reshape _ _

/-- A memref's contents, opened. -/
theorem owns_some (c : Dev nD) {sp : Space} {s : Shape} {e : EltTy} (m : Memref sig .tc sp s e) (q : PosShare TreeShare) (Y : s.Idx → Elt F e) :
    (owns (c : Thread nD τ) m q Y : sProp 𝕄)
      ⊢ iprop(∃ f, ⌜m.view.read (Elt F) f = Y⌝ ∗ (m.view.loc (c : Thread nD τ) ↦[m.view.set]{q} f)) := .rfl

/-- A load at a rectangle reads the squeezed slice there. -/
theorem wp_vload {α : Type} {Q : α → sProp 𝕄} {s t : Shape} {e : EltTy} {m : Memref sig .tc .vmem s e} {r : Rect s}
    {k : (r.shape.Idx → Elt F e) → Prog (TpuEff nD τ sig (Elt F) Λ₀ .tc) α} (c : Dev nD) (hr : ∀ a, r.stride a = 1)
    (hq : r.shape.Squeezes t) (hc : r.shape.ShapeCasts t) {q : PosShare TreeShare} {Y : t.Idx → Elt F e} {hl : m.view.LoadsAt r.toLoadRect} :
    (owns (c : Thread nD τ) ((m.slice r hr).squeeze t hq) q Y : sProp 𝕄)
      ⊢ iprop((∀ v, ⌜shapeCast t v hc = Y⌝ -∗ owns (c : Thread nD τ) ((m.slice r hr).squeeze t hq) q Y
            -∗ wp frame (wpE (defs₀ (F := F)) 𝒱₀ (c : Thread nD τ) none) Set.univ (k v) Q)
          -∗ wp frame (wpE (defs₀ (F := F)) 𝒱₀ (c : Thread nD τ) none) Set.univ (.op (.load m r.toLoadRect hl) k) Q) := by
  iintro H Hk
  unfold owns
  icases H with ⟨%f, %hf, H⟩
  iapply (wp_load 𝒱₀ (c : Thread nD τ) none Set.univ (m := m) (r := r.toLoadRect) (S := ((m.slice r hr).squeeze t hq).view.set) (f := f)
    (by rw [set_squeeze, View.set_slice]; exact subset_of_eq rfl)) $$ [H]
  · iexact H
  iintro H
  ihave Hk := Hk $$ %(m.view.readAt (Elt F) r.toLoadRect f)
  iapply Hk
  · ipureintro
    rw [← hf]; exact (Memref.read_squeeze_slice m r hr hq hc f).symm
  iexists f
  isplitr
  · ipureintro; exact hf
  iexact H

/-- A store at a rectangle writes the squeezed slice there. -/
theorem wp_vstore {α : Type} {Q : α → sProp 𝕄} {s t : Shape} {e : EltTy} {m : Memref sig .tc .vmem s e} {r : Rect s}
    {k : PUnit → Prog (TpuEff nD τ sig (Elt F) Λ₀ .tc) α} (c : Dev nD) (hr : ∀ a, r.stride a = 1)
    (hq : r.shape.Squeezes t) (hc : r.shape.ShapeCasts t) {Y Z : t.Idx → Elt F e} {w : r.shape.Idx → Elt F e}
    (hw : shapeCast t w hc = Z) {hx : (m.access r).Stores Finset.univ} {hm : Finset.univ = Finset.univ ∨ ∀ a, r.stride a = 1} :
    (owns (c : Thread nD τ) ((m.slice r hr).squeeze t hq) fullShare Y : sProp 𝕄)
      ⊢ iprop((owns (c : Thread nD τ) ((m.slice r hr).squeeze t hq) fullShare Z
            -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  iintro H Hk
  unfold owns
  icases H with ⟨%f, %hf, H⟩
  iapply (wp_store 𝒱₀ (c : Thread nD τ) none Set.univ (m := m) (r := r) (w := w) (S := ((m.slice r hr).squeeze t hq).view.set) (f := f)
    (by rw [set_squeeze]; exact subset_of_eq rfl)) $$ [H]
  · iexact H
  iintro H
  iapply Hk
  iexists ((m.access r).write (Elt F) f w Finset.univ)
  isplitr
  · ipureintro
    rw [Memref.read_squeeze_slice m r hr hq hc, ← hw]
    congr 1
    show (m.view.slice r).read (Elt F) _ = w
    exact View.read_write_univ _ _
  iexact H

theorem sc4 : S1x1x256x1024.ShapeCasts S256x1024 := shapeCasts_S1x1x256x1024_S256x1024
theorem sc3 : S1x256x1024.ShapeCasts S256x1024 := shapeCasts_S1x256x1024_S256x1024

/-- Reading a slot of the reduction. -/
theorem wp_aload {α : Type} {Q : α → sProp 𝕄} (c : Dev nD) (ch j : ℕ) {r : Rect S2x7x256x1024}
    (er : r = rA ch j) (hc : r.shape.ShapeCasts S256x1024) {hl : (aM.view).LoadsAt r.toLoadRect}
    {k : (r.shape.Idx → Elt F .bf16) → Prog (TpuEff nD τ sig (Elt F) Λ₀ .tc) α}
    {q : PosShare TreeShare} {Y : S256x1024.Idx → Elt F .bf16} :
    (owns (c : Thread nD τ) (slot .a ch j) q Y : sProp 𝕄)
      ⊢ iprop((∀ v, ⌜shapeCast S256x1024 v hc = Y⌝ -∗ owns (c : Thread nD τ) (slot .a ch j) q Y
            -∗ wp frame (wpE (defs₀ (F := F)) 𝒱₀ (c : Thread nD τ) none) Set.univ (k v) Q)
          -∗ wp frame (wpE (defs₀ (F := F)) 𝒱₀ (c : Thread nD τ) none) Set.univ (.op (.load aM r.toLoadRect hl) k) Q) := by
  subst er; exact wp_vload c (fun _ => rfl) squeezes_S1x1x256x1024_S256x1024 hc

/-- Writing a slot of the reduction. -/
theorem wp_astore {α : Type} {Q : α → sProp 𝕄} (c : Dev nD) (ch j : ℕ) {r : Rect S2x7x256x1024}
    (er : r = rA ch j) (hc : r.shape.ShapeCasts S256x1024) {Y Z : S256x1024.Idx → Elt F .bf16} {w : r.shape.Idx → Elt F .bf16}
    (hw : shapeCast S256x1024 w hc = Z) {hx : (aM.access r).Stores Finset.univ} {hm : Finset.univ = Finset.univ ∨ ∀ a, r.stride a = 1}
    {k : PUnit → Prog (TpuEff nD τ sig (Elt F) Λ₀ .tc) α} :
    (owns (c : Thread nD τ) (slot .a ch j) fullShare Y : sProp 𝕄)
      ⊢ iprop((owns (c : Thread nD τ) (slot .a ch j) fullShare Z
            -∗ wp frame (wpE (defs₀ (F := F)) 𝒱₀ (c : Thread nD τ) none) Set.univ (k ⟨⟩) Q)
          -∗ wp frame (wpE (defs₀ (F := F)) 𝒱₀ (c : Thread nD τ) none) Set.univ (.op (.store aM r w Finset.univ hx hm) k) Q) := by
  subst er; exact wp_vstore c (fun _ => rfl) squeezes_S1x1x256x1024_S256x1024 hc hw

/-! ## Loading sub-blocks of the operand -/

variable (X : Arg (F := F))

/-- The share of the operand a load buffer's loads read. -/
def xq (b : ℕ) : PosShare TreeShare := if b = 0 then fullShare.left else fullShare.right

/-- A load buffer at rest, holding `Y`. -/
def LBuf (c : Dev nD) (b : ℕ) (Y : S256x1024.Idx → Elt F .f32) : sProp 𝕄 :=
  iprop(owns (c : Thread nD τ) xM (xq b) (X c) ∗ owns (c : Thread nD τ) (xbuf b) fullShare Y ∗ semVal (tcell c b) 0)

/-- A copy's credit on a load semaphore, and on a store semaphore. -/
def NL : ℕ := (xbuf 0).view.dmaCredit
def NS : ℕ := (oWin 0).view.dmaCredit

/-- A load in flight, which will leave the load buffer at rest, holding `Y`. -/
def LFly (c : Dev nD) (b : ℕ) (Y : S256x1024.Idx → Elt F .f32) : sProp 𝕄 :=
  iprop(∃ D : sProp 𝕄, Flight countersEmb (c : Thread nD τ) (.dma (dsem b)) () NL D
    ∗ (D -∗ iprop(owns (c : Thread nD τ) xM (xq b) (X c) ∗ owns (c : Thread nD τ) (xbuf b) fullShare Y)))

theorem wp_load_start {α : Type} {Q : α → sProp 𝕄} {k : PUnit → Prog (TpuEff nD τ sig (Elt F) Λ₀ .tc) α}
    (c : Dev nD) (b ch sb : ℕ) {off : Fin 2 → ℕ} {inb} {hr} (eo : off = ![256 * ((8 * pos c + 4 * (ch % 2) + sb % 4) % 64), 0])
    {dst : Memref sig .tc .vmem S256x1024 .f32} {q : DmaSem sig} (ed : dst = xbuf b) (eq : q = dsem b)
    {hsrc : ((xM.slice (Rect.unit (s := S16384x1024) off S256x1024.size inb) hr).view).WordExact} {hdst : dst.view.WordExact}
    {hsem : DmaTarget.Typed (nD := nD) .hbm (.dma q) (.here (p := (.tc : Proc τ)) dst)} {Y : S256x1024.Idx → Elt F .f32} :
    LBuf X c b Y
      ⊢ iprop((LFly X c b (xl X c ch sb) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S16384x1024) off S256x1024.size inb) hr) (.here dst) (.dma q) hsrc hdst hsem) k) Q) := by
  subst eo ed eq
  unfold LBuf
  iintro ⟨Hx, Hb, Hv⟩ Hk
  ihave ⟨Hs, %f, %hf, Hrest⟩ := (owns_slice_split (c : Thread nD τ) xM (xq b) (rI (8 * pos c + 4 * (ch % 2) + sb % 4)) (fun _ => rfl) (X c)) $$ Hx
  ihave ⟨%fs, %hfs, Hs⟩ := (owns_some c _ _ _) $$ Hs
  ihave ⟨%fd, %hfd, Hb⟩ := (owns_some c _ _ _) $$ Hb
  iapply (wp_dmaLocal countersEmb 𝒱₀ (c : Thread nD τ) none (dst := xbuf b) (sm := .dma (dsem b)) () NL rfl (View.dmaCredit_pos _ (by decide)) (subset_refl _)
    (fs := fs) (fd := fd) (q := xq b)) $$ [Hs Hb Hv]
  · isplitl [Hs]; · iexact Hs
    isplitl [Hb]; · iexact Hb
    iexact Hv
  iintro Hfl
  iapply Hk
  unfold LFly
  iexists _
  isplitl [Hfl]; · iexact Hfl
  iintro ⟨Hd, Hs⟩
  isplitr [Hd]
  · ihave Hs := (owns_intro (c : Thread nD τ) (xM.slice (rI (8 * pos c + 4 * (ch % 2) + sb % 4)) (fun _ => rfl)) (xq b) fs) $$ Hs
    ihave H := (owns_slice_join (c : Thread nD τ) xM (xq b) (rI (8 * pos c + 4 * (ch % 2) + sb % 4)) (fun _ => rfl) _ f) $$ [Hs Hrest]
    · isplitl [Hs] <;> iassumption
    rw [hf, hfs, show (rI (8 * pos c + 4 * (ch % 2) + sb % 4)).overlay (X c) (fun i => X c ((rI (8 * pos c + 4 * (ch % 2) + sb % 4)).emb i)) = X c from ?_]
    · iexact H
    · funext j
      by_cases hj : j ∈ (rI (8 * pos c + 4 * (ch % 2) + sb % 4)).set
      · rw [← Rect.map_emb_univ, Finset.mem_map] at hj
        obtain ⟨i, -, rfl⟩ := hj
        exact Rect.overlay_emb _ _ _ _
      · exact Rect.overlay_of_not_mem _ _ _ hj
  · ihave Hd := (owns_intro (c : Thread nD τ) (xbuf b) fullShare _) $$ Hd
    rw [View.read_write_univ, hfs]
    iexact Hd

theorem wp_load_wait {α : Type} {Q : α → sProp 𝕄} {k : PUnit → Prog (TpuEff nD τ sig (Elt F) Λ₀ .tc) α} {K : Dev nD × Fin 81 → ℕ}
    (c : Dev nD) (b : ℕ) {n : ℕ} (hb : b < 2) (hn : n < 41) {s₁ : Shape} {e₁ : EltTy} {sp₁ : Space} {src : Memref sig .tc sp₁ s₁ e₁}
    {dst : Memref sig .tc .vmem S256x1024 .f32} {q : DmaSem sig} (ed : dst = xbuf b) (eq : q = dsem b)
    {hsrc : src.view.WordExact} {hdst : dst.view.WordExact} {Y : S256x1024.Idx → Elt F .f32} :
    iprop(Core X K c n ∗ LFly X c b Y)
      ⊢ iprop(((Core X K c n ∗ LBuf X c b Y) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst ed eq
  unfold Core LFly LBuf
  iintro ⟨⟨#HR, #Hlev, %W, HO⟩, %D, Hfl, HD⟩ Hk
  iapply (wp_waitLocalO countersEmb 𝒱₀ (c : Thread nD τ) none (dstw := xbuf b) () (N := NL) rfl (O := oweAt c n) (W := W)) $$ [Hfl HO]
  · isplitl [Hfl]; · iexact Hfl
    isplitl [HO]; · iexact HO
    iapply (mayWait c hn (.dma (dsem b)) (by rw [lev_low (by omega) c]; omega)); iexact Hlev
  iintro ⟨HDv, Hv, HO⟩
  ihave ⟨Hx, Hb⟩ := HD $$ HDv
  iapply Hk
  isplitl [HO]
  · isplitr; · iexact HR
    isplitr; · iexact Hlev
    iexists _; iexact HO
  isplitl [Hx]; · iexact Hx
  isplitl [Hb] <;> iassumption

/-- Reading a load buffer. -/
theorem wp_xload {α : Type} {Q : α → sProp 𝕄} (c : Dev nD) (b : ℕ) {r : Rect S2x256x1024}
    (er : r = rX b) (hc : r.shape.ShapeCasts S256x1024) {hl : (bM.view).LoadsAt r.toLoadRect}
    {k : (r.shape.Idx → Elt F .f32) → Prog (TpuEff nD τ sig (Elt F) Λ₀ .tc) α} {Y : S256x1024.Idx → Elt F .f32} :
    LBuf X c b Y
      ⊢ iprop((∀ v, ⌜shapeCast S256x1024 v hc = Y⌝ -∗ LBuf X c b Y
            -∗ wp frame (wpE (defs₀ (F := F)) 𝒱₀ (c : Thread nD τ) none) Set.univ (k v) Q)
          -∗ wp frame (wpE (defs₀ (F := F)) 𝒱₀ (c : Thread nD τ) none) Set.univ (.op (.load bM r.toLoadRect hl) k) Q) := by
  subst er
  unfold LBuf
  iintro ⟨Hx, Hb, Hv⟩ Hk
  iapply (wp_vload c (m := bM) (r := rX b) (fun _ => rfl) squeezes_S1x256x1024_S256x1024 hc (q := fullShare) (Y := Y)) $$ [Hb]
  · iexact Hb
  iintro %v %hv Hb
  iapply Hk $$ %v
  · ipureintro; exact hv
  isplitl [Hx]; · iexact Hx
  isplitl [Hb]; · iexact Hb
  iexact Hv

/-! ## What the written vectors hold -/

theorem pay_init {v : S1x256x1024.Idx → Elt F .f32} {Y : S256x1024.Idx → Elt F .f32} (hv : shapeCast S256x1024 v sc3 = Y) :
    shapeCast S256x1024 (k0_pay1 v) sc4 = truncf (F := F) .bf16 Y bitsLt_bf16_f32 := by
  subst hv; exact shapeCast_shapeCast _ _ _

theorem pay_acc {v : S1x1x256x1024.Idx → Elt F .bf16} {x : S1x256x1024.Idx → Elt F .f32} {A : S256x1024.Idx → Elt F .bf16}
    {Y : S256x1024.Idx → Elt F .f32} (hv : shapeCast S256x1024 v sc4 = A) (hx : shapeCast S256x1024 x sc3 = Y) :
    shapeCast S256x1024 (k0_pay2 v x) sc4 = truncf (F := F) .bf16 (addf (extf (F := F) .f32 A bitsLt_bf16_f32) Y) bitsLt_bf16_f32 := by
  subst hv hx; exact shapeCast_shapeCast _ _ _

theorem pay_copy {v : S1x1x256x1024.Idx → Elt F .bf16} {A : S256x1024.Idx → Elt F .bf16} (hv : shapeCast S256x1024 v sc4 = A) :
    shapeCast S256x1024 (k0_pay5 v) sc4 = A := by
  subst hv; exact shapeCast_shapeCast _ _ _

/-- The next slot of the reduction, from what landed in it and the sub-block added to it. -/
theorem av_next {ch h : ℕ} (hh : h < 3) (c : Dev nD) :
    truncf (F := F) .bf16 (addf (extf (F := F) .f32 (landed X .a ch h c) bitsLt_bf16_f32) (xl X c ch (yc c + 3 - h))) bitsLt_bf16_f32
      = lv X .a ch (h + 1) c := by
  show _ = av X ch (h + 1) c
  rw [av, if_pos hh]; rfl

/-! ## Storing into the result -/

/-- What store `n` of a channel will need: its window and its semaphore. -/
def storePre (c : Dev nD) (ch n : ℕ) : sProp 𝕄 :=
  iprop((∃ Y, owns (c : Thread nD τ) (oWin (qOf c ch n)) fullShare Y) ∗ semVal (tcell c (2 + 16 * ch + n)) 0)
/-- What it leaves. -/
def storePost (c : Dev nD) (ch n : ℕ) : sProp 𝕄 :=
  iprop(owns (c : Thread nD τ) (oWin (qOf c ch n)) fullShare (bval X n ch (n / 2) c)
    ∗ owns (c : Thread nD τ) (bslot n ch (n / 2)) fullShare.right (bval X n ch (n / 2) c))
/-- A store in flight. -/
def SFly (c : Dev nD) (ch n : ℕ) : sProp 𝕄 :=
  iprop(∃ D : sProp 𝕄, Flight countersEmb (c : Thread nD τ) (.dma (dsem (2 + 16 * ch + n))) () NS D ∗ (D -∗ storePost X c ch n))

/-- The stores of a channel, `s` of them started and `d` awaited. -/
def Stores (ch : ℕ) (c : Dev nD) (s d : ℕ) : sProp 𝕄 :=
  iprop((bigSep (Finset.Ico s 16) (storePre c ch)) ∗ (bigSep (Finset.Ico d s) (SFly X c ch))
    ∗ (bigSep (Finset.Ico 0 d) fun n => iprop(storePost X c ch n ∗ semVal (tcell c (2 + 16 * ch + n)) 0)))

theorem wp_store_start {α : Type} {Q : α → sProp 𝕄} {k : PUnit → Prog (TpuEff nD τ sig (Elt F) Λ₀ .tc) α}
    (c : Dev nD) (ch n : ℕ) {d : ℕ} (hn : n < 16) (hd : d ≤ n) {off : Fin 2 → ℕ} {inb} {hr} (eo : off = ![512 * (qOf c ch n % 32), 0])
    {src src' : Memref sig .tc .vmem S512x1024 .bf16} {dst : Memref sig .tc .hbm S512x1024 .bf16} {q : DmaSem sig}
    (ed : dst = oM.slice (Rect.unit (s := S16384x1024) off S512x1024.size inb) hr) (ep : src' = src) (es : src = bslot n ch (n / 2))
    {Y : S512x1024.Idx → Elt F .bf16} (eY : Y = bval X n ch (n / 2) c) (eq : q = dsem (2 + 16 * ch + n))
    {hsrc : src'.view.WordExact} {hdst : dst.view.WordExact} {hsem : DmaTarget.Typed (nD := nD) .vmem (.dma q) (.here (p := (.tc : Proc τ)) dst)} :
    iprop(Stores X ch c n d ∗ owns (c : Thread nD τ) src fullShare.right Y)
      ⊢ iprop((Stores X ch c (n + 1) d -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src' (.here dst) (.dma q) hsrc hdst hsem) k) Q) := by
  subst ed eo ep es eY eq
  unfold Stores
  rw [bigSep_Ico_succ_bot hn, bigSep_Ico_succ_top hd]
  unfold storePre owns
  iintro ⟨⟨⟨⟨⟨%Y, %fd, %hfd, Hd⟩, Hv⟩, Hpre⟩, Hfly, Hdone⟩, %fs, %hfs, Hs⟩ Hk
  iapply (wp_dmaLocal countersEmb 𝒱₀ (c : Thread nD τ) none (dst := oWin (qOf c ch n)) (sm := .dma (dsem (2 + 16 * ch + n))) () NS rfl (View.dmaCredit_pos _ (by decide)) (subset_refl _)
    (fs := fs) (fd := fd) (q := fullShare.right)) $$ [Hs Hd Hv]
  · isplitl [Hs]; · iexact Hs
    isplitl [Hd]; · iexact Hd
    iexact Hv
  iintro Hfl
  iapply Hk
  isplitl [Hpre]; · iexact Hpre
  isplitl [Hfl Hfly]
  · isplitl [Hfl]
    · unfold SFly storePost
      iexists _
      isplitl [Hfl]; · iexact Hfl
      iintro ⟨Hd, Hs⟩
      isplitl [Hd]
      · ihave Hd := (owns_intro (c : Thread nD τ) (oWin (qOf c ch n)) fullShare _) $$ Hd
        rw [← hfs]
        iapply (Entails.of_eq (congrArg (owns (c : Thread nD τ) (oWin (qOf c ch n)) fullShare) (View.read_write_univ _ _)))
        iexact Hd
      · rw [← hfs]
        iapply (owns_intro (c : Thread nD τ) (bslot n ch (n / 2)) fullShare.right fs)
        iexact Hs
    iexact Hfly
  iexact Hdone

theorem wp_store_wait {α : Type} {Q : α → sProp 𝕄} {k : PUnit → Prog (TpuEff nD τ sig (Elt F) Λ₀ .tc) α} {K : Dev nD × Fin 81 → ℕ}
    (c : Dev nD) (ch d : ℕ) {s n : ℕ} (hc : ch < 2) (hds : d < s) (hs : d < 16) (hn : n < 41) {s₁ : Shape} {e₁ : EltTy} {sp₁ sp₂ : Space}
    {src : Memref sig .tc sp₁ s₁ e₁} {dst : Memref sig .tc sp₂ S512x1024 .bf16} {q : DmaSem sig} (ed : dst.view.dmaCredit = NS)
    (eq : q = dsem (2 + 16 * ch + d)) {hsrc : src.view.WordExact} {hdst : dst.view.WordExact} :
    iprop(Core X K c n ∗ Stores X ch c s d)
      ⊢ iprop(((Core X K c n ∗ Stores X ch c s (d + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst eq
  unfold Core Stores
  rw [bigSep_Ico_succ_bot hds, bigSep_Ico_succ_top (Nat.zero_le d)]
  unfold SFly
  iintro ⟨⟨#HR, #Hlev, %W, HO⟩, Hpre, ⟨⟨%D, Hfl, HD⟩, Hfly⟩, Hdone⟩ Hk
  iapply (wp_waitLocalO countersEmb 𝒱₀ (c : Thread nD τ) none () (N := NS) ed (O := oweAt c n) (W := W)) $$ [Hfl HO]
  · isplitl [Hfl]; · iexact Hfl
    isplitl [HO]; · iexact HO
    iapply (mayWait c hn (.dma (dsem (2 + 16 * ch + d))) (by rw [lev_low (by omega) c]; omega)); iexact Hlev
  iintro ⟨HDv, Hv, HO⟩
  ihave Hp := HD $$ HDv
  iapply Hk
  isplitl [HO]
  · isplitr; · iexact HR
    isplitr; · iexact Hlev
    iexists _; iexact HO
  isplitl [Hpre]; · iexact Hpre
  isplitl [Hfly]; · iexact Hfly
  isplitr [Hdone]
  · isplitl [Hp] <;> iassumption
  iexact Hdone

end Cert.RingProof

end
-- ==== Proof.Scatter.lean ====
/- The complete sub-blocks of the reduction are copied into slot 0 of the ring gathers' buffers: a sub-block to the
upward buffer if its number is 0 or 1, to the downward buffer otherwise. -/
module

public import proofs.«01_k».proof.Proof.Local

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Arg (F := F))

/-- The right halves of the slots of the reduction, kept from the sends. -/
def Keep (ch : ℕ) (c : Dev nD) (n : ℕ) : sProp 𝕄 :=
  bigSep (Finset.Ico 0 n) fun h => owns (c : Thread nD τ) (slot .a ch h) fullShare.right (lv X .a ch h c)

theorem keep_add (ch : ℕ) (c : Dev nD) (n : ℕ) :
    iprop(Keep X ch c n ∗ owns (c : Thread nD τ) (slot .a ch n) fullShare.right (lv X .a ch n c)) ⊢ Keep X ch c (n + 1) := by
  unfold Keep
  rw [bigSep_Ico_succ_top (Nat.zero_le n)]
  exact sep_comm.1

/-- The first sub-block of a ring gather's half block. -/
def fb (f : Fam) : ℕ := if f = .v then 2 else 0
/-- Whether a sub-block goes to a ring gather's buffer. -/
def inFam (f : Fam) (sb : ℕ) : Prop := if f = .v then 2 ≤ sb else sb < 2

/-- A half of slot 0, written if its sub-block arrived in a slot before `j`. -/
def halfGot (f : Fam) (ch : ℕ) (c : Dev nD) (s j : ℕ) : sProp 𝕄 :=
  iprop(∃ Y, owns (c : Thread nD τ) (half f ch s) fullShare Y ∗ ⌜slotOf c (fb f + s) < j → Y = full X c ch (fb f + s)⌝)
/-- Slot 0 with the slots before `j` scattered. -/
def HalfSt (f : Fam) (ch : ℕ) (c : Dev nD) (j : ℕ) : sProp 𝕄 := iprop(halfGot X f ch c 0 j ∗ halfGot X f ch c 1 j)

/-- A slot of the reduction copied into a half. -/
theorem wp_copy_half {Q : PUnit.{1} → sProp 𝕄} (c : Dev nD) (f : Fam) (ch j s : ℕ) {ra : Rect S2x7x256x1024} (ea : ra = rA ch j)
    (hca : ra.shape.ShapeCasts S256x1024) {M : Memref sig .tc .vmem S2x8x512x1024 .bf16} (em : M = bufM f)
    {r : Rect S2x8x512x1024} (er : r = rH ch s) (hcr : r.shape.ShapeCasts S256x1024)
    {hl : aM.view.LoadsAt ra.toLoadRect} {hl2 : M.view.LoadsAt r.toLoadRect}
    {pay : (ra.shape.Idx → Elt F .bf16) → r.shape.Idx → Elt F .bf16}
    (hpay : ∀ v Y, shapeCast S256x1024 v hca = Y → shapeCast S256x1024 (pay v) hcr = Y)
    {hx : (M.access r).Stores Finset.univ} {hm : Finset.univ = Finset.univ ∨ ∀ a, r.stride a = 1}
    {q : PosShare TreeShare} {A Y : S256x1024.Idx → Elt F .bf16} :
    iprop(owns (c : Thread nD τ) (slot .a ch j) q A ∗ owns (c : Thread nD τ) (half f ch s) fullShare Y)
      ⊢ iprop(((owns (c : Thread nD τ) (slot .a ch j) q A ∗ owns (c : Thread nD τ) (half f ch s) fullShare A) -∗ Q ⟨⟩)
          -∗ wp frame (wpE (defs₀ (F := F)) 𝒱₀ (c : Thread nD τ) none) Set.univ
              (.op (.load aM ra.toLoadRect hl) fun v => .op (.load M r.toLoadRect hl2) fun _ =>
                .op (.store M r (pay v) Finset.univ hx hm) fun _ => .ret PUnit.unit) Q) := by
  subst em er
  iintro ⟨Ha, Hh⟩ Hk
  iapply (wp_aload c ch j ea hca (q := q) (Y := A)) $$ Ha
  iintro %v %hv Ha
  unfold half
  iapply (wp_vload c (m := bufM f) (r := rH ch s) (fun _ => rfl) squeezes_S1x1x256x1024_S256x1024 sc4 (q := fullShare) (Y := Y)) $$ Hh
  iintro %_ %_ Hh
  iapply (wp_vstore c (m := bufM f) (r := rH ch s) (fun _ => rfl) squeezes_S1x1x256x1024_S256x1024 hcr (Y := Y) (hpay v A hv)) $$ Hh
  iintro Hh
  rw [wp_ret]
  imodintro
  iapply Hk
  isplitl [Ha] <;> iassumption

theorem halfGot_skip {f : Fam} {ch : ℕ} {c : Dev nD} {s j : ℕ} (h : slotOf c (fb f + s) ≠ j) :
    halfGot X f ch c s j ⊢ halfGot X f ch c s (j + 1) := by
  unfold halfGot
  iintro ⟨%Y, H, %hY⟩
  iexists Y
  isplitl [H]; · iexact H
  ipureintro; intro h'; exact hY (by omega)

/-- One step of the scatter: slot `j` is copied if its sub-block is of this gather. -/
theorem wp_scatter {α : Type} {Q : α → sProp 𝕄} {k : PUnit.{1} → Prog (TpuEff nD τ sig (Elt F) Λ₀ .tc) α}
    (c : Dev nD) (f : Fam) (ch j : ℕ) (hj : 3 ≤ j ∧ j < 7) {cnd : BitVec 1} (hcnd : cnd = 1#1 ↔ inFam f ((yc c + 8 - j) % 4))
    {ra : Rect S2x7x256x1024} (ea : ra = rA ch j)
    (hca : ra.shape.ShapeCasts S256x1024) {M : Memref sig .tc .vmem S2x8x512x1024 .bf16} (em : M = bufM f)
    {r : cnd = 1#1 → Rect S2x8x512x1024} (er : ∀ h, r h = rH ch ((yc c + 8 - j) % 4 % 2)) (hcr : ∀ h, (r h).shape.ShapeCasts S256x1024)
    {hl : aM.view.LoadsAt ra.toLoadRect} {hl2 : ∀ h, M.view.LoadsAt (r h).toLoadRect}
    {pay : (h : cnd = 1#1) → (ra.shape.Idx → Elt F .bf16) → (r h).shape.Idx → Elt F .bf16}
    (hpay : ∀ h v Y, shapeCast S256x1024 v hca = Y → shapeCast S256x1024 (pay h v) (hcr h) = Y)
    {hx : ∀ h, (M.access (r h)).Stores Finset.univ} {hm : ∀ h, Finset.univ = Finset.univ ∨ ∀ a, (r h).stride a = 1} :
    iprop(Keep X ch c 7 ∗ HalfSt X f ch c j)
      ⊢ iprop(((Keep X ch c 7 ∗ HalfSt X f ch c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              ((dite (cnd = 1#1) (fun h => .op (.load aM ra.toLoadRect hl) fun v => .op (.load M (r h).toLoadRect (hl2 h)) fun _ =>
                .op (.store M (r h) (pay h v) Finset.univ (hx h) (hm h)) fun _ => .ret PUnit.unit) (fun _ => .ret PUnit.unit) :
                  Prog (TpuEff nD τ sig (Elt F) Λ₀ .tc) PUnit.{1}) >>= k) Q) := by
  have hy := yc_lt c
  iintro ⟨HK, HH⟩ Hk
  rw [wp_bind]
  by_cases h : cnd = 1#1
  · rw [dif_pos h]
    have hin := hcnd.mp h
    obtain ⟨s, hs, hsb⟩ : ∃ s, s < 2 ∧ (yc c + 8 - j) % 4 = fb f + s := by
      unfold inFam at hin; unfold fb
      by_cases hf : f = .v
      · rw [if_pos hf] at hin ⊢; exact ⟨(yc c + 8 - j) % 4 - 2, by omega, by omega⟩
      · rw [if_neg hf] at hin ⊢; exact ⟨(yc c + 8 - j) % 4, by omega, by omega⟩
    have hslot : slotOf c (fb f + s) = j := by unfold slotOf; rw [← hsb]; omega
    have hs2 : (yc c + 8 - j) % 4 % 2 = s := by rw [hsb]; unfold fb; split <;> omega
    have hother : ∀ s', s' < 2 → s' ≠ s → slotOf c (fb f + s') ≠ j := by
      intro s' h1 h2 h3
      apply h2
      unfold slotOf at h3 hslot
      have : fb f ≤ 2 := by unfold fb; split <;> omega
      omega
    have step : iprop(Keep X ch c 7 ∗ halfGot X f ch c s j)
        ⊢ wp frame (wpE (defs₀ (F := F)) 𝒱₀ (c : Thread nD τ) none) Set.univ
            (.op (.load aM ra.toLoadRect hl) fun v => .op (.load M (r h).toLoadRect (hl2 h)) fun _ =>
                .op (.store M (r h) (pay h v) Finset.univ (hx h) (hm h)) fun _ => .ret PUnit.unit)
            (fun _ => iprop(Keep X ch c 7 ∗ halfGot X f ch c s (j + 1))) := by
      unfold Keep halfGot
      have hmem : j ∈ Finset.Ico 0 7 := Finset.mem_Ico.mpr ⟨Nat.zero_le _, hj.2⟩
      have e : (bigSep (Finset.Ico 0 7) (fun h => owns (c : Thread nD τ) (slot .a ch h) fullShare.right (lv X .a ch h c)) : sProp 𝕄)
          = iprop(owns (c : Thread nD τ) (slot .a ch j) fullShare.right (lv X .a ch j c)
            ∗ bigSep ((Finset.Ico 0 7).erase j) fun h => owns (c : Thread nD τ) (slot .a ch h) fullShare.right (lv X .a ch h c)) :=
        bigSep_erase hmem
      rw [e]
      iintro ⟨⟨Ha, Hrest⟩, %Y, Hh, %hY⟩
      iapply (wp_copy_half c f ch j s ea hca em ((er h).trans (by rw [hs2])) (hcr h) (hpay h) (q := fullShare.right) (A := lv X .a ch j c) (Y := Y)) $$ [Ha Hh]
      · isplitl [Ha] <;> iassumption
      iintro ⟨Ha, Hh⟩
      isplitl [Ha Hrest]
      · isplitl [Ha] <;> iassumption
      iexists _
      isplitl [Hh]; · iexact Hh
      ipureintro; intro _
      show av X ch j c = av X ch (slotOf c (fb f + s)) c
      rw [hslot]
    unfold HalfSt
    icases HH with ⟨H0, H1⟩
    obtain rfl | rfl : s = 0 ∨ s = 1 := by omega
    · iapply (wp_wand) $$ [HK H0]
      · iapply step; isplitl [HK] <;> iassumption
      iintro %_ ⟨HK, H0⟩
      iapply Hk
      isplitl [HK]; · iexact HK
      isplitl [H0]; · iexact H0
      iapply (halfGot_skip X (hother 1 (by decide) (by decide))); iexact H1
    · iapply (wp_wand) $$ [HK H1]
      · iapply step; isplitl [HK] <;> iassumption
      iintro %_ ⟨HK, H1⟩
      iapply Hk
      isplitl [HK]; · iexact HK
      isplitr [H1]
      · iapply (halfGot_skip X (hother 0 (by decide) (by decide))); iexact H0
      iexact H1
  · rw [dif_neg h, wp_ret]
    imodintro
    iapply Hk
    isplitl [HK]; · iexact HK
    have hno : ∀ s, s < 2 → slotOf c (fb f + s) ≠ j := by
      intro s h1 h2
      apply h; apply hcnd.mpr
      unfold slotOf at h2; unfold inFam; unfold fb at h2
      by_cases hf : f = .v
      · rw [if_pos hf] at h2 ⊢; omega
      · rw [if_neg hf] at h2 ⊢; omega
    unfold HalfSt
    icases HH with ⟨H0, H1⟩
    isplitl [H0]
    · iapply (halfGot_skip X (hno 0 (by decide))); iexact H0
    · iapply (halfGot_skip X (hno 1 (by decide))); iexact H1

/-! ## Slot 0, whole -/

/-- A squeezed slice owned is the slice owned, at the contents cast. -/
theorem owns_squeeze (c : Dev nD) {sp : Space} {s t : Shape} {e : EltTy} (m : Memref sig .tc sp s e) (r : Rect s) (hr : ∀ a, r.stride a = 1)
    (hq : r.shape.Squeezes t) (hc : r.shape.ShapeCasts t) (hc' : t.ShapeCasts r.shape) (q : PosShare TreeShare) (Y : t.Idx → Elt F e) :
    (owns (c : Thread nD τ) ((m.slice r hr).squeeze t hq) q Y : sProp 𝕄) ⊢ owns (c : Thread nD τ) (m.slice r hr) q (shapeCast r.shape Y hc') := by
  iintro H
  ihave ⟨%f, %hf, H⟩ := (owns_some c _ _ _) $$ H
  rw [set_squeeze, ← hf, Memref.read_squeeze_slice m r hr hq hc, shapeCast_shapeCast]
  iapply (owns_intro (c : Thread nD τ) (m.slice r hr) q f); iexact H
theorem owns_unsqueeze (c : Dev nD) {sp : Space} {s t : Shape} {e : EltTy} (m : Memref sig .tc sp s e) (r : Rect s) (hr : ∀ a, r.stride a = 1)
    (hq : r.shape.Squeezes t) (hc : r.shape.ShapeCasts t) (q : PosShare TreeShare) (Y : r.shape.Idx → Elt F e) :
    (owns (c : Thread nD τ) (m.slice r hr) q Y : sProp 𝕄) ⊢ owns (c : Thread nD τ) ((m.slice r hr).squeeze t hq) q (shapeCast t Y hc) := by
  iintro H
  ihave ⟨%f, %hf, H⟩ := (owns_some c _ _ _) $$ H
  have h := owns_intro (Ix := Unit) (Name := ℕ) (U := UU) (Lvl := ℕ) (c : Thread nD τ) ((m.slice r hr).squeeze t hq) q f
  rw [set_squeeze, Memref.read_squeeze_slice m r hr hq hc f, show m.view.readAt (Elt F) r.toLoadRect f = Y from hf] at h
  iapply h; iexact H

theorem sc4' : S256x1024.ShapeCasts S1x1x256x1024 := shapeCasts_S256x1024_S1x1x256x1024
theorem sc5 : S1x1x512x1024.ShapeCasts S512x1024 := by decide

theorem cast4_apply {α : Type} (A : S256x1024.Idx → α) (j : S1x1x256x1024.Idx) :
    shapeCast S1x1x256x1024 A sc4' j = A (fun a => match a with | ⟨0, _⟩ => (j 2 : Fin 256) | ⟨1, _⟩ => (j 3 : Fin 1024)) := by
  refine shapeCast_apply _ _ _ _ ?_
  rw [Shape.rowMajor_val_four, Shape.rowMajor_val_two]
  have h0 : (j 0).val = 0 := by have : (j 0).val < 1 := (j 0).isLt; omega
  have h1 : (j 1).val = 0 := by have : (j 1).val < 1 := (j 1).isLt; omega
  rw [h0, h1]
  show (j 2).val * 1024 + (j 3).val = ((0 * 1 + 0) * 256 + (j 2).val) * 1024 + (j 3).val
  omega
theorem cast5_apply {α : Type} (A : S1x1x512x1024.Idx → α) (i : S512x1024.Idx) :
    shapeCast S512x1024 A sc5 i = A (fun a => match a with | ⟨0, _⟩ => (0 : Fin 1) | ⟨1, _⟩ => (0 : Fin 1) | ⟨2, _⟩ => (i 0 : Fin 512) | ⟨3, _⟩ => (i 1 : Fin 1024)) := by
  refine shapeCast_apply _ _ _ _ ?_
  rw [Shape.rowMajor_val_four, Shape.rowMajor_val_two]
  show ((0 * 1 + 0) * 512 + (i 0).val) * 1024 + (i 1).val = (i 0).val * 1024 + (i 1).val
  omega

/-- The row and column of an index of a ring gather's buffer. -/
def lowIdx4 (i : S2x8x512x1024.Idx) : S512x1024.Idx := fun a => match a with | ⟨0, _⟩ => (i 2 : Fin 512) | ⟨1, _⟩ => (i 3 : Fin 1024)

theorem rH_disj (ch : ℕ) (t t' : Fin 2) (h : t ≠ t') : Disjoint (rH ch t).set (rH ch t').set := by
  refine Rect.unit_disjoint (2 : Fin 4) ?_
  show 256 * (t.val % 2) + 256 ≤ 256 * (t'.val % 2) ∨ 256 * (t'.val % 2) + 256 ≤ 256 * (t.val % 2)
  have := Fin.val_ne_of_ne h
  omega

theorem rH_union (ch : ℕ) : (Finset.univ.biUnion fun t : Fin 2 => (rH ch t).set) = (rB ch 0).set := by
  ext i
  rw [Finset.mem_biUnion, Rect.mem_set_unit]
  constructor
  · rintro ⟨t, -, ht⟩
    rw [Rect.mem_set_unit] at ht
    have h0 := ht 0; have h1 := ht 1; have h2 := ht 2; have h3 := ht 3
    intro a; fin_cases a
    · exact h0
    · exact h1
    · refine ⟨Nat.zero_le _, ?_⟩
      exact (i 2).isLt
    · exact h3
  · intro hi
    have h0 := hi 0; have h1 := hi 1; have h2 := hi 2; have h3 := hi 3
    have hlt : (i 2).val < 512 := (i 2).isLt
    refine ⟨⟨(i 2).val / 256, by omega⟩, Finset.mem_univ _, ?_⟩
    rw [Rect.mem_set_unit]
    intro a; fin_cases a
    · exact h0
    · exact h1
    · show 256 * ((i 2).val / 256 % 2) ≤ (i 2).val ∧ (i 2).val < 256 * ((i 2).val / 256 % 2) + 256
      omega
    · exact h3

/-- The two halves as slices of the buffer, at the half block's contents. -/
theorem half_slice (f : Fam) (ch : ℕ) (c : Dev nD) (t : Fin 2) :
    halfGot X f ch c t 7 ⊢ owns (c : Thread nD τ) ((bufM f).slice (rH ch t) (fun _ => rfl)) fullShare
      (fun j => ring0 X f c ch (lowIdx4 ((rH ch t).emb j))) := by
  unfold halfGot half
  iintro ⟨%Y, H, %hY⟩
  have hlt : slotOf c (fb f + t) < 7 := by unfold slotOf; omega
  rw [hY hlt]
  ihave H := (owns_squeeze c (bufM f) (rH ch t) (fun _ => rfl) squeezes_S1x1x256x1024_S256x1024 sc4 sc4' fullShare _) $$ H
  have e : (fun j => ring0 X f c ch (lowIdx4 ((rH ch t).emb j))) = shapeCast S1x1x256x1024 (full X c ch (fb f + t)) sc4' := by
    funext j
    rw [cast4_apply]
    have h2 : (j 2).val < 256 := (j 2).isLt
    have ht : t.val < 2 := t.isLt
    have e2 : (lowIdx4 ((rH ch t).emb j) 0).val = 256 * (t.val % 2) + (j 2).val := by
      show ((rH ch t).emb j 2).val = _
      show 256 * (t.val % 2) + 1 * (j 2).val = _
      omega
    unfold ring0
    rw [show (if f = .v then 2 else 0) + (lowIdx4 ((rH ch t).emb j) 0).val / 256 = fb f + t.val by rw [e2]; unfold fb; split <;> omega]
    congr 1
    refine Shape.idx_ext₂ ?_ ?_
    · show (lowIdx4 ((rH ch t).emb j) 0).val % 256 = (j 2).val
      rw [e2]; omega
    · show ((rH ch t).emb j 3).val = (j 3).val
      show 0 + 1 * (j 3).val = _
      omega
  rw [e]
  iexact H

theorem halves_two (f : Fam) (ch : ℕ) (c : Dev nD) :
    iprop(halfGot X f ch c 0 7 ∗ halfGot X f ch c 1 7) ⊢ bigSep (Finset.univ : Finset (Fin 2)) fun t =>
      owns (c : Thread nD τ) ((bufM f).slice (rH ch t) (fun _ => rfl)) fullShare (fun j => ring0 X f c ch (lowIdx4 ((rH ch t).emb j))) := by
  rw [bigSep_fin_two]
  exact BI.sep_mono (half_slice X f ch c 0) (half_slice X f ch c 1)

/-- Slot 0, with every sub-block scattered. -/
theorem half_join (f : Fam) (ch : ℕ) (c : Dev nD) :
    HalfSt X f ch c 7 ⊢ owns (c : Thread nD τ) (((bufM f).slice (rB ch 0) (fun _ => rfl)).squeeze S512x1024 squeezes_S1x1x512x1024_S512x1024)
      fullShare (ring0 X f c ch) := by
  unfold HalfSt
  iintro ⟨H0, H1⟩
  ihave H := (owns_rects_join (c : Thread nD τ) (bufM f) fullShare (fun t : Fin 2 => rH ch t) (fun t a => rfl) (rH_disj ch)
    (fun i => ring0 X f c ch (lowIdx4 i)) Finset.univ) $$ [H0 H1]
  · iapply (halves_two X f ch c)
    isplitl [H0] <;> iassumption
  icases H with ⟨%g, %hg, H⟩
  have hset : (Finset.univ.biUnion fun t : Fin 2 => ((bufM f).view.slice (rH ch t)).set) = ((bufM f).view.slice (rB ch 0)).set := by
    simp only [View.set_slice]
    rw [← rH_union ch]
    ext y; simp only [Finset.mem_biUnion, Finset.mem_map]
    constructor
    · rintro ⟨t, h1, x, h2, h3⟩; exact ⟨x, ⟨t, h1, h2⟩, h3⟩
    · rintro ⟨x, ⟨t, h1, h2⟩, h3⟩; exact ⟨t, h1, x, h2, h3⟩
  rw [hset]
  ihave H := (owns_intro (c : Thread nD τ) ((bufM f).slice (rB ch 0) (fun _ => rfl)) fullShare g) $$ H
  ihave H := (owns_unsqueeze c (bufM f) (rB ch 0) (fun _ => rfl) squeezes_S1x1x512x1024_S512x1024 sc5 fullShare _) $$ H
  rw [show ring0 X f c ch = shapeCast S512x1024 (((bufM f).slice (rB ch 0) (fun _ => rfl)).view.read (Elt F) g) sc5 from ?_]
  · iexact H
  funext i
  rw [cast5_apply]
  have hmem : ∀ j : (rB ch 0).shape.Idx, (bufM f).view.read (Elt F) g ((rB ch 0).emb j) = ring0 X f c ch (lowIdx4 ((rB ch 0).emb j)) := by
    intro j
    have hj : (rB ch 0).emb j ∈ (rB ch 0).set := by rw [← Rect.map_emb_univ]; exact Finset.mem_map_of_mem _ (Finset.mem_univ _)
    rw [← rH_union ch, Finset.mem_biUnion] at hj
    obtain ⟨t, ht, hj⟩ := hj
    rw [← Rect.map_emb_univ, Finset.mem_map] at hj
    obtain ⟨x, -, hx⟩ := hj
    rw [← hx]; exact hg t ht x
  refine Eq.trans ?_ (hmem _).symm
  congr 1
  refine Shape.idx_ext₂ ?_ ?_
  · show (i 0).val = 0 + 1 * (i 0).val
    omega
  · show (i 1).val = 0 + 1 * (i 1).val
    omega

end Cert.RingProof

end
-- ==== Proof.Steps.lean ====
/- The steps the body is made of, in the form the run applies them in: devices, offsets and conditions in closed form. -/
module

public import proofs.«01_k».proof.Proof.Scatter

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Arg (F := F)) (K : Dev nD × Fin 81 → ℕ)

theorem cur2 {A B R : sProp 𝕄} (h : iprop(A ∗ B) ⊢ R) : A ⊢ iprop(B -∗ R) := by
  iintro HA HB
  iapply h
  isplitl [HA] <;> iassumption
theorem cur3 {A B C R : sProp 𝕄} (h : iprop(A ∗ B ∗ C) ⊢ R) : A ⊢ iprop(B -∗ C -∗ R) := by
  iintro HA HB HC
  iapply h
  isplitl [HA]; · iexact HA
  isplitl [HB] <;> iassumption

/-- A device from its number. -/
theorem dv {n : ℕ} (h : n < nD) {u : Dev nD} (e : n = u.val) : (⟨n, h⟩ : Dev nD) = u := Fin.ext e

/-- The halves of a slot. -/
theorem halves {f : Fam} {ch j : ℕ} {c : Dev nD} {Y : f.sh.Idx → Elt F .bf16} :
    (owns (c : Thread nD τ) (slot f ch j) fullShare Y : sProp 𝕄)
      ⊢ iprop(owns (c : Thread nD τ) (slot f ch j) fullShare.left Y ∗ owns (c : Thread nD τ) (slot f ch j) fullShare.right Y) :=
  (owns_halves (c : Thread nD τ) (slot f ch j) fullShare Y).1

/-- An arrival of a chain, of what the next copy sends on. -/
theorem wp_recv2 {α : Type} {Q : α → sProp 𝕄} {k : PUnit → Prog (TpuEff nD τ sig (Elt F) Λ₀ .tc) α}
    (c : Dev nD) (f : Fam) (ch : ℕ) {s r d n : ℕ} {s₁ : Shape} {e₁ : EltTy} {sp₁ : Space} {src : Memref sig .tc sp₁ s₁ e₁}
    {dst : Memref sig .tc .vmem f.sh .bf16} {q : DmaSem sig} (hc : ch < 2) (hr : r < f.len) (hn : n < 41) (hl : lpos f ch r < n)
    (hv : landed X f ch r c = lv X f ch (r + 1) c)
    (ed : dst = slot f ch (r + 1)) (eq : q = dsem (f.rBase ch + r)) {hsrc : src.view.WordExact} {hdst : dst.view.WordExact} :
    iprop(Core X K c n ∗ Chain X f ch c s r d)
      ⊢ iprop(((Core X K c n ∗ Chain X f ch c s (r + 1) d ∗ owns (c : Thread nD τ) (slot f ch (r + 1)) fullShare.left (lv X f ch (r + 1) c)
              ∗ owns (c : Thread nD τ) (slot f ch (r + 1)) fullShare.right (lv X f ch (r + 1) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro H Hk
  iapply (wp_lane_recv X K c f ch hc hr hn hl ed eq) $$ H
  iintro ⟨HC, Hch, Hs⟩
  rw [hv]
  ihave Hs := halves $$ Hs
  iapply Hk
  isplitl [HC]; · iexact HC
  isplitl [Hch]; · iexact Hch
  iexact Hs

/-- A sub-block added to what landed: the slot holds what the next copy sends. -/
theorem wp_accum {α : Type} {Q : α → sProp 𝕄} {k : PUnit → Prog (TpuEff nD τ sig (Elt F) Λ₀ .tc) α}
    (c : Dev nD) (ch h b : ℕ) (hh : h < 3) {r : Rect S2x7x256x1024} (er : r = rA ch (h + 1)) (hc : r.shape.ShapeCasts S256x1024)
    {rx : Rect S2x256x1024} (ex : rx = rX b) (hcx : rx.shape.ShapeCasts S256x1024)
    {hl : (aM.view).LoadsAt r.toLoadRect} {hlx : (bM.view).LoadsAt rx.toLoadRect}
    {pay : (r.shape.Idx → Elt F .bf16) → (rx.shape.Idx → Elt F .f32) → r.shape.Idx → Elt F .bf16}
    (hpay : ∀ v x A Y, shapeCast S256x1024 v hc = A → shapeCast S256x1024 x hcx = Y →
      shapeCast S256x1024 (pay v x) hc = truncf (F := F) .bf16 (addf (extf (F := F) .f32 A bitsLt_bf16_f32) Y) bitsLt_bf16_f32)
    {hx : (aM.access r).Stores Finset.univ} {hm : Finset.univ = Finset.univ ∨ ∀ a, r.stride a = 1} :
    iprop(owns (c : Thread nD τ) (slot .a ch (h + 1)) fullShare (landed X .a ch h c) ∗ LBuf X c b (xl X c ch (yc c + 3 - h)))
      ⊢ iprop(((owns (c : Thread nD τ) (slot .a ch (h + 1)) fullShare.left (lv X .a ch (h + 1) c)
              ∗ owns (c : Thread nD τ) (slot .a ch (h + 1)) fullShare.right (lv X .a ch (h + 1) c) ∗ LBuf X c b (xl X c ch (yc c + 3 - h)))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load aM r.toLoadRect hl) fun v => .op (.load bM rx.toLoadRect hlx) fun x => .op (.load aM r.toLoadRect hl) fun _ =>
              .op (.store aM r (pay v x) Finset.univ hx hm) k) Q) := by
  iintro ⟨Ha, Hb⟩ Hk
  iapply (wp_aload c ch (h + 1) er hc) $$ Ha
  iintro %v %hv Ha
  iapply (wp_xload X c b ex hcx) $$ Hb
  iintro %x %hx' Hb
  iapply (wp_aload c ch (h + 1) er hc) $$ Ha
  iintro %_ %_ Ha
  iapply (wp_astore c ch (h + 1) er hc ((hpay v x _ _ hv hx').trans (av_next X hh c))) $$ Ha
  iintro Ha
  ihave ⟨Hl, Hr⟩ := halves $$ Ha
  iapply Hk
  isplitl [Hl]; · iexact Hl
  isplitl [Hr] <;> iassumption

/-! ## Offsets -/

theorem off_i {off : Fin 2 → ℕ} {n q : ℕ} (h : off = ![n, 0]) (e : n = q) : off = ![q, 0] := by rw [h, e]

theorem load_off1 (c : Dev nD) (r : Fin 2) :
    k0_off1 c (BitVec.ofNat 32 (1024 * r.val)) = ![256 * ((8 * pos c + 4 * (r.val % 2) + yc c % 4) % 64), 0] := by
  refine off_i (k0_off1_eq c r) ?_
  have := pos_lt c; have hr := r.isLt
  show 2048 * pos c + 1024 * r.val + 256 * yc c = _
  have := yc_lt c
  omega
theorem load_off2 (c : Dev nD) (r : Fin 2) :
    k0_off2 c (BitVec.ofNat 32 (1024 * r.val)) = ![256 * ((8 * pos c + 4 * (r.val % 2) + (yc c + 3 - 0) % 4) % 64), 0] := by
  refine off_i (k0_off2_eq c r) ?_
  have := pos_lt c; have hr := r.isLt
  show 2048 * pos c + 1024 * r.val + 256 * ((yc c + 3) % 4) = _
  have := yc_lt c
  omega
theorem load_off3 (c : Dev nD) (r h : Fin 2) :
    k0_off3 c (BitVec.ofNat 32 (1024 * r.val)) (BitVec.ofNat 32 h.val)
      = ![256 * ((8 * pos c + 4 * (r.val % 2) + (yc c + 3 - (h.val + 1)) % 4) % 64), 0] := by
  refine off_i (k0_off3_eq c r h) ?_
  have := pos_lt c; have hr := r.isLt; have hh := h.isLt
  show 2048 * pos c + 1024 * r.val + 256 * ((yc c + 2 - h.val) % 4) = _
  have := yc_lt c
  omega
theorem store_off12 (c : Dev nD) (r : Fin 2) :
    k0_off12 c (BitVec.ofNat 32 (1024 * r.val)) = ![512 * (qOf c r.val 0 % 32), 0] := by
  refine off_i (k0_off12_eq c r) ?_
  have := pos_lt c; have hr := r.isLt
  show 2048 * pos c + 1024 * r.val = 512 * ((4 * ((pos c + 8 - 0) % 8) + 2 * (r.val % 2)) % 32)
  omega
theorem store_off13 (c : Dev nD) (r : Fin 2) :
    k0_off13 c (BitVec.ofNat 32 (1024 * r.val)) = ![512 * (qOf c r.val 1 % 32), 0] := by
  refine off_i (k0_off13_eq c r) ?_
  have := pos_lt c; have hr := r.isLt
  show 2048 * pos c + 1024 * r.val + 512 = 512 * ((4 * ((pos c + 0) % 8) + 2 * (r.val % 2) + 1) % 32)
  omega
theorem qOf_even (c : Dev nD) (ch k : ℕ) : qOf c ch (2 * k) = 4 * ((pos c + 8 - k) % 8) + 2 * (ch % 2) := by
  unfold qOf; rw [if_pos (by omega), show 2 * k / 2 = k by omega]
theorem qOf_odd (c : Dev nD) (ch k : ℕ) : qOf c ch (2 * k + 1) = 4 * ((pos c + k) % 8) + 2 * (ch % 2) + 1 := by
  unfold qOf; rw [if_neg (by omega), show (2 * k + 1) / 2 = k by omega]
theorem store_off14 (c : Dev nD) (k : Fin 7) (r : Fin 2) :
    k0_off14 c (BitVec.ofNat 32 k.val) (BitVec.ofNat 32 (1024 * r.val)) = ![512 * (qOf c r.val (2 * (k.val + 1)) % 32), 0] := by
  refine off_i (k0_off14_eq c k r) ?_
  have := pos_lt c; have hr := r.isLt; have hk := k.isLt
  rw [qOf_even]
  show 2048 * ((pos c + 7 - k.val) % 8) + 1024 * r.val = _
  omega
theorem store_off15 (c : Dev nD) (k : Fin 7) (r : Fin 2) :
    k0_off15 c (BitVec.ofNat 32 k.val) (BitVec.ofNat 32 (1024 * r.val)) = ![512 * (qOf c r.val (2 * (k.val + 1) + 1) % 32), 0] := by
  refine off_i (k0_off15_eq c k r) ?_
  have := pos_lt c; have hr := r.isLt; have hk := k.isLt
  rw [qOf_odd]
  show 2048 * ((pos c + k.val + 1) % 8) + 1024 * r.val + 512 = _
  omega

/-! ## The scatter's rectangles and conditions -/

theorem rH_of {ch s : ℕ} {off : Fin 4 → ℕ} (inb : ∀ a, off a + S1x1x256x1024.size a ≤ S2x8x512x1024.size a)
    (e : off = ![ch % 2, 0, 256 * (s % 2), 0]) : Rect.unit (s := S2x8x512x1024) off S1x1x256x1024.size inb = rH ch s := by
  subst e; rfl
theorem half_off {off : Fin 4 → ℕ} {a n s : ℕ} (h : off = ![a, 0, n, 0]) (e : n = 256 * (s % 2)) :
    off = ![a, 0, 256 * (s % 2), 0] := by rw [h, e]

/-- The same step, as the body writes it: what follows the copy is in both branches. -/
theorem wp_scatter_jp {α : Type} {Q : α → sProp 𝕄} {k : PUnit.{1} → Prog (TpuEff nD τ sig (Elt F) Λ₀ .tc) α}
    (c : Dev nD) (f : Fam) (ch j : ℕ) (hj : 3 ≤ j ∧ j < 7) {cnd : BitVec 1} (hcnd : cnd = 1#1 ↔ inFam f ((yc c + 8 - j) % 4))
    {ra : Rect S2x7x256x1024} (ea : ra = rA ch j)
    (hca : ra.shape.ShapeCasts S256x1024) {M : Memref sig .tc .vmem S2x8x512x1024 .bf16} (em : M = bufM f)
    {off : Fin 4 → ℕ} (eo : off = ![ch % 2, 0, 256 * ((yc c + 8 - j) % 4 % 2 % 2), 0])
    {inb : cnd = 1#1 → ∀ a, off a + S1x1x256x1024.size a ≤ S2x8x512x1024.size a}
    {hl : aM.view.LoadsAt ra.toLoadRect} {hl2 : ∀ h, M.view.LoadsAt (Rect.unit (s := S2x8x512x1024) off S1x1x256x1024.size (inb h)).toLoadRect}
    {pay : (ra.shape.Idx → Elt F .bf16) → S1x1x256x1024.Idx → Elt F .bf16}
    (hpay : ∀ v Y, shapeCast S256x1024 v hca = Y → shapeCast S256x1024 (pay v) sc4 = Y)
    {hx : ∀ h, (M.access (Rect.unit (s := S2x8x512x1024) off S1x1x256x1024.size (inb h))).Stores Finset.univ}
    {hm : ∀ h, Finset.univ = Finset.univ ∨ ∀ a, (Rect.unit (s := S2x8x512x1024) off S1x1x256x1024.size (inb h)).stride a = 1} :
    iprop(Keep X ch c 7 ∗ HalfSt X f ch c j)
      ⊢ iprop(((Keep X ch c 7 ∗ HalfSt X f ch c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (dite (cnd = 1#1) (fun h => .op (.load aM ra.toLoadRect hl) fun v =>
                .op (.load M (Rect.unit (s := S2x8x512x1024) off S1x1x256x1024.size (inb h)).toLoadRect (hl2 h)) fun _ =>
                .op (.store M (Rect.unit (s := S2x8x512x1024) off S1x1x256x1024.size (inb h)) (pay v) Finset.univ (hx h) (hm h)) k) (fun _ => k ⟨⟩)) Q) := by
  have H := wp_scatter X c f ch j hj hcnd ea hca em (r := fun h => Rect.unit (s := S2x8x512x1024) off S1x1x256x1024.size (inb h))
    (fun h => rH_of (inb h) eo) (fun _ => sc4) (pay := fun _ => pay) (fun _ => hpay) (hl := hl) (hl2 := hl2) (hx := hx) (hm := hm) (k := k) (Q := Q)
  by_cases h : cnd = 1#1
  · rw [dif_pos h] at H ⊢; exact H
  · rw [dif_neg h] at H ⊢; exact H

theorem scat_eq (c : Dev nD) {a j : ℕ} (h : a + j = 8 := by decide) :
    256 * ((((c.val / 4) % 4 + a) % 4) % 2) = 256 * (((yc c + 8 - j) % 4 % 2) % 2) := by
  unfold yc; omega

theorem cond1 (c : Dev nD) : k0_cond1 c = 1#1 ↔ inFam .w ((yc c + 8 - 3) % 4) := by
  show _ ↔ (c.val / 4 % 4 + 8 - 3) % 4 < 2
  revert c; decide +kernel
theorem cond2 (c : Dev nD) : k0_cond2 c = 1#1 ↔ inFam .v ((yc c + 8 - 3) % 4) := by
  show _ ↔ 2 ≤ (c.val / 4 % 4 + 8 - 3) % 4
  revert c; decide +kernel
theorem cond3 (c : Dev nD) : k0_cond3 c = 1#1 ↔ inFam .w ((yc c + 8 - 4) % 4) := by
  show _ ↔ (c.val / 4 % 4 + 8 - 4) % 4 < 2
  revert c; decide +kernel
theorem cond4 (c : Dev nD) : k0_cond4 c = 1#1 ↔ inFam .v ((yc c + 8 - 4) % 4) := by
  show _ ↔ 2 ≤ (c.val / 4 % 4 + 8 - 4) % 4
  revert c; decide +kernel
theorem cond5 (c : Dev nD) : k0_cond5 c = 1#1 ↔ inFam .w ((yc c + 8 - 5) % 4) := by
  show _ ↔ (c.val / 4 % 4 + 8 - 5) % 4 < 2
  revert c; decide +kernel
theorem cond6 (c : Dev nD) : k0_cond6 c = 1#1 ↔ inFam .v ((yc c + 8 - 5) % 4) := by
  show _ ↔ 2 ≤ (c.val / 4 % 4 + 8 - 5) % 4
  revert c; decide +kernel
theorem cond7 (c : Dev nD) : k0_cond7 c = 1#1 ↔ inFam .w ((yc c + 8 - 6) % 4) := by
  show _ ↔ (c.val / 4 % 4 + 8 - 6) % 4 < 2
  revert c; decide +kernel
theorem cond8 (c : Dev nD) : k0_cond8 c = 1#1 ↔ inFam .v ((yc c + 8 - 6) % 4) := by
  show _ ↔ 2 ≤ (c.val / 4 % 4 + 8 - 6) % 4
  revert c; decide +kernel
/-- Channel 1's conditions are channel 0's. -/
theorem conds (c : Dev nD) : k0_cond9 c = k0_cond1 c ∧ k0_cond10 c = k0_cond2 c ∧ k0_cond11 c = k0_cond3 c ∧ k0_cond12 c = k0_cond4 c
    ∧ k0_cond13 c = k0_cond5 c ∧ k0_cond14 c = k0_cond6 c ∧ k0_cond15 c = k0_cond7 c ∧ k0_cond16 c = k0_cond8 c := by
  revert c; decide +kernel
theorem cond_of {a b : BitVec 1} {p : Prop} (e : a = b) (h : b = 1#1 ↔ p) : a = 1#1 ↔ p := by rw [e]; exact h

/-- Slot 0 of a ring gather's buffer, in halves. -/
theorem half_w (ch : ℕ) (c : Dev nD) : HalfSt X .w ch c 7 ⊢ iprop(owns (c : Thread nD τ) (slot .w ch 0) fullShare.left (lv X .w ch 0 c)
    ∗ owns (c : Thread nD τ) (slot .w ch 0) fullShare.right (lv X .w ch 0 c)) :=
  (half_join X .w ch c).trans (halves (f := .w) (ch := ch) (j := 0) (Y := ring0 X .w c ch))
theorem half_v (ch : ℕ) (c : Dev nD) : HalfSt X .v ch c 7 ⊢ iprop(owns (c : Thread nD τ) (slot .v ch 0) fullShare.left (lv X .v ch 0 c)
    ∗ owns (c : Thread nD τ) (slot .v ch 0) fullShare.right (lv X .v ch 0 c)) :=
  (half_join X .v ch c).trans (halves (f := .v) (ch := ch) (j := 0) (Y := ring0 X .v c ch))

theorem keep_one (ch : ℕ) (c : Dev nD) : owns (c : Thread nD τ) (slot .a ch 0) fullShare.right (lv X .a ch 0 c) ⊢ Keep X ch c 1 := by
  iintro H
  iapply (cur2 (keep_add X ch c 0)) $$ [] H
  unfold Keep
  rw [Finset.Ico_self, bigSep_empty]
  iempintro

/-- The await of a store, at a window of the result. -/
theorem wp_swait {α : Type} {Q : α → sProp 𝕄} {k : PUnit → Prog (TpuEff nD τ sig (Elt F) Λ₀ .tc) α} {K : Dev nD × Fin 81 → ℕ}
    (c : Dev nD) (ch d : ℕ) {s n : ℕ} (hc : ch < 2) (hds : d < s) (hs : d < 16) (hn : n < 41) {s₁ : Shape} {e₁ : EltTy} {sp₁ : Space}
    {src : Memref sig .tc sp₁ s₁ e₁} {dst : Memref sig .tc .hbm S512x1024 .bf16} {q : DmaSem sig} {off : Fin 2 → ℕ} {inb} {hr}
    (ed : dst = oM.slice (Rect.unit (s := S16384x1024) off S512x1024.size inb) hr) (eq : q = dsem (2 + 16 * ch + d))
    {hsrc : src.view.WordExact} {hdst : dst.view.WordExact} :
    iprop(Core X K c n ∗ Stores X ch c s d)
      ⊢ iprop(((Core X K c n ∗ Stores X ch c s (d + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  wp_store_wait X c ch d hc hds hs hn (by subst ed; rfl) eq

/-! ## The start -/

/-- A chain before the barrier: the rights to pay its semaphores, and what its arrivals and awaits will need. -/
def Chain0 (f : Fam) (ch : ℕ) (c : Dev nD) : sProp 𝕄 :=
  iprop((bigSep (Finset.Ico 0 f.len) fun h => dutyTok ER (sCell f c ch h) 0 0)
    ∗ (bigSep (Finset.Ico 0 f.len) fun h => dutyTok ER (rCell f (f.tgt c) ch h) 0 0)
    ∗ (bigSep (Finset.Ico 0 f.len) fun h => atPos ER (sCell f c ch h) 0 ∅ 0)
    ∗ (bigSep (Finset.Ico 0 f.len) (recvPre f ch c)))

/-- The slots a channel's copies land in. -/
def chSlots (f : Fam) (ch : ℕ) (c : Dev nD) : sProp 𝕄 :=
  bigSep (Finset.Ico 0 f.len) fun h => iprop(∃ Y, owns (c : Thread nD τ) (slot f ch (h + 1)) fullShare Y)

theorem sep_nil (P : sProp 𝕄) (Φ : ℕ → sProp 𝕄) : iprop(P ∗ bigSep ∅ Φ) = P := by
  rw [bigSep_empty]; exact equiv_iff.mp BI.sep_emp
theorem nil_sep (P : sProp 𝕄) (Φ : ℕ → sProp 𝕄) : iprop((bigSep ∅ Φ) ∗ P) = P := by
  rw [bigSep_empty]; exact equiv_iff.mp BI.emp_sep

theorem land_split (f : Fam) (c : Dev nD) : landSlots (F := F) f c = iprop(chSlots f 0 c ∗ chSlots f 1 c) := by
  unfold landSlots
  rw [bigSep_Ico_succ_bot (by decide : (0 : ℕ) < 2), bigSep_Ico_succ_bot (by decide : 0 + 1 < 2), Finset.Ico_self, sep_nil]
  rfl

/-- With the landing slots of the neighbour it sends to, a chain is ready. -/
theorem chain_intro (f : Fam) (ch : ℕ) (c : Dev nD) : iprop(Chain0 f ch c ∗ chSlots f ch (f.tgt c)) ⊢ Chain X f ch c 0 0 0 := by
  unfold Chain0 chSlots Chain lanePre
  simp only [Finset.Ico_self, sep_nil, nil_sep, bigSep_sep']
  iintro ⟨⟨H1, H2, H3, H4⟩, H5⟩
  isplitl [H1 H2 H5]
  · isplitl [H1]; · iexact H1
    isplitl [H2] <;> iassumption
  isplitl [H3] <;> iassumption

/-- What a device starts the body with. -/
def Start (c : Dev nD) : sProp 𝕄 :=
  iprop(records X K ∗ levAts L lev ∗ (∃ W, owes (c : Thread nD τ) (O₀ c) W)
    ∗ (dutyTok ER (barCell (yl c)) 0 0 ∗ dutyTok ER (barCell (yr c)) 0 1 ∗ dutyTok ER (barCell (nx c)) 0 2 ∗ dutyTok ER (barCell (pv c)) 0 3)
    ∗ (landSlots .a c ∗ landSlots .v c ∗ landSlots .w c)
    ∗ (atPos ER (barCell c) 0 ∅ 0 ∗ cred (tallyAt (barCell c) () 4))
    ∗ (∃ Y, LBuf X c 0 Y) ∗ (∃ Y, LBuf X c 1 Y)
    ∗ (∃ Y, owns (c : Thread nD τ) (slot .a 0 0) fullShare Y) ∗ (∃ Y, owns (c : Thread nD τ) (slot .a 1 0) fullShare Y)
    ∗ Chain0 .a 0 c ∗ Chain0 .a 1 c ∗ Chain0 .w 0 c ∗ Chain0 .w 1 c ∗ Chain0 .v 0 c ∗ Chain0 .v 1 c
    ∗ HalfSt X .w 0 c 3 ∗ HalfSt X .v 0 c 3 ∗ HalfSt X .w 1 c 3 ∗ HalfSt X .v 1 c 3
    ∗ Stores X 0 c 0 0 ∗ Stores X 1 c 0 0)

/-- What it ends with, once `e` of channel 1's stores to the result have been awaited. -/
def Finish (c : Dev nD) (e : ℕ) : sProp 𝕄 :=
  iprop(Core X K c 40 ∗ semVal (barCell c) 0
    ∗ (∃ Y, LBuf X c 0 Y) ∗ (∃ Y, LBuf X c 1 Y)
    ∗ Chain X .a 0 c 6 6 6 ∗ Chain X .a 1 c 6 6 6 ∗ Chain X .w 0 c 7 7 7 ∗ Chain X .w 1 c 7 7 7 ∗ Chain X .v 0 c 7 7 7 ∗ Chain X .v 1 c 7 7 7
    ∗ Keep X 0 c 7 ∗ Keep X 1 c 7
    ∗ owns (c : Thread nD τ) (slot .a 0 6) fullShare.left (lv X .a 0 6 c) ∗ owns (c : Thread nD τ) (slot .a 1 6) fullShare.left (lv X .a 1 6 c)
    ∗ owns (c : Thread nD τ) (slot .w 0 7) fullShare.left (lv X .w 0 7 c) ∗ owns (c : Thread nD τ) (slot .w 1 7) fullShare.left (lv X .w 1 7 c)
    ∗ owns (c : Thread nD τ) (slot .v 0 7) fullShare.left (lv X .v 0 7 c) ∗ owns (c : Thread nD τ) (slot .v 1 7) fullShare.left (lv X .v 1 7 c)
    ∗ Stores X 0 c 16 16 ∗ Stores X 1 c 16 e)

end Cert.RingProof

end
-- ==== Proof.RunA.lean ====
/- Run. -/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8 k0_cond9 k0_cond10 k0_cond11 k0_cond12
  k0_cond13 k0_cond14 k0_cond15 k0_cond16

variable (X : Arg (F := F)) (K : Dev nD × Fin 81 → ℕ)

/-- The middle of the body: the two reductions and channel 0's gather have landed, channel 1's gather is half done. -/
def Mid (c : Dev nD) : sProp 𝕄 :=
  iprop(Core X K c 38 ∗ semVal (barCell c) 0
    ∗ (∃ Y, LBuf X c 0 Y) ∗ (∃ Y, LBuf X c 1 Y)
    ∗ Chain X .a 0 c 6 6 0 ∗ Chain X .a 1 c 6 6 0 ∗ Chain X .w 0 c 7 7 0 ∗ Chain X .w 1 c 6 5 0 ∗ Chain X .v 0 c 7 7 0 ∗ Chain X .v 1 c 6 5 0
    ∗ Keep X 0 c 7 ∗ Keep X 1 c 7
    ∗ owns (c : Thread nD τ) (slot .a 0 6) fullShare.left (lv X .a 0 6 c) ∗ owns (c : Thread nD τ) (slot .a 1 6) fullShare.left (lv X .a 1 6 c)
    ∗ owns (c : Thread nD τ) (slot .w 0 7) fullShare.left (lv X .w 0 7 c) ∗ owns (c : Thread nD τ) (slot .v 0 7) fullShare.left (lv X .v 0 7 c)
    ∗ Stores X 0 c 16 0 ∗ Stores X 1 c 12 0)

/-- The words the body computes from its device: whatever they are, the device is `c`. -/
theorem run_words (c : Dev nD) {Q} :
    (iprop(∀ v2, ∀ v5, ∀ v8, ∀ v10, ∀ v13, ∀ v16, ∀ v20, ∀ v23, ∀ v26, ∀ v28, ∀ v29, ∀ v30, Q ⟨c, v2, v5, v8, v10, v13, v16, v20, v23, v26, v28, v29, v30⟩) : sProp 𝕄)
      ⊢ wp frame (wpE (defs₀ (F := F)) 𝒱₀ (c : Thread nD τ) none) Set.univ (k0_part1 (F := F) (Memref.whole main_arg0) (Memref.isWhole_whole _) (Memref.whole main_v1) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11) Q := by
  iintro H
  rw [k0_part1_eq_skeleton]
  unfold k0_part1_skel
  simp only [Prog.lift, Prog.bind_op, Prog.bind_ret, Prog.pure_eq_ret, semSignalWord, semWaitWord, wp_deviceId]
  rw [wp_ret]; imodintro
  iapply H

theorem pay_a (c : Dev nD) : landSlots (F := F) .a c ⊢ barPay (yl c) 0 := by
  show _ ⊢ landSlots .a (yr (yl c)); rw [yr_yl]
theorem pay_v (c : Dev nD) : landSlots (F := F) .v c ⊢ barPay (nx c) 2 := by
  show _ ⊢ landSlots .v (pv (nx c)); rw [pv_nx]
theorem pay_w (c : Dev nD) : landSlots (F := F) .w c ⊢ barPay (pv c) 3 := by
  show _ ⊢ landSlots .w (nx (pv c)); rw [nx_pv]
theorem chain_of (f : Fam) (ch : ℕ) (c : Dev nD) {t : Dev nD} (e : f.tgt c = t) : iprop(Chain0 f ch c ∗ chSlots f ch t) ⊢ Chain X f ch c 0 0 0 := by
  subst e; exact chain_intro X f ch c

set_option maxHeartbeats 4000000 in
theorem run_first (c : Dev nD) {Q} :
    Start X K c ⊢ iprop((∀ v5, ∀ v16, ∀ v20, ∀ v23, ∀ v28, ∀ v31, Mid X K c -∗ Q ⟨c, v5, v16, v20, v23, v28, v31⟩)
      -∗ wp frame (wpE (defs₀ (F := F)) 𝒱₀ (c : Thread nD τ) none) Set.univ (k0_part85 (F := F) (Memref.whole main_arg0) (Memref.isWhole_whole _) (Memref.whole main_v1) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11) Q) := by
  unfold Start
  iintro ⟨#HR, #Hlev, ⟨%W, HO⟩, ⟨Ht0, Ht1, Ht2, Ht3⟩, ⟨HLa, HLv, HLw⟩, ⟨Hat, Hcr⟩, ⟨%Y0, HB0⟩, ⟨%Y1, HB1⟩, ⟨%Y2, Hs0⟩, ⟨%Y3, Hs1⟩, HA0, HA1, HW0, HW1, HV0, HV1,
    HHw0, HHv0, HHw1, HHv1, HS0, HS1⟩ Hk
  rw [k0_part85_eq_skeleton]
  unfold k0_part85_skel
  rw [wp_bind]
  iapply run_words
  iintro %v2 %v5 %v8 %v10 %v13 %v16 %v20 %v23 %v26 %v28 %v29 %v30
  rw [wp_bind, k0_part2_eq_skeleton]
  unfold k0_part2_skel
  simp only [Prog.lift, Prog.bind_op, Prog.bind_ret, Prog.pure_eq_ret, semSignalWord, semWaitWord, wp_deviceId]
  iapply (wp_load_start X c 0 0 (yc c) (load_off1 c 0) rfl rfl) $$ HB0
  iintro HB0
  iapply (wp_bar_signal X K c (yl c) _ 0 (dv (k0_dev1_lt c) (k0_dev1_eq c)) (O := oweB1 c) (O' := O₀ c) rfl (W := W)) $$ [HO Ht0 HLa]
  · isplitr; · iexact HR
    isplitl [HO]; · iexact HO
    isplitl [Ht0]; · iexact Ht0
    iapply (pay_a c) $$ HLa
  iintro HO
  iapply (wp_bar_signal X K c (yr c) _ 1 (dv (k0_dev2_lt c) (k0_dev2_eq c)) (O := oweB2 c) (O' := oweB1 c) rfl (W := W)) $$ [HO Ht1]
  · isplitr; · iexact HR
    isplitl [HO]; · iexact HO
    isplitl [Ht1]; · iexact Ht1
    iempintro
  iintro HO
  iapply (wp_bar_signal X K c (nx c) _ 2 (dv (k0_dev3_lt c) (k0_dev3_eq c)) (O := oweB3 c) (O' := oweB2 c) rfl (W := W)) $$ [HO Ht2 HLv]
  · isplitr; · iexact HR
    isplitl [HO]; · iexact HO
    isplitl [Ht2]; · iexact Ht2
    iapply (pay_v c) $$ HLv
  iintro HO
  rw [wp_ret]; imodintro
  try dsimp only
  rw [wp_bind, k0_part3_eq_skeleton]
  unfold k0_part3_skel
  simp only [Prog.lift, Prog.bind_op, Prog.bind_ret, Prog.pure_eq_ret, semSignalWord, semWaitWord, wp_deviceId]
  iapply (wp_bar_signal X K c (pv c) _ 3 (dv (k0_dev4_lt c) (k0_dev4_eq c)) (O := oweAt c 0) (O' := oweB3 c) rfl (W := W)) $$ [HO Ht3 HLw]
  · isplitr; · iexact HR
    isplitl [HO]; · iexact HO
    isplitl [Ht3]; · iexact Ht3
    iapply (pay_w c) $$ HLw
  iintro HO
  iapply (wp_bar_wait X K c) $$ [HO Hat Hcr]
  · isplitr; · iexact HR
    isplitr; · iexact Hlev
    isplitl [HO]; · iexact HO
    isplitl [Hat] <;> iassumption
  iintro ⟨HC, Hbar, HLa, HLv, HLw⟩
  simp only [land_split]
  icases HLa with ⟨HLa0, HLa1⟩
  icases HLv with ⟨HLv0, HLv1⟩
  icases HLw with ⟨HLw0, HLw1⟩
  ihave HA0 := (cur2 (chain_of X .a 0 c (t := yr c) rfl)) $$ HA0 HLa0
  ihave HA1 := (cur2 (chain_of X .a 1 c (t := yr c) rfl)) $$ HA1 HLa1
  ihave HV0 := (cur2 (chain_of X .v 0 c (t := pv c) rfl)) $$ HV0 HLv0
  ihave HV1 := (cur2 (chain_of X .v 1 c (t := pv c) rfl)) $$ HV1 HLv1
  ihave HW0 := (cur2 (chain_of X .w 0 c (t := nx c) rfl)) $$ HW0 HLw0
  ihave HW1 := (cur2 (chain_of X .w 1 c (t := nx c) rfl)) $$ HW1 HLw1
  iapply (cur2 (wp_load_wait X c 0 (n := 0) (by decide) (by decide) rfl rfl)) $$ HC HB0
  iintro ⟨HC, HB0⟩
  iapply (wp_xload X c 0 rfl sc3) $$ HB0
  iintro %v71 %e71 HB0
  iapply (wp_aload c 0 0 rfl sc4) $$ Hs0
  iintro %v74 _ Hs0
  iapply (wp_astore c 0 0 rfl sc4 (Z := lv X .a 0 0 c) (pay_init e71)) $$ Hs0
  iintro Hs
  ihave ⟨Hla0, Hra0⟩ := halves $$ Hs
  ihave HK0 := keep_one X 0 c $$ Hra0
  iapply (wp_load_start X c 1 0 (yc c + 3 - 0) (load_off2 c 0) rfl rfl) $$ HB1
  iintro HB1
  rw [wp_ret]; imodintro
  try dsimp only
  rw [wp_bind, k0_part4_eq_skeleton]
  unfold k0_part4_skel
  simp only [Prog.lift, Prog.bind_op, Prog.bind_ret, Prog.pure_eq_ret, semSignalWord, semWaitWord, wp_deviceId]
  iapply (cur3 (wp_lane_send X K c .a 0 (s := 0) (n := 0) (d := 0) (by decide) (by decide) (Nat.zero_le _) rfl (dv (k0_dev5_lt c) (k0_dev5_eq c)) rfl rfl rfl rfl)) $$ HC HA0 Hla0
  iintro ⟨HC, HA0⟩
  iapply (wp_load_start X c 0 0 (yc c + 3 - (0 + 1)) (load_off3 c 0 0) rfl rfl) $$ HB0
  iintro HB0
  rw [wp_ret]; imodintro
  try dsimp only
  rw [wp_bind, k0_part5_eq_skeleton]
  unfold k0_part5_skel
  simp only [Prog.lift, Prog.bind_op, Prog.bind_ret, Prog.pure_eq_ret, semSignalWord, semWaitWord, wp_deviceId]
  iapply (cur2 (wp_lane_recv X K c .a 0 (r := 0) (n := 1) (by decide) (by decide) (by decide) (by decide) rfl rfl)) $$ HC HA0
  iintro ⟨HC, HA0, Hs⟩
  iapply (cur2 (wp_load_wait X c 1 (n := 1) (by decide) (by decide) rfl rfl)) $$ HC HB1
  iintro ⟨HC, HB1⟩
  iapply (cur2 (wp_accum X c 0 0 1 (by decide) (pay := k0_pay2) rfl sc4 rfl sc3 (fun _ _ _ _ => pay_acc))) $$ Hs HB1
  iintro ⟨Hla0, Hra0, HB1⟩
  ihave HK0 := (cur2 (keep_add X 0 c 1)) $$ HK0 Hra0
  rw [wp_ret]; imodintro
  try dsimp only
  rw [wp_bind, k0_part6_eq_skeleton]
  unfold k0_part6_skel
  simp only [Prog.lift, Prog.bind_op, Prog.bind_ret, Prog.pure_eq_ret, semSignalWord, semWaitWord, wp_deviceId]
  iapply (cur3 (wp_lane_send X K c .a 0 (s := 1) (n := 1) (d := 0) (by decide) (by decide) (Nat.zero_le _) rfl (dv (k0_dev6_lt c) (k0_dev6_eq c)) rfl rfl rfl rfl)) $$ HC HA0 Hla0
  iintro ⟨HC, HA0⟩
  iapply (wp_load_start X c 1 0 (yc c + 3 - (1 + 1)) (load_off3 c 0 1) rfl rfl) $$ HB1
  iintro HB1
  rw [wp_ret]; imodintro
  try dsimp only
  rw [wp_bind, k0_part7_eq_skeleton]
  unfold k0_part7_skel
  simp only [Prog.lift, Prog.bind_op, Prog.bind_ret, Prog.pure_eq_ret, semSignalWord, semWaitWord, wp_deviceId]
  iapply (cur2 (wp_lane_recv X K c .a 0 (r := 1) (n := 2) (by decide) (by decide) (by decide) (by decide) rfl rfl)) $$ HC HA0
  iintro ⟨HC, HA0, Hs⟩
  iapply (cur2 (wp_load_wait X c 0 (n := 2) (by decide) (by decide) rfl rfl)) $$ HC HB0
  iintro ⟨HC, HB0⟩
  iapply (cur2 (wp_accum X c 0 1 0 (by decide) (pay := k0_pay3) rfl sc4 rfl sc3 (fun _ _ _ _ => pay_acc))) $$ Hs HB0
  iintro ⟨Hla0, Hra0, HB0⟩
  ihave HK0 := (cur2 (keep_add X 0 c 2)) $$ HK0 Hra0
  rw [wp_ret]; imodintro
  try dsimp only
  rw [wp_bind, k0_part8_eq_skeleton]
  unfold k0_part8_skel
  simp only [Prog.lift, Prog.bind_op, Prog.bind_ret, Prog.pure_eq_ret, semSignalWord, semWaitWord, wp_deviceId]
  iapply (cur3 (wp_lane_send X K c .a 0 (s := 2) (n := 2) (d := 0) (by decide) (by decide) (Nat.zero_le _) rfl (dv (k0_dev7_lt c) (k0_dev7_eq c)) rfl rfl rfl rfl)) $$ HC HA0 Hla0
  iintro ⟨HC, HA0⟩
  iapply (cur2 (wp_lane_recv X K c .a 0 (r := 2) (n := 3) (by decide) (by decide) (by decide) (by decide) rfl rfl)) $$ HC HA0
  iintro ⟨HC, HA0, Hs⟩
  rw [wp_ret]; imodintro
  try dsimp only
  rw [wp_bind, k0_part9_eq_skeleton]
  unfold k0_part9_skel
  simp only [Prog.lift, Prog.bind_op, Prog.bind_ret, Prog.pure_eq_ret, semSignalWord, semWaitWord, wp_deviceId]
  iapply (cur2 (wp_load_wait X c 1 (n := 3) (by decide) (by decide) rfl rfl)) $$ HC HB1
  iintro ⟨HC, HB1⟩
  iapply (cur2 (wp_accum X c 0 2 1 (by decide) (pay := k0_pay4) rfl sc4 rfl sc3 (fun _ _ _ _ => pay_acc))) $$ Hs HB1
  iintro ⟨Hla0, Hra0, HB1⟩
  ihave HK0 := (cur2 (keep_add X 0 c 3)) $$ HK0 Hra0
  iapply (cur3 (wp_lane_send X K c .a 0 (s := 3) (n := 3) (d := 0) (by decide) (by decide) (Nat.zero_le _) rfl (dv (k0_dev8_lt c) (k0_dev8_eq c)) rfl rfl rfl rfl)) $$ HC HA0 Hla0
  iintro ⟨HC, HA0⟩
  rw [wp_ret]; imodintro
  try dsimp only
  rw [wp_bind, k0_part10_eq_skeleton]
  unfold k0_part10_skel
  simp only [Prog.lift, Prog.bind_op, Prog.bind_ret, Prog.pure_eq_ret, semSignalWord, semWaitWord, wp_deviceId]
  iapply (cur2 (wp_recv2 X K c .a 0 (r := 3) (n := 4) (by decide) (by decide) (by decide) (by decide) (landed_a X (ch := 0) (h := 3) (by decide) c) rfl rfl)) $$ HC HA0
  iintro ⟨HC, HA0, Hla0, Hra0⟩
  ihave HK0 := (cur2 (keep_add X 0 c 4)) $$ HK0 Hra0
  iapply (cur3 (wp_lane_send X K c .a 0 (s := 4) (n := 4) (d := 0) (by decide) (by decide) (Nat.zero_le _) rfl (dv (k0_dev9_lt c) (k0_dev9_eq c)) rfl rfl rfl rfl)) $$ HC HA0 Hla0
  iintro ⟨HC, HA0⟩
  rw [wp_ret]; imodintro
  try dsimp only
  rw [wp_bind, k0_part11_eq_skeleton]
  unfold k0_part11_skel
  simp only [Prog.lift, Prog.bind_op, Prog.bind_ret, Prog.pure_eq_ret, semSignalWord, semWaitWord, wp_deviceId]
  iapply (cur2 (wp_recv2 X K c .a 0 (r := 4) (n := 5) (by decide) (by decide) (by decide) (by decide) (landed_a X (ch := 0) (h := 4) (by decide) c) rfl rfl)) $$ HC HA0
  iintro ⟨HC, HA0, Hla0, Hra0⟩
  ihave HK0 := (cur2 (keep_add X 0 c 5)) $$ HK0 Hra0
  iapply (cur3 (wp_lane_send X K c .a 0 (s := 5) (n := 5) (d := 0) (by decide) (by decide) (Nat.zero_le _) rfl (dv (k0_dev10_lt c) (k0_dev10_eq c)) rfl rfl rfl rfl)) $$ HC HA0 Hla0
  iintro ⟨HC, HA0⟩
  rw [wp_ret]; imodintro
  try dsimp only
  rw [wp_bind, k0_part12_eq_skeleton]
  unfold k0_part12_skel
  simp only [Prog.lift, Prog.bind_op, Prog.bind_ret, Prog.pure_eq_ret, semSignalWord, semWaitWord, wp_deviceId]
  iapply (cur2 (wp_recv2 X K c .a 0 (r := 5) (n := 6) (by decide) (by decide) (by decide) (by decide) (landed_a X (ch := 0) (h := 5) (by decide) c) rfl rfl)) $$ HC HA0
  iintro ⟨HC, HA0, Hla0, Hra0⟩
  ihave HK0 := (cur2 (keep_add X 0 c 6)) $$ HK0 Hra0
  iapply (cur2 (wp_scatter_jp X c .w 0 3 (by decide) (cond1 c) rfl sc4 rfl (half_off (k0_off4_eq c) (scat_eq c)) (fun _ _ h => pay_copy h))) $$ HK0 HHw0
  iintro ⟨HK0, HHw0⟩
  iapply (cur2 (wp_scatter_jp X c .v 0 3 (by decide) (cond2 c) rfl sc4 rfl (half_off (k0_off5_eq c) (scat_eq c)) (fun _ _ h => pay_copy h))) $$ HK0 HHv0
  iintro ⟨HK0, HHv0⟩
  rw [wp_ret]; imodintro
  try dsimp only
  rw [wp_bind, k0_part13_eq_skeleton]
  unfold k0_part13_skel
  simp only [Prog.lift, Prog.bind_op, Prog.bind_ret, Prog.pure_eq_ret, semSignalWord, semWaitWord, wp_deviceId]
  iapply (cur2 (wp_scatter_jp X c .w 0 4 (by decide) (cond3 c) rfl sc4 rfl (half_off (k0_off6_eq c) (scat_eq c)) (fun _ _ h => pay_copy h))) $$ HK0 HHw0
  iintro ⟨HK0, HHw0⟩
  iapply (cur2 (wp_scatter_jp X c .v 0 4 (by decide) (cond4 c) rfl sc4 rfl (half_off (k0_off7_eq c) (scat_eq c)) (fun _ _ h => pay_copy h))) $$ HK0 HHv0
  iintro ⟨HK0, HHv0⟩
  iapply (cur2 (wp_scatter_jp X c .w 0 5 (by decide) (cond5 c) rfl sc4 rfl (half_off (k0_off8_eq c) (scat_eq c)) (fun _ _ h => pay_copy h))) $$ HK0 HHw0
  iintro ⟨HK0, HHw0⟩
  iapply (cur2 (wp_scatter_jp X c .v 0 5 (by decide) (cond6 c) rfl sc4 rfl (half_off (k0_off9_eq c) (scat_eq c)) (fun _ _ h => pay_copy h))) $$ HK0 HHv0
  iintro ⟨HK0, HHv0⟩
  iapply (cur2 (wp_scatter_jp X c .w 0 6 (by decide) (cond7 c) rfl sc4 rfl (half_off (k0_off10_eq c) (scat_eq c)) (fun _ _ h => pay_copy h))) $$ HK0 HHw0
  iintro ⟨HK0, HHw0⟩
  iapply (cur2 (wp_scatter_jp X c .v 0 6 (by decide) (cond8 c) rfl sc4 rfl (half_off (k0_off11_eq c) (scat_eq c)) (fun _ _ h => pay_copy h))) $$ HK0 HHv0
  iintro ⟨HK0, HHv0⟩
  rw [wp_ret]; imodintro
  try dsimp only
  rw [wp_bind, k0_part14_eq_skeleton]
  unfold k0_part14_skel
  simp only [Prog.lift, Prog.bind_op, Prog.bind_ret, Prog.pure_eq_ret, semSignalWord, semWaitWord, wp_deviceId]
  ihave ⟨Hlw0, Hrw0⟩ := half_w X 0 c $$ HHw0
  ihave ⟨Hlv0, Hrv0⟩ := half_v X 0 c $$ HHv0
  iapply (cur2 (wp_store_start X c 0 0 (d := 0) (src := slot .w 0 0) (Y := lv X .w 0 0 c) (by decide) (Nat.zero_le _) (store_off12 c 0) rfl rfl rfl rfl rfl)) $$ HS0 Hrw0
  iintro HS0
  iapply (cur2 (wp_store_start X c 0 1 (d := 0) (src := slot .v 0 0) (Y := lv X .v 0 0 c) (by decide) (Nat.zero_le _) (store_off13 c 0) rfl rfl rfl rfl rfl)) $$ HS0 Hrv0
  iintro HS0
  iapply (cur3 (wp_lane_send X K c .w 0 (s := 0) (n := 6) (d := 0) (by decide) (by decide) (Nat.zero_le _) rfl (dv (k0_dev11_lt c) (k0_dev11_eq c)) rfl rfl rfl rfl)) $$ HC HW0 Hlw0
  iintro ⟨HC, HW0⟩
  rw [wp_ret]; imodintro
  try dsimp only
  rw [wp_bind, k0_part15_eq_skeleton]
  unfold k0_part15_skel
  simp only [Prog.lift, Prog.bind_op, Prog.bind_ret, Prog.pure_eq_ret, semSignalWord, semWaitWord, wp_deviceId]
  iapply (cur3 (wp_lane_send X K c .v 0 (s := 0) (n := 7) (d := 0) (by decide) (by decide) (Nat.zero_le _) rfl (dv (k0_dev12_lt c) (k0_dev12_eq c)) rfl rfl rfl rfl)) $$ HC HV0 Hlv0
  iintro ⟨HC, HV0⟩
  iapply (wp_load_start X c 0 1 (yc c) (load_off1 c 1) rfl rfl) $$ HB0
  iintro HB0
  iapply (cur2 (wp_load_wait X c 0 (n := 8) (by decide) (by decide) rfl rfl)) $$ HC HB0
  iintro ⟨HC, HB0⟩
  iapply (wp_xload X c 0 rfl sc3) $$ HB0
  iintro %v411 %e411 HB0
  rw [wp_ret]; imodintro
  try dsimp only
  rw [wp_bind, k0_part16_eq_skeleton]
  unfold k0_part16_skel
  simp only [Prog.lift, Prog.bind_op, Prog.bind_ret, Prog.pure_eq_ret, semSignalWord, semWaitWord, wp_deviceId]
  iapply (wp_aload c 1 0 rfl sc4) $$ Hs1
  iintro %v414 _ Hs1
  iapply (wp_astore c 1 0 rfl sc4 (Z := lv X .a 1 0 c) (pay_init e411)) $$ Hs1
  iintro Hs
  ihave ⟨Hla1, Hra1⟩ := halves $$ Hs
  ihave HK1 := keep_one X 1 c $$ Hra1
  iapply (wp_load_start X c 1 1 (yc c + 3 - 0) (load_off2 c 1) rfl rfl) $$ HB1
  iintro HB1
  rw [wp_ret]; imodintro
  try dsimp only
  rw [wp_bind, k0_part17_eq_skeleton]
  unfold k0_part17_skel
  simp only [Prog.lift, Prog.bind_op, Prog.bind_ret, Prog.pure_eq_ret, semSignalWord, semWaitWord, wp_deviceId]
  iapply (cur3 (wp_lane_send X K c .a 1 (s := 0) (n := 8) (d := 0) (by decide) (by decide) (Nat.zero_le _) rfl (dv (k0_dev13_lt c) (k0_dev13_eq c)) rfl rfl rfl rfl)) $$ HC HA1 Hla1
  iintro ⟨HC, HA1⟩
  iapply (wp_load_start X c 0 1 (yc c + 3 - (0 + 1)) (load_off3 c 1 0) rfl rfl) $$ HB0
  iintro HB0
  iapply (cur2 (wp_lane_recv X K c .a 1 (r := 0) (n := 9) (by decide) (by decide) (by decide) (by decide) rfl rfl)) $$ HC HA1
  iintro ⟨HC, HA1, Hs⟩
  rw [wp_ret]; imodintro
  try dsimp only
  rw [wp_bind, k0_part18_eq_skeleton]
  unfold k0_part18_skel
  simp only [Prog.lift, Prog.bind_op, Prog.bind_ret, Prog.pure_eq_ret, semSignalWord, semWaitWord, wp_deviceId]
  iapply (cur2 (wp_load_wait X c 1 (n := 9) (by decide) (by decide) rfl rfl)) $$ HC HB1
  iintro ⟨HC, HB1⟩
  iapply (cur2 (wp_accum X c 1 0 1 (by decide) (pay := k0_pay15) rfl sc4 rfl sc3 (fun _ _ _ _ => pay_acc))) $$ Hs HB1
  iintro ⟨Hla1, Hra1, HB1⟩
  ihave HK1 := (cur2 (keep_add X 1 c 1)) $$ HK1 Hra1
  iapply (cur2 (wp_recv2 X K c .w 0 (r := 0) (n := 9) (by decide) (by decide) (by decide) (by decide) (landed_w X 0 0 c) rfl rfl)) $$ HC HW0
  iintro ⟨HC, HW0, Hlw0, Hrw0⟩
  rw [wp_ret]; imodintro
  try dsimp only
  rw [wp_bind, k0_part19_eq_skeleton]
  unfold k0_part19_skel
  simp only [Prog.lift, Prog.bind_op, Prog.bind_ret, Prog.pure_eq_ret, semSignalWord, semWaitWord, wp_deviceId]
  iapply (cur2 (wp_recv2 X K c .v 0 (r := 0) (n := 9) (by decide) (by decide) (by decide) (by decide) (landed_v X 0 0 c) rfl rfl)) $$ HC HV0
  iintro ⟨HC, HV0, Hlv0, Hrv0⟩
  iapply (cur3 (wp_lane_send X K c .w 0 (s := 1) (n := 9) (d := 0) (by decide) (by decide) (Nat.zero_le _) rfl (dv (k0_dev14_lt c) (k0_dev14_eq c)) rfl rfl rfl rfl)) $$ HC HW0 Hlw0
  iintro ⟨HC, HW0⟩
  rw [wp_ret]; imodintro
  try dsimp only
  rw [wp_bind, k0_part20_eq_skeleton]
  unfold k0_part20_skel
  simp only [Prog.lift, Prog.bind_op, Prog.bind_ret, Prog.pure_eq_ret, semSignalWord, semWaitWord, wp_deviceId]
  iapply (cur3 (wp_lane_send X K c .v 0 (s := 1) (n := 10) (d := 0) (by decide) (by decide) (Nat.zero_le _) rfl (dv (k0_dev15_lt c) (k0_dev15_eq c)) rfl rfl rfl rfl)) $$ HC HV0 Hlv0
  iintro ⟨HC, HV0⟩
  rw [wp_ret]; imodintro
  try dsimp only
  rw [wp_bind, k0_part21_eq_skeleton]
  unfold k0_part21_skel
  simp only [Prog.lift, Prog.bind_op, Prog.bind_ret, Prog.pure_eq_ret, semSignalWord, semWaitWord, wp_deviceId]
  iapply (cur2 (wp_store_start X c 0 2 (d := 0) (src := slot .w 0 1) (Y := lv X .w 0 1 c) (by decide) (Nat.zero_le _) (store_off14 c 0 0) rfl rfl rfl rfl rfl)) $$ HS0 Hrw0
  iintro HS0
  iapply (cur2 (wp_store_start X c 0 3 (d := 0) (src := slot .v 0 1) (Y := lv X .v 0 1 c) (by decide) (Nat.zero_le _) (store_off15 c 0 0) rfl rfl rfl rfl rfl)) $$ HS0 Hrv0
  iintro HS0
  iapply (cur3 (wp_lane_send X K c .a 1 (s := 1) (n := 11) (d := 0) (by decide) (by decide) (Nat.zero_le _) rfl (dv (k0_dev16_lt c) (k0_dev16_eq c)) rfl rfl rfl rfl)) $$ HC HA1 Hla1
  iintro ⟨HC, HA1⟩
  rw [wp_ret]; imodintro
  try dsimp only
  rw [wp_bind, k0_part22_eq_skeleton]
  unfold k0_part22_skel
  simp only [Prog.lift, Prog.bind_op, Prog.bind_ret, Prog.pure_eq_ret, semSignalWord, semWaitWord, wp_deviceId]
  iapply (wp_load_start X c 1 1 (yc c + 3 - (1 + 1)) (load_off3 c 1 1) rfl rfl) $$ HB1
  iintro HB1
  iapply (cur2 (wp_lane_recv X K c .a 1 (r := 1) (n := 12) (by decide) (by decide) (by decide) (by decide) rfl rfl)) $$ HC HA1
  iintro ⟨HC, HA1, Hs⟩
  iapply (cur2 (wp_load_wait X c 0 (n := 12) (by decide) (by decide) rfl rfl)) $$ HC HB0
  iintro ⟨HC, HB0⟩
  iapply (wp_aload c 1 2 rfl sc4) $$ Hs
  iintro %v598 %e598 Hs
  rw [wp_ret]; imodintro
  try dsimp only
  rw [wp_bind, k0_part23_eq_skeleton]
  unfold k0_part23_skel
  simp only [Prog.lift, Prog.bind_op, Prog.bind_ret, Prog.pure_eq_ret, semSignalWord, semWaitWord, wp_deviceId]
  iapply (wp_xload X c 0 rfl sc3) $$ HB0
  iintro %v601 %e601 HB0
  iapply (wp_aload c 1 2 rfl sc4) $$ Hs
  iintro %v605 _ Hs
  iapply (wp_astore c 1 2 rfl sc4 (Z := lv X .a 1 2 c) ((pay_acc e598 e601).trans (av_next X (h := 1) (by decide) c))) $$ Hs
  iintro Hs
  ihave ⟨Hla1, Hra1⟩ := halves $$ Hs
  ihave HK1 := (cur2 (keep_add X 1 c 2)) $$ HK1 Hra1
  iapply (cur2 (wp_recv2 X K c .w 0 (r := 1) (n := 12) (by decide) (by decide) (by decide) (by decide) (landed_w X 0 1 c) rfl rfl)) $$ HC HW0
  iintro ⟨HC, HW0, Hlw0, Hrw0⟩
  rw [wp_ret]; imodintro
  try dsimp only
  rw [wp_bind, k0_part24_eq_skeleton]
  unfold k0_part24_skel
  simp only [Prog.lift, Prog.bind_op, Prog.bind_ret, Prog.pure_eq_ret, semSignalWord, semWaitWord, wp_deviceId]
  iapply (cur2 (wp_recv2 X K c .v 0 (r := 1) (n := 12) (by decide) (by decide) (by decide) (by decide) (landed_v X 0 1 c) rfl rfl)) $$ HC HV0
  iintro ⟨HC, HV0, Hlv0, Hrv0⟩
  iapply (cur3 (wp_lane_send X K c .w 0 (s := 2) (n := 12) (d := 0) (by decide) (by decide) (Nat.zero_le _) rfl (dv (k0_dev17_lt c) (k0_dev17_eq c)) rfl rfl rfl rfl)) $$ HC HW0 Hlw0
  iintro ⟨HC, HW0⟩
  rw [wp_ret]; imodintro
  try dsimp only
  rw [wp_bind, k0_part25_eq_skeleton]
  unfold k0_part25_skel
  simp only [Prog.lift, Prog.bind_op, Prog.bind_ret, Prog.pure_eq_ret, semSignalWord, semWaitWord, wp_deviceId]
  iapply (cur3 (wp_lane_send X K c .v 0 (s := 2) (n := 13) (d := 0) (by decide) (by decide) (Nat.zero_le _) rfl (dv (k0_dev18_lt c) (k0_dev18_eq c)) rfl rfl rfl rfl)) $$ HC HV0 Hlv0
  iintro ⟨HC, HV0⟩
  iapply (cur2 (wp_store_start X c 0 4 (d := 0) (src := slot .w 0 2) (Y := lv X .w 0 2 c) (by decide) (Nat.zero_le _) (store_off14 c 1 0) rfl rfl rfl rfl rfl)) $$ HS0 Hrw0
  iintro HS0
  rw [wp_ret]; imodintro
  try dsimp only
  rw [wp_bind, k0_part26_eq_skeleton]
  unfold k0_part26_skel
  simp only [Prog.lift, Prog.bind_op, Prog.bind_ret, Prog.pure_eq_ret, semSignalWord, semWaitWord, wp_deviceId]
  iapply (cur2 (wp_store_start X c 0 5 (d := 0) (src := slot .v 0 2) (Y := lv X .v 0 2 c) (by decide) (Nat.zero_le _) (store_off15 c 1 0) rfl rfl rfl rfl rfl)) $$ HS0 Hrv0
  iintro HS0
  iapply (cur3 (wp_lane_send X K c .a 1 (s := 2) (n := 14) (d := 0) (by decide) (by decide) (Nat.zero_le _) rfl (dv (k0_dev19_lt c) (k0_dev19_eq c)) rfl rfl rfl rfl)) $$ HC HA1 Hla1
  iintro ⟨HC, HA1⟩
  rw [wp_ret]; imodintro
  try dsimp only
  rw [wp_bind, k0_part27_eq_skeleton]
  unfold k0_part27_skel
  simp only [Prog.lift, Prog.bind_op, Prog.bind_ret, Prog.pure_eq_ret, semSignalWord, semWaitWord, wp_deviceId]
  iapply (cur2 (wp_lane_recv X K c .a 1 (r := 2) (n := 15) (by decide) (by decide) (by decide) (by decide) rfl rfl)) $$ HC HA1
  iintro ⟨HC, HA1, Hs⟩
  iapply (cur2 (wp_load_wait X c 1 (n := 15) (by decide) (by decide) rfl rfl)) $$ HC HB1
  iintro ⟨HC, HB1⟩
  iapply (cur2 (wp_accum X c 1 2 1 (by decide) (pay := k0_pay18) rfl sc4 rfl sc3 (fun _ _ _ _ => pay_acc))) $$ Hs HB1
  iintro ⟨Hla1, Hra1, HB1⟩
  ihave HK1 := (cur2 (keep_add X 1 c 3)) $$ HK1 Hra1
  rw [wp_ret]; imodintro
  try dsimp only
  rw [wp_bind, k0_part28_eq_skeleton]
  unfold k0_part28_skel
  simp only [Prog.lift, Prog.bind_op, Prog.bind_ret, Prog.pure_eq_ret, semSignalWord, semWaitWord, wp_deviceId]
  iapply (cur2 (wp_recv2 X K c .w 0 (r := 2) (n := 15) (by decide) (by decide) (by decide) (by decide) (landed_w X 0 2 c) rfl rfl)) $$ HC HW0
  iintro ⟨HC, HW0, Hlw0, Hrw0⟩
  iapply (cur2 (wp_recv2 X K c .v 0 (r := 2) (n := 15) (by decide) (by decide) (by decide) (by decide) (landed_v X 0 2 c) rfl rfl)) $$ HC HV0
  iintro ⟨HC, HV0, Hlv0, Hrv0⟩
  rw [wp_ret]; imodintro
  try dsimp only
  rw [wp_bind, k0_part29_eq_skeleton]
  unfold k0_part29_skel
  simp only [Prog.lift, Prog.bind_op, Prog.bind_ret, Prog.pure_eq_ret, semSignalWord, semWaitWord, wp_deviceId]
  iapply (cur3 (wp_lane_send X K c .w 0 (s := 3) (n := 15) (d := 0) (by decide) (by decide) (Nat.zero_le _) rfl (dv (k0_dev20_lt c) (k0_dev20_eq c)) rfl rfl rfl rfl)) $$ HC HW0 Hlw0
  iintro ⟨HC, HW0⟩
  iapply (cur3 (wp_lane_send X K c .v 0 (s := 3) (n := 16) (d := 0) (by decide) (by decide) (Nat.zero_le _) rfl (dv (k0_dev21_lt c) (k0_dev21_eq c)) rfl rfl rfl rfl)) $$ HC HV0 Hlv0
  iintro ⟨HC, HV0⟩
  rw [wp_ret]; imodintro
  try dsimp only
  rw [wp_bind, k0_part30_eq_skeleton]
  unfold k0_part30_skel
  simp only [Prog.lift, Prog.bind_op, Prog.bind_ret, Prog.pure_eq_ret, semSignalWord, semWaitWord, wp_deviceId]
  iapply (cur2 (wp_store_start X c 0 6 (d := 0) (src := slot .w 0 3) (Y := lv X .w 0 3 c) (by decide) (Nat.zero_le _) (store_off14 c 2 0) rfl rfl rfl rfl rfl)) $$ HS0 Hrw0
  iintro HS0
  iapply (cur2 (wp_store_start X c 0 7 (d := 0) (src := slot .v 0 3) (Y := lv X .v 0 3 c) (by decide) (Nat.zero_le _) (store_off15 c 2 0) rfl rfl rfl rfl rfl)) $$ HS0 Hrv0
  iintro HS0
  iapply (cur3 (wp_lane_send X K c .a 1 (s := 3) (n := 17) (d := 0) (by decide) (by decide) (Nat.zero_le _) rfl (dv (k0_dev22_lt c) (k0_dev22_eq c)) rfl rfl rfl rfl)) $$ HC HA1 Hla1
  iintro ⟨HC, HA1⟩
  rw [wp_ret]; imodintro
  try dsimp only
  rw [wp_bind, k0_part31_eq_skeleton]
  unfold k0_part31_skel
  simp only [Prog.lift, Prog.bind_op, Prog.bind_ret, Prog.pure_eq_ret, semSignalWord, semWaitWord, wp_deviceId]
  iapply (cur2 (wp_recv2 X K c .a 1 (r := 3) (n := 18) (by decide) (by decide) (by decide) (by decide) (landed_a X (ch := 1) (h := 3) (by decide) c) rfl rfl)) $$ HC HA1
  iintro ⟨HC, HA1, Hla1, Hra1⟩
  ihave HK1 := (cur2 (keep_add X 1 c 4)) $$ HK1 Hra1
  iapply (cur2 (wp_recv2 X K c .w 0 (r := 3) (n := 18) (by decide) (by decide) (by decide) (by decide) (landed_w X 0 3 c) rfl rfl)) $$ HC HW0
  iintro ⟨HC, HW0, Hlw0, Hrw0⟩
  rw [wp_ret]; imodintro
  try dsimp only
  rw [wp_bind, k0_part32_eq_skeleton]
  unfold k0_part32_skel
  simp only [Prog.lift, Prog.bind_op, Prog.bind_ret, Prog.pure_eq_ret, semSignalWord, semWaitWord, wp_deviceId]
  iapply (cur2 (wp_recv2 X K c .v 0 (r := 3) (n := 18) (by decide) (by decide) (by decide) (by decide) (landed_v X 0 3 c) rfl rfl)) $$ HC HV0
  iintro ⟨HC, HV0, Hlv0, Hrv0⟩
  iapply (cur3 (wp_lane_send X K c .w 0 (s := 4) (n := 18) (d := 0) (by decide) (by decide) (Nat.zero_le _) rfl (dv (k0_dev23_lt c) (k0_dev23_eq c)) rfl rfl rfl rfl)) $$ HC HW0 Hlw0
  iintro ⟨HC, HW0⟩
  rw [wp_ret]; imodintro
  try dsimp only
  rw [wp_bind, k0_part33_eq_skeleton]
  unfold k0_part33_skel
  simp only [Prog.lift, Prog.bind_op, Prog.bind_ret, Prog.pure_eq_ret, semSignalWord, semWaitWord, wp_deviceId]
  iapply (cur3 (wp_lane_send X K c .v 0 (s := 4) (n := 19) (d := 0) (by decide) (by decide) (Nat.zero_le _) rfl (dv (k0_dev24_lt c) (k0_dev24_eq c)) rfl rfl rfl rfl)) $$ HC HV0 Hlv0
  iintro ⟨HC, HV0⟩
  rw [wp_ret]; imodintro
  try dsimp only
  rw [wp_bind, k0_part34_eq_skeleton]
  unfold k0_part34_skel
  simp only [Prog.lift, Prog.bind_op, Prog.bind_ret, Prog.pure_eq_ret, semSignalWord, semWaitWord, wp_deviceId]
  iapply (cur2 (wp_store_start X c 0 8 (d := 0) (src := slot .w 0 4) (Y := lv X .w 0 4 c) (by decide) (Nat.zero_le _) (store_off14 c 3 0) rfl rfl rfl rfl rfl)) $$ HS0 Hrw0
  iintro HS0
  iapply (cur2 (wp_store_start X c 0 9 (d := 0) (src := slot .v 0 4) (Y := lv X .v 0 4 c) (by decide) (Nat.zero_le _) (store_off15 c 3 0) rfl rfl rfl rfl rfl)) $$ HS0 Hrv0
  iintro HS0
  iapply (cur3 (wp_lane_send X K c .a 1 (s := 4) (n := 20) (d := 0) (by decide) (by decide) (Nat.zero_le _) rfl (dv (k0_dev25_lt c) (k0_dev25_eq c)) rfl rfl rfl rfl)) $$ HC HA1 Hla1
  iintro ⟨HC, HA1⟩
  rw [wp_ret]; imodintro
  try dsimp only
  rw [wp_bind, k0_part35_eq_skeleton]
  unfold k0_part35_skel
  simp only [Prog.lift, Prog.bind_op, Prog.bind_ret, Prog.pure_eq_ret, semSignalWord, semWaitWord, wp_deviceId]
  iapply (cur2 (wp_recv2 X K c .a 1 (r := 4) (n := 21) (by decide) (by decide) (by decide) (by decide) (landed_a X (ch := 1) (h := 4) (by decide) c) rfl rfl)) $$ HC HA1
  iintro ⟨HC, HA1, Hla1, Hra1⟩
  ihave HK1 := (cur2 (keep_add X 1 c 5)) $$ HK1 Hra1
  iapply (cur2 (wp_recv2 X K c .w 0 (r := 4) (n := 21) (by decide) (by decide) (by decide) (by decide) (landed_w X 0 4 c) rfl rfl)) $$ HC HW0
  iintro ⟨HC, HW0, Hlw0, Hrw0⟩
  rw [wp_ret]; imodintro
  try dsimp only
  rw [wp_bind, k0_part36_eq_skeleton]
  unfold k0_part36_skel
  simp only [Prog.lift, Prog.bind_op, Prog.bind_ret, Prog.pure_eq_ret, semSignalWord, semWaitWord, wp_deviceId]
  iapply (cur2 (wp_recv2 X K c .v 0 (r := 4) (n := 21) (by decide) (by decide) (by decide) (by decide) (landed_v X 0 4 c) rfl rfl)) $$ HC HV0
  iintro ⟨HC, HV0, Hlv0, Hrv0⟩
  iapply (cur3 (wp_lane_send X K c .w 0 (s := 5) (n := 21) (d := 0) (by decide) (by decide) (Nat.zero_le _) rfl (dv (k0_dev26_lt c) (k0_dev26_eq c)) rfl rfl rfl rfl)) $$ HC HW0 Hlw0
  iintro ⟨HC, HW0⟩
  rw [wp_ret]; imodintro
  try dsimp only
  rw [wp_bind, k0_part37_eq_skeleton]
  unfold k0_part37_skel
  simp only [Prog.lift, Prog.bind_op, Prog.bind_ret, Prog.pure_eq_ret, semSignalWord, semWaitWord, wp_deviceId]
  iapply (cur3 (wp_lane_send X K c .v 0 (s := 5) (n := 22) (d := 0) (by decide) (by decide) (Nat.zero_le _) rfl (dv (k0_dev27_lt c) (k0_dev27_eq c)) rfl rfl rfl rfl)) $$ HC HV0 Hlv0
  iintro ⟨HC, HV0⟩
  iapply (cur2 (wp_store_start X c 0 10 (d := 0) (src := slot .w 0 5) (Y := lv X .w 0 5 c) (by decide) (Nat.zero_le _) (store_off14 c 4 0) rfl rfl rfl rfl rfl)) $$ HS0 Hrw0
  iintro HS0
  rw [wp_ret]; imodintro
  try dsimp only
  rw [wp_bind, k0_part38_eq_skeleton]
  unfold k0_part38_skel
  simp only [Prog.lift, Prog.bind_op, Prog.bind_ret, Prog.pure_eq_ret, semSignalWord, semWaitWord, wp_deviceId]
  iapply (cur2 (wp_store_start X c 0 11 (d := 0) (src := slot .v 0 5) (Y := lv X .v 0 5 c) (by decide) (Nat.zero_le _) (store_off15 c 4 0) rfl rfl rfl rfl rfl)) $$ HS0 Hrv0
  iintro HS0
  iapply (cur3 (wp_lane_send X K c .a 1 (s := 5) (n := 23) (d := 0) (by decide) (by decide) (Nat.zero_le _) rfl (dv (k0_dev28_lt c) (k0_dev28_eq c)) rfl rfl rfl rfl)) $$ HC HA1 Hla1
  iintro ⟨HC, HA1⟩
  rw [wp_ret]; imodintro
  try dsimp only
  rw [wp_bind, k0_part39_eq_skeleton]
  unfold k0_part39_skel
  simp only [Prog.lift, Prog.bind_op, Prog.bind_ret, Prog.pure_eq_ret, semSignalWord, semWaitWord, wp_deviceId]
  iapply (cur2 (wp_recv2 X K c .a 1 (r := 5) (n := 24) (by decide) (by decide) (by decide) (by decide) (landed_a X (ch := 1) (h := 5) (by decide) c) rfl rfl)) $$ HC HA1
  iintro ⟨HC, HA1, Hla1, Hra1⟩
  ihave HK1 := (cur2 (keep_add X 1 c 6)) $$ HK1 Hra1
  iapply (cur2 (wp_recv2 X K c .w 0 (r := 5) (n := 24) (by decide) (by decide) (by decide) (by decide) (landed_w X 0 5 c) rfl rfl)) $$ HC HW0
  iintro ⟨HC, HW0, Hlw0, Hrw0⟩
  rw [wp_ret]; imodintro
  try dsimp only
  rw [wp_bind, k0_part40_eq_skeleton]
  unfold k0_part40_skel
  simp only [Prog.lift, Prog.bind_op, Prog.bind_ret, Prog.pure_eq_ret, semSignalWord, semWaitWord, wp_deviceId]
  iapply (cur2 (wp_recv2 X K c .v 0 (r := 5) (n := 24) (by decide) (by decide) (by decide) (by decide) (landed_v X 0 5 c) rfl rfl)) $$ HC HV0
  iintro ⟨HC, HV0, Hlv0, Hrv0⟩
  iapply (cur3 (wp_lane_send X K c .w 0 (s := 6) (n := 24) (d := 0) (by decide) (by decide) (Nat.zero_le _) rfl (dv (k0_dev29_lt c) (k0_dev29_eq c)) rfl rfl rfl rfl)) $$ HC HW0 Hlw0
  iintro ⟨HC, HW0⟩
  rw [wp_ret]; imodintro
  try dsimp only
  rw [wp_bind, k0_part41_eq_skeleton]
  unfold k0_part41_skel
  simp only [Prog.lift, Prog.bind_op, Prog.bind_ret, Prog.pure_eq_ret, semSignalWord, semWaitWord, wp_deviceId]
  iapply (cur3 (wp_lane_send X K c .v 0 (s := 6) (n := 25) (d := 0) (by decide) (by decide) (Nat.zero_le _) rfl (dv (k0_dev30_lt c) (k0_dev30_eq c)) rfl rfl rfl rfl)) $$ HC HV0 Hlv0
  iintro ⟨HC, HV0⟩
  iapply (cur2 (wp_store_start X c 0 12 (d := 0) (src := slot .w 0 6) (Y := lv X .w 0 6 c) (by decide) (Nat.zero_le _) (store_off14 c 5 0) rfl rfl rfl rfl rfl)) $$ HS0 Hrw0
  iintro HS0
  iapply (cur2 (wp_store_start X c 0 13 (d := 0) (src := slot .v 0 6) (Y := lv X .v 0 6 c) (by decide) (Nat.zero_le _) (store_off15 c 5 0) rfl rfl rfl rfl rfl)) $$ HS0 Hrv0
  iintro HS0
  rw [wp_ret]; imodintro
  try dsimp only
  rw [wp_bind, k0_part42_eq_skeleton]
  unfold k0_part42_skel
  simp only [Prog.lift, Prog.bind_op, Prog.bind_ret, Prog.pure_eq_ret, semSignalWord, semWaitWord, wp_deviceId]
  iapply (cur2 (wp_scatter_jp X c .w 1 3 (by decide) (cond_of (conds c).1 (cond1 c)) rfl sc4 rfl (half_off (k0_off16_eq c) (scat_eq c)) (fun _ _ h => pay_copy h))) $$ HK1 HHw1
  iintro ⟨HK1, HHw1⟩
  iapply (cur2 (wp_scatter_jp X c .v 1 3 (by decide) (cond_of (conds c).2.1 (cond2 c)) rfl sc4 rfl (half_off (k0_off17_eq c) (scat_eq c)) (fun _ _ h => pay_copy h))) $$ HK1 HHv1
  iintro ⟨HK1, HHv1⟩
  iapply (cur2 (wp_scatter_jp X c .w 1 4 (by decide) (cond_of (conds c).2.2.1 (cond3 c)) rfl sc4 rfl (half_off (k0_off18_eq c) (scat_eq c)) (fun _ _ h => pay_copy h))) $$ HK1 HHw1
  iintro ⟨HK1, HHw1⟩
  iapply (cur2 (wp_scatter_jp X c .v 1 4 (by decide) (cond_of (conds c).2.2.2.1 (cond4 c)) rfl sc4 rfl (half_off (k0_off19_eq c) (scat_eq c)) (fun _ _ h => pay_copy h))) $$ HK1 HHv1
  iintro ⟨HK1, HHv1⟩
  iapply (cur2 (wp_scatter_jp X c .w 1 5 (by decide) (cond_of (conds c).2.2.2.2.1 (cond5 c)) rfl sc4 rfl (half_off (k0_off20_eq c) (scat_eq c)) (fun _ _ h => pay_copy h))) $$ HK1 HHw1
  iintro ⟨HK1, HHw1⟩
  rw [wp_ret]; imodintro
  try dsimp only
  rw [wp_bind, k0_part43_eq_skeleton]
  unfold k0_part43_skel
  simp only [Prog.lift, Prog.bind_op, Prog.bind_ret, Prog.pure_eq_ret, semSignalWord, semWaitWord, wp_deviceId]
  iapply (cur2 (wp_scatter_jp X c .v 1 5 (by decide) (cond_of (conds c).2.2.2.2.2.1 (cond6 c)) rfl sc4 rfl (half_off (k0_off21_eq c) (scat_eq c)) (fun _ _ h => pay_copy h))) $$ HK1 HHv1
  iintro ⟨HK1, HHv1⟩
  iapply (cur2 (wp_scatter_jp X c .w 1 6 (by decide) (cond_of (conds c).2.2.2.2.2.2.1 (cond7 c)) rfl sc4 rfl (half_off (k0_off22_eq c) (scat_eq c)) (fun _ _ h => pay_copy h))) $$ HK1 HHw1
  iintro ⟨HK1, HHw1⟩
  iapply (cur2 (wp_scatter_jp X c .v 1 6 (by decide) (cond_of (conds c).2.2.2.2.2.2.2 (cond8 c)) rfl sc4 rfl (half_off (k0_off23_eq c) (scat_eq c)) (fun _ _ h => pay_copy h))) $$ HK1 HHv1
  iintro ⟨HK1, HHv1⟩
  ihave ⟨Hlw1, Hrw1⟩ := half_w X 1 c $$ HHw1
  ihave ⟨Hlv1, Hrv1⟩ := half_v X 1 c $$ HHv1
  iapply (cur2 (wp_store_start X c 1 0 (d := 0) (src := slot .w 1 0) (Y := lv X .w 1 0 c) (by decide) (Nat.zero_le _) (store_off12 c 1) rfl rfl rfl rfl rfl)) $$ HS1 Hrw1
  iintro HS1
  iapply (cur2 (wp_store_start X c 1 1 (d := 0) (src := slot .v 1 0) (Y := lv X .v 1 0 c) (by decide) (Nat.zero_le _) (store_off13 c 1) rfl rfl rfl rfl rfl)) $$ HS1 Hrv1
  iintro HS1
  rw [wp_ret]; imodintro
  try dsimp only
  rw [wp_bind, k0_part44_eq_skeleton]
  unfold k0_part44_skel
  simp only [Prog.lift, Prog.bind_op, Prog.bind_ret, Prog.pure_eq_ret, semSignalWord, semWaitWord, wp_deviceId]
  iapply (cur3 (wp_lane_send X K c .w 1 (s := 0) (n := 26) (d := 0) (by decide) (by decide) (Nat.zero_le _) rfl (dv (k0_dev31_lt c) (k0_dev31_eq c)) rfl rfl rfl rfl)) $$ HC HW1 Hlw1
  iintro ⟨HC, HW1⟩
  iapply (cur3 (wp_lane_send X K c .v 1 (s := 0) (n := 27) (d := 0) (by decide) (by decide) (Nat.zero_le _) rfl (dv (k0_dev32_lt c) (k0_dev32_eq c)) rfl rfl rfl rfl)) $$ HC HV1 Hlv1
  iintro ⟨HC, HV1⟩
  rw [wp_ret]; imodintro
  try dsimp only
  rw [wp_bind, k0_part45_eq_skeleton]
  unfold k0_part45_skel
  simp only [Prog.lift, Prog.bind_op, Prog.bind_ret, Prog.pure_eq_ret, semSignalWord, semWaitWord, wp_deviceId]
  iapply (cur2 (wp_recv2 X K c .w 0 (r := 6) (n := 28) (by decide) (by decide) (by decide) (by decide) (landed_w X 0 6 c) rfl rfl)) $$ HC HW0
  iintro ⟨HC, HW0, Hlw0, Hrw0⟩
  iapply (cur2 (wp_recv2 X K c .v 0 (r := 6) (n := 28) (by decide) (by decide) (by decide) (by decide) (landed_v X 0 6 c) rfl rfl)) $$ HC HV0
  iintro ⟨HC, HV0, Hlv0, Hrv0⟩
  rw [wp_ret]; imodintro
  try dsimp only
  rw [wp_bind, k0_part46_eq_skeleton]
  unfold k0_part46_skel
  simp only [Prog.lift, Prog.bind_op, Prog.bind_ret, Prog.pure_eq_ret, semSignalWord, semWaitWord, wp_deviceId]
  iapply (cur2 (wp_store_start X c 0 14 (d := 0) (src := slot .w 0 7) (Y := lv X .w 0 7 c) (by decide) (Nat.zero_le _) (store_off14 c 6 0) rfl rfl rfl rfl rfl)) $$ HS0 Hrw0
  iintro HS0
  iapply (cur2 (wp_store_start X c 0 15 (d := 0) (src := slot .v 0 7) (Y := lv X .v 0 7 c) (by decide) (Nat.zero_le _) (store_off15 c 6 0) rfl rfl rfl rfl rfl)) $$ HS0 Hrv0
  iintro HS0
  rw [wp_ret]; imodintro
  try dsimp only
  rw [wp_bind, k0_part47_eq_skeleton]
  unfold k0_part47_skel
  simp only [Prog.lift, Prog.bind_op, Prog.bind_ret, Prog.pure_eq_ret, semSignalWord, semWaitWord, wp_deviceId]
  iapply (cur2 (wp_recv2 X K c .w 1 (r := 0) (n := 28) (by decide) (by decide) (by decide) (by decide) (landed_w X 1 0 c) rfl rfl)) $$ HC HW1
  iintro ⟨HC, HW1, Hlw1, Hrw1⟩
  iapply (cur2 (wp_recv2 X K c .v 1 (r := 0) (n := 28) (by decide) (by decide) (by decide) (by decide) (landed_v X 1 0 c) rfl rfl)) $$ HC HV1
  iintro ⟨HC, HV1, Hlv1, Hrv1⟩
  rw [wp_ret]; imodintro
  try dsimp only
  rw [wp_bind, k0_part48_eq_skeleton]
  unfold k0_part48_skel
  simp only [Prog.lift, Prog.bind_op, Prog.bind_ret, Prog.pure_eq_ret, semSignalWord, semWaitWord, wp_deviceId]
  iapply (cur3 (wp_lane_send X K c .w 1 (s := 1) (n := 28) (d := 0) (by decide) (by decide) (Nat.zero_le _) rfl (dv (k0_dev33_lt c) (k0_dev33_eq c)) rfl rfl rfl rfl)) $$ HC HW1 Hlw1
  iintro ⟨HC, HW1⟩
  iapply (cur3 (wp_lane_send X K c .v 1 (s := 1) (n := 29) (d := 0) (by decide) (by decide) (Nat.zero_le _) rfl (dv (k0_dev34_lt c) (k0_dev34_eq c)) rfl rfl rfl rfl)) $$ HC HV1 Hlv1
  iintro ⟨HC, HV1⟩
  rw [wp_ret]; imodintro
  try dsimp only
  rw [wp_bind, k0_part49_eq_skeleton]
  unfold k0_part49_skel
  simp only [Prog.lift, Prog.bind_op, Prog.bind_ret, Prog.pure_eq_ret, semSignalWord, semWaitWord, wp_deviceId]
  iapply (cur2 (wp_store_start X c 1 2 (d := 0) (src := slot .w 1 1) (Y := lv X .w 1 1 c) (by decide) (Nat.zero_le _) (store_off14 c 0 1) rfl rfl rfl rfl rfl)) $$ HS1 Hrw1
  iintro HS1
  iapply (cur2 (wp_store_start X c 1 3 (d := 0) (src := slot .v 1 1) (Y := lv X .v 1 1 c) (by decide) (Nat.zero_le _) (store_off15 c 0 1) rfl rfl rfl rfl rfl)) $$ HS1 Hrv1
  iintro HS1
  rw [wp_ret]; imodintro
  try dsimp only
  rw [wp_bind, k0_part50_eq_skeleton]
  unfold k0_part50_skel
  simp only [Prog.lift, Prog.bind_op, Prog.bind_ret, Prog.pure_eq_ret, semSignalWord, semWaitWord, wp_deviceId]
  iapply (cur2 (wp_recv2 X K c .w 1 (r := 1) (n := 30) (by decide) (by decide) (by decide) (by decide) (landed_w X 1 1 c) rfl rfl)) $$ HC HW1
  iintro ⟨HC, HW1, Hlw1, Hrw1⟩
  iapply (cur2 (wp_recv2 X K c .v 1 (r := 1) (n := 30) (by decide) (by decide) (by decide) (by decide) (landed_v X 1 1 c) rfl rfl)) $$ HC HV1
  iintro ⟨HC, HV1, Hlv1, Hrv1⟩
  rw [wp_ret]; imodintro
  try dsimp only
  rw [wp_bind, k0_part51_eq_skeleton]
  unfold k0_part51_skel
  simp only [Prog.lift, Prog.bind_op, Prog.bind_ret, Prog.pure_eq_ret, semSignalWord, semWaitWord, wp_deviceId]
  iapply (cur3 (wp_lane_send X K c .w 1 (s := 2) (n := 30) (d := 0) (by decide) (by decide) (Nat.zero_le _) rfl (dv (k0_dev35_lt c) (k0_dev35_eq c)) rfl rfl rfl rfl)) $$ HC HW1 Hlw1
  iintro ⟨HC, HW1⟩
  iapply (cur3 (wp_lane_send X K c .v 1 (s := 2) (n := 31) (d := 0) (by decide) (by decide) (Nat.zero_le _) rfl (dv (k0_dev36_lt c) (k0_dev36_eq c)) rfl rfl rfl rfl)) $$ HC HV1 Hlv1
  iintro ⟨HC, HV1⟩
  rw [wp_ret]; imodintro
  try dsimp only
  rw [wp_bind, k0_part52_eq_skeleton]
  unfold k0_part52_skel
  simp only [Prog.lift, Prog.bind_op, Prog.bind_ret, Prog.pure_eq_ret, semSignalWord, semWaitWord, wp_deviceId]
  iapply (cur2 (wp_store_start X c 1 4 (d := 0) (src := slot .w 1 2) (Y := lv X .w 1 2 c) (by decide) (Nat.zero_le _) (store_off14 c 1 1) rfl rfl rfl rfl rfl)) $$ HS1 Hrw1
  iintro HS1
  iapply (cur2 (wp_store_start X c 1 5 (d := 0) (src := slot .v 1 2) (Y := lv X .v 1 2 c) (by decide) (Nat.zero_le _) (store_off15 c 1 1) rfl rfl rfl rfl rfl)) $$ HS1 Hrv1
  iintro HS1
  iapply (cur2 (wp_recv2 X K c .w 1 (r := 2) (n := 32) (by decide) (by decide) (by decide) (by decide) (landed_w X 1 2 c) rfl rfl)) $$ HC HW1
  iintro ⟨HC, HW1, Hlw1, Hrw1⟩
  rw [wp_ret]; imodintro
  try dsimp only
  rw [wp_bind, k0_part53_eq_skeleton]
  unfold k0_part53_skel
  simp only [Prog.lift, Prog.bind_op, Prog.bind_ret, Prog.pure_eq_ret, semSignalWord, semWaitWord, wp_deviceId]
  iapply (cur2 (wp_recv2 X K c .v 1 (r := 2) (n := 32) (by decide) (by decide) (by decide) (by decide) (landed_v X 1 2 c) rfl rfl)) $$ HC HV1
  iintro ⟨HC, HV1, Hlv1, Hrv1⟩
  iapply (cur3 (wp_lane_send X K c .w 1 (s := 3) (n := 32) (d := 0) (by decide) (by decide) (Nat.zero_le _) rfl (dv (k0_dev37_lt c) (k0_dev37_eq c)) rfl rfl rfl rfl)) $$ HC HW1 Hlw1
  iintro ⟨HC, HW1⟩
  rw [wp_ret]; imodintro
  try dsimp only
  rw [wp_bind, k0_part54_eq_skeleton]
  unfold k0_part54_skel
  simp only [Prog.lift, Prog.bind_op, Prog.bind_ret, Prog.pure_eq_ret, semSignalWord, semWaitWord, wp_deviceId]
  iapply (cur3 (wp_lane_send X K c .v 1 (s := 3) (n := 33) (d := 0) (by decide) (by decide) (Nat.zero_le _) rfl (dv (k0_dev38_lt c) (k0_dev38_eq c)) rfl rfl rfl rfl)) $$ HC HV1 Hlv1
  iintro ⟨HC, HV1⟩
  rw [wp_ret]; imodintro
  try dsimp only
  rw [wp_bind, k0_part55_eq_skeleton]
  unfold k0_part55_skel
  simp only [Prog.lift, Prog.bind_op, Prog.bind_ret, Prog.pure_eq_ret, semSignalWord, semWaitWord, wp_deviceId]
  iapply (cur2 (wp_store_start X c 1 6 (d := 0) (src := slot .w 1 3) (Y := lv X .w 1 3 c) (by decide) (Nat.zero_le _) (store_off14 c 2 1) rfl rfl rfl rfl rfl)) $$ HS1 Hrw1
  iintro HS1
  iapply (cur2 (wp_store_start X c 1 7 (d := 0) (src := slot .v 1 3) (Y := lv X .v 1 3 c) (by decide) (Nat.zero_le _) (store_off15 c 2 1) rfl rfl rfl rfl rfl)) $$ HS1 Hrv1
  iintro HS1
  iapply (cur2 (wp_recv2 X K c .w 1 (r := 3) (n := 34) (by decide) (by decide) (by decide) (by decide) (landed_w X 1 3 c) rfl rfl)) $$ HC HW1
  iintro ⟨HC, HW1, Hlw1, Hrw1⟩
  rw [wp_ret]; imodintro
  try dsimp only
  rw [wp_bind, k0_part56_eq_skeleton]
  unfold k0_part56_skel
  simp only [Prog.lift, Prog.bind_op, Prog.bind_ret, Prog.pure_eq_ret, semSignalWord, semWaitWord, wp_deviceId]
  iapply (cur2 (wp_recv2 X K c .v 1 (r := 3) (n := 34) (by decide) (by decide) (by decide) (by decide) (landed_v X 1 3 c) rfl rfl)) $$ HC HV1
  iintro ⟨HC, HV1, Hlv1, Hrv1⟩
  iapply (cur3 (wp_lane_send X K c .w 1 (s := 4) (n := 34) (d := 0) (by decide) (by decide) (Nat.zero_le _) rfl (dv (k0_dev39_lt c) (k0_dev39_eq c)) rfl rfl rfl rfl)) $$ HC HW1 Hlw1
  iintro ⟨HC, HW1⟩
  rw [wp_ret]; imodintro
  try dsimp only
  rw [wp_bind, k0_part57_eq_skeleton]
  unfold k0_part57_skel
  simp only [Prog.lift, Prog.bind_op, Prog.bind_ret, Prog.pure_eq_ret, semSignalWord, semWaitWord, wp_deviceId]
  iapply (cur3 (wp_lane_send X K c .v 1 (s := 4) (n := 35) (d := 0) (by decide) (by decide) (Nat.zero_le _) rfl (dv (k0_dev40_lt c) (k0_dev40_eq c)) rfl rfl rfl rfl)) $$ HC HV1 Hlv1
  iintro ⟨HC, HV1⟩
  iapply (cur2 (wp_store_start X c 1 8 (d := 0) (src := slot .w 1 4) (Y := lv X .w 1 4 c) (by decide) (Nat.zero_le _) (store_off14 c 3 1) rfl rfl rfl rfl rfl)) $$ HS1 Hrw1
  iintro HS1
  rw [wp_ret]; imodintro
  try dsimp only
  rw [wp_bind, k0_part58_eq_skeleton]
  unfold k0_part58_skel
  simp only [Prog.lift, Prog.bind_op, Prog.bind_ret, Prog.pure_eq_ret, semSignalWord, semWaitWord, wp_deviceId]
  iapply (cur2 (wp_store_start X c 1 9 (d := 0) (src := slot .v 1 4) (Y := lv X .v 1 4 c) (by decide) (Nat.zero_le _) (store_off15 c 3 1) rfl rfl rfl rfl rfl)) $$ HS1 Hrv1
  iintro HS1
  iapply (cur2 (wp_recv2 X K c .w 1 (r := 4) (n := 36) (by decide) (by decide) (by decide) (by decide) (landed_w X 1 4 c) rfl rfl)) $$ HC HW1
  iintro ⟨HC, HW1, Hlw1, Hrw1⟩
  rw [wp_ret]; imodintro
  try dsimp only
  rw [wp_bind, k0_part59_eq_skeleton]
  unfold k0_part59_skel
  simp only [Prog.lift, Prog.bind_op, Prog.bind_ret, Prog.pure_eq_ret, semSignalWord, semWaitWord, wp_deviceId]
  iapply (cur2 (wp_recv2 X K c .v 1 (r := 4) (n := 36) (by decide) (by decide) (by decide) (by decide) (landed_v X 1 4 c) rfl rfl)) $$ HC HV1
  iintro ⟨HC, HV1, Hlv1, Hrv1⟩
  iapply (cur3 (wp_lane_send X K c .w 1 (s := 5) (n := 36) (d := 0) (by decide) (by decide) (Nat.zero_le _) rfl (dv (k0_dev41_lt c) (k0_dev41_eq c)) rfl rfl rfl rfl)) $$ HC HW1 Hlw1
  iintro ⟨HC, HW1⟩
  rw [wp_ret]; imodintro
  try dsimp only
  rw [wp_bind, k0_part60_eq_skeleton]
  unfold k0_part60_skel
  simp only [Prog.lift, Prog.bind_op, Prog.bind_ret, Prog.pure_eq_ret, semSignalWord, semWaitWord, wp_deviceId]
  iapply (cur3 (wp_lane_send X K c .v 1 (s := 5) (n := 37) (d := 0) (by decide) (by decide) (Nat.zero_le _) rfl (dv (k0_dev42_lt c) (k0_dev42_eq c)) rfl rfl rfl rfl)) $$ HC HV1 Hlv1
  iintro ⟨HC, HV1⟩
  iapply (cur2 (wp_store_start X c 1 10 (d := 0) (src := slot .w 1 5) (Y := lv X .w 1 5 c) (by decide) (Nat.zero_le _) (store_off14 c 4 1) rfl rfl rfl rfl rfl)) $$ HS1 Hrw1
  iintro HS1
  iapply (cur2 (wp_store_start X c 1 11 (d := 0) (src := slot .v 1 5) (Y := lv X .v 1 5 c) (by decide) (Nat.zero_le _) (store_off15 c 4 1) rfl rfl rfl rfl rfl)) $$ HS1 Hrv1
  iintro HS1
  rw [wp_ret]; imodintro
  try dsimp only

  rw [wp_ret]; imodintro
  iapply Hk
  unfold Mid
  isplitl [HC]; · iexact HC
  isplitl [Hbar]; · iexact Hbar
  isplitl [HB0]; · iexists _; iexact HB0
  isplitl [HB1]; · iexists _; iexact HB1
  isplitl [HA0]; · iexact HA0
  isplitl [HA1]; · iexact HA1
  isplitl [HW0]; · iexact HW0
  isplitl [HW1]; · iexact HW1
  isplitl [HV0]; · iexact HV0
  isplitl [HV1]; · iexact HV1
  isplitl [HK0]; · iexact HK0
  isplitl [HK1]; · iexact HK1
  isplitl [Hla0]; · iexact Hla0
  isplitl [Hla1]; · iexact Hla1
  isplitl [Hlw0]; · iexact Hlw0
  isplitl [Hlv0]; · iexact Hlv0
  isplitl [HS0] <;> iassumption

set_option maxHeartbeats 4000000 in
theorem run_second (c : Dev nD) (v5 v16 v20 v23 v28 v31 : BitVec 32) {Q : PUnit.{1} → sProp 𝕄} :
    Mid X K c ⊢ iprop((Finish X K c 14 -∗ Q ⟨⟩)
      -∗ wp frame (wpE (defs₀ (F := F)) 𝒱₀ (c : Thread nD τ) none) Set.univ (k0_part86 (F := F) (Memref.whole main_arg0) (Memref.isWhole_whole _) (Memref.whole main_v1) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 c v5 v16 v20 v23 v28 v31) Q) := by
  unfold Mid
  iintro ⟨HC, Hbar, HB0, HB1, HA0, HA1, HW0, HW1, HV0, HV1, HK0, HK1, Hla0, Hla1, Hlw0, Hlv0, HS0, HS1⟩ Hk
  rw [k0_part86_eq_skeleton]
  unfold k0_part86_skel
  rw [wp_bind, k0_part61_eq_skeleton]
  unfold k0_part61_skel
  simp only [Prog.lift, Prog.bind_op, Prog.bind_ret, Prog.pure_eq_ret, semSignalWord, semWaitWord, wp_deviceId]
  iapply (cur2 (wp_recv2 X K c .w 1 (r := 5) (n := 38) (by decide) (by decide) (by decide) (by decide) (landed_w X 1 5 c) rfl rfl)) $$ HC HW1
  iintro ⟨HC, HW1, Hlw1, Hrw1⟩
  iapply (cur2 (wp_recv2 X K c .v 1 (r := 5) (n := 38) (by decide) (by decide) (by decide) (by decide) (landed_v X 1 5 c) rfl rfl)) $$ HC HV1
  iintro ⟨HC, HV1, Hlv1, Hrv1⟩
  rw [wp_ret]; imodintro
  try dsimp only
  rw [wp_bind, k0_part62_eq_skeleton]
  unfold k0_part62_skel
  simp only [Prog.lift, Prog.bind_op, Prog.bind_ret, Prog.pure_eq_ret, semSignalWord, semWaitWord, wp_deviceId]
  iapply (cur3 (wp_lane_send X K c .w 1 (s := 6) (n := 38) (d := 0) (by decide) (by decide) (Nat.zero_le _) rfl (dv (k0_dev43_lt c) (k0_dev43_eq c)) rfl rfl rfl rfl)) $$ HC HW1 Hlw1
  iintro ⟨HC, HW1⟩
  iapply (cur3 (wp_lane_send X K c .v 1 (s := 6) (n := 39) (d := 0) (by decide) (by decide) (Nat.zero_le _) rfl (dv (k0_dev44_lt c) (k0_dev44_eq c)) rfl rfl rfl rfl)) $$ HC HV1 Hlv1
  iintro ⟨HC, HV1⟩
  rw [wp_ret]; imodintro
  try dsimp only
  rw [wp_bind, k0_part63_eq_skeleton]
  unfold k0_part63_skel
  simp only [Prog.lift, Prog.bind_op, Prog.bind_ret, Prog.pure_eq_ret, semSignalWord, semWaitWord, wp_deviceId]
  iapply (cur2 (wp_store_start X c 1 12 (d := 0) (src := slot .w 1 6) (Y := lv X .w 1 6 c) (by decide) (Nat.zero_le _) (store_off14 c 5 1) rfl rfl rfl rfl rfl)) $$ HS1 Hrw1
  iintro HS1
  iapply (cur2 (wp_store_start X c 1 13 (d := 0) (src := slot .v 1 6) (Y := lv X .v 1 6 c) (by decide) (Nat.zero_le _) (store_off15 c 5 1) rfl rfl rfl rfl rfl)) $$ HS1 Hrv1
  iintro HS1
  rw [wp_ret]; imodintro
  try dsimp only
  rw [wp_bind, k0_part64_eq_skeleton]
  unfold k0_part64_skel
  simp only [Prog.lift, Prog.bind_op, Prog.bind_ret, Prog.pure_eq_ret, semSignalWord, semWaitWord, wp_deviceId]
  iapply (cur2 (wp_recv2 X K c .w 1 (r := 6) (n := 40) (by decide) (by decide) (by decide) (by decide) (landed_w X 1 6 c) rfl rfl)) $$ HC HW1
  iintro ⟨HC, HW1, Hlw1, Hrw1⟩
  iapply (cur2 (wp_recv2 X K c .v 1 (r := 6) (n := 40) (by decide) (by decide) (by decide) (by decide) (landed_v X 1 6 c) rfl rfl)) $$ HC HV1
  iintro ⟨HC, HV1, Hlv1, Hrv1⟩
  rw [wp_ret]; imodintro
  try dsimp only
  rw [wp_bind, k0_part65_eq_skeleton]
  unfold k0_part65_skel
  simp only [Prog.lift, Prog.bind_op, Prog.bind_ret, Prog.pure_eq_ret, semSignalWord, semWaitWord, wp_deviceId]
  iapply (cur2 (wp_store_start X c 1 14 (d := 0) (src := slot .w 1 7) (Y := lv X .w 1 7 c) (by decide) (Nat.zero_le _) (store_off14 c 6 1) rfl rfl rfl rfl rfl)) $$ HS1 Hrw1
  iintro HS1
  iapply (cur2 (wp_store_start X c 1 15 (d := 0) (src := slot .v 1 7) (Y := lv X .v 1 7 c) (by decide) (Nat.zero_le _) (store_off15 c 6 1) rfl rfl rfl rfl rfl)) $$ HS1 Hrv1
  iintro HS1
  iapply (cur2 (wp_lane_drain X K c .a 0 (s := 6) (d := 0) (j := 0) (by decide) (by decide) (by decide) (by decide) rfl rfl)) $$ HC HA0
  iintro ⟨HC, HA0⟩
  rw [wp_ret]; imodintro
  try dsimp only
  rw [wp_bind, k0_part66_eq_skeleton]
  unfold k0_part66_skel
  simp only [Prog.lift, Prog.bind_op, Prog.bind_ret, Prog.pure_eq_ret, semSignalWord, semWaitWord, wp_deviceId]
  iapply (cur2 (wp_lane_drain X K c .a 0 (s := 6) (d := 1) (j := 1) (by decide) (by decide) (by decide) (by decide) rfl rfl)) $$ HC HA0
  iintro ⟨HC, HA0⟩
  iapply (cur2 (wp_lane_drain X K c .a 0 (s := 6) (d := 2) (j := 2) (by decide) (by decide) (by decide) (by decide) rfl rfl)) $$ HC HA0
  iintro ⟨HC, HA0⟩
  iapply (cur2 (wp_lane_drain X K c .a 0 (s := 6) (d := 3) (j := 3) (by decide) (by decide) (by decide) (by decide) rfl rfl)) $$ HC HA0
  iintro ⟨HC, HA0⟩
  rw [wp_ret]; imodintro
  try dsimp only
  rw [wp_bind, k0_part67_eq_skeleton]
  unfold k0_part67_skel
  simp only [Prog.lift, Prog.bind_op, Prog.bind_ret, Prog.pure_eq_ret, semSignalWord, semWaitWord, wp_deviceId]
  iapply (cur2 (wp_lane_drain X K c .a 0 (s := 6) (d := 4) (j := 4) (by decide) (by decide) (by decide) (by decide) rfl rfl)) $$ HC HA0
  iintro ⟨HC, HA0⟩
  iapply (cur2 (wp_lane_drain X K c .a 0 (s := 6) (d := 5) (j := 5) (by decide) (by decide) (by decide) (by decide) rfl rfl)) $$ HC HA0
  iintro ⟨HC, HA0⟩
  iapply (cur2 (wp_lane_drain X K c .a 1 (s := 6) (d := 0) (j := 0) (by decide) (by decide) (by decide) (by decide) rfl rfl)) $$ HC HA1
  iintro ⟨HC, HA1⟩
  rw [wp_ret]; imodintro
  try dsimp only
  rw [wp_bind, k0_part68_eq_skeleton]
  unfold k0_part68_skel
  simp only [Prog.lift, Prog.bind_op, Prog.bind_ret, Prog.pure_eq_ret, semSignalWord, semWaitWord, wp_deviceId]
  iapply (cur2 (wp_lane_drain X K c .a 1 (s := 6) (d := 1) (j := 1) (by decide) (by decide) (by decide) (by decide) rfl rfl)) $$ HC HA1
  iintro ⟨HC, HA1⟩
  iapply (cur2 (wp_lane_drain X K c .a 1 (s := 6) (d := 2) (j := 2) (by decide) (by decide) (by decide) (by decide) rfl rfl)) $$ HC HA1
  iintro ⟨HC, HA1⟩
  iapply (cur2 (wp_lane_drain X K c .a 1 (s := 6) (d := 3) (j := 3) (by decide) (by decide) (by decide) (by decide) rfl rfl)) $$ HC HA1
  iintro ⟨HC, HA1⟩
  rw [wp_ret]; imodintro
  try dsimp only
  rw [wp_bind, k0_part69_eq_skeleton]
  unfold k0_part69_skel
  simp only [Prog.lift, Prog.bind_op, Prog.bind_ret, Prog.pure_eq_ret, semSignalWord, semWaitWord, wp_deviceId]
  iapply (cur2 (wp_lane_drain X K c .a 1 (s := 6) (d := 4) (j := 4) (by decide) (by decide) (by decide) (by decide) rfl rfl)) $$ HC HA1
  iintro ⟨HC, HA1⟩
  iapply (cur2 (wp_lane_drain X K c .a 1 (s := 6) (d := 5) (j := 5) (by decide) (by decide) (by decide) (by decide) rfl rfl)) $$ HC HA1
  iintro ⟨HC, HA1⟩
  iapply (cur2 (wp_lane_drain X K c .w 0 (s := 7) (d := 0) (j := 0) (by decide) (by decide) (by decide) (by decide) rfl rfl)) $$ HC HW0
  iintro ⟨HC, HW0⟩
  rw [wp_ret]; imodintro
  try dsimp only
  rw [wp_bind, k0_part70_eq_skeleton]
  unfold k0_part70_skel
  simp only [Prog.lift, Prog.bind_op, Prog.bind_ret, Prog.pure_eq_ret, semSignalWord, semWaitWord, wp_deviceId]
  iapply (cur2 (wp_lane_drain X K c .v 0 (s := 7) (d := 0) (j := 0) (by decide) (by decide) (by decide) (by decide) rfl rfl)) $$ HC HV0
  iintro ⟨HC, HV0⟩
  iapply (cur2 (wp_lane_drain X K c .w 0 (s := 7) (d := 1) (j := 1) (by decide) (by decide) (by decide) (by decide) rfl rfl)) $$ HC HW0
  iintro ⟨HC, HW0⟩
  iapply (cur2 (wp_lane_drain X K c .v 0 (s := 7) (d := 1) (j := 1) (by decide) (by decide) (by decide) (by decide) rfl rfl)) $$ HC HV0
  iintro ⟨HC, HV0⟩
  rw [wp_ret]; imodintro
  try dsimp only
  rw [wp_bind, k0_part71_eq_skeleton]
  unfold k0_part71_skel
  simp only [Prog.lift, Prog.bind_op, Prog.bind_ret, Prog.pure_eq_ret, semSignalWord, semWaitWord, wp_deviceId]
  iapply (cur2 (wp_lane_drain X K c .w 0 (s := 7) (d := 2) (j := 2) (by decide) (by decide) (by decide) (by decide) rfl rfl)) $$ HC HW0
  iintro ⟨HC, HW0⟩
  iapply (cur2 (wp_lane_drain X K c .v 0 (s := 7) (d := 2) (j := 2) (by decide) (by decide) (by decide) (by decide) rfl rfl)) $$ HC HV0
  iintro ⟨HC, HV0⟩
  iapply (cur2 (wp_lane_drain X K c .w 0 (s := 7) (d := 3) (j := 3) (by decide) (by decide) (by decide) (by decide) rfl rfl)) $$ HC HW0
  iintro ⟨HC, HW0⟩
  rw [wp_ret]; imodintro
  try dsimp only
  rw [wp_bind, k0_part72_eq_skeleton]
  unfold k0_part72_skel
  simp only [Prog.lift, Prog.bind_op, Prog.bind_ret, Prog.pure_eq_ret, semSignalWord, semWaitWord, wp_deviceId]
  iapply (cur2 (wp_lane_drain X K c .v 0 (s := 7) (d := 3) (j := 3) (by decide) (by decide) (by decide) (by decide) rfl rfl)) $$ HC HV0
  iintro ⟨HC, HV0⟩
  iapply (cur2 (wp_lane_drain X K c .w 0 (s := 7) (d := 4) (j := 4) (by decide) (by decide) (by decide) (by decide) rfl rfl)) $$ HC HW0
  iintro ⟨HC, HW0⟩
  iapply (cur2 (wp_lane_drain X K c .v 0 (s := 7) (d := 4) (j := 4) (by decide) (by decide) (by decide) (by decide) rfl rfl)) $$ HC HV0
  iintro ⟨HC, HV0⟩
  rw [wp_ret]; imodintro
  try dsimp only
  rw [wp_bind, k0_part73_eq_skeleton]
  unfold k0_part73_skel
  simp only [Prog.lift, Prog.bind_op, Prog.bind_ret, Prog.pure_eq_ret, semSignalWord, semWaitWord, wp_deviceId]
  iapply (cur2 (wp_lane_drain X K c .w 0 (s := 7) (d := 5) (j := 5) (by decide) (by decide) (by decide) (by decide) rfl rfl)) $$ HC HW0
  iintro ⟨HC, HW0⟩
  iapply (cur2 (wp_lane_drain X K c .v 0 (s := 7) (d := 5) (j := 5) (by decide) (by decide) (by decide) (by decide) rfl rfl)) $$ HC HV0
  iintro ⟨HC, HV0⟩
  iapply (cur2 (wp_lane_drain X K c .w 0 (s := 7) (d := 6) (j := 6) (by decide) (by decide) (by decide) (by decide) rfl rfl)) $$ HC HW0
  iintro ⟨HC, HW0⟩
  rw [wp_ret]; imodintro
  try dsimp only
  rw [wp_bind, k0_part74_eq_skeleton]
  unfold k0_part74_skel
  simp only [Prog.lift, Prog.bind_op, Prog.bind_ret, Prog.pure_eq_ret, semSignalWord, semWaitWord, wp_deviceId]
  iapply (cur2 (wp_lane_drain X K c .v 0 (s := 7) (d := 6) (j := 6) (by decide) (by decide) (by decide) (by decide) rfl rfl)) $$ HC HV0
  iintro ⟨HC, HV0⟩
  iapply (cur2 (wp_lane_drain X K c .w 1 (s := 7) (d := 0) (j := 0) (by decide) (by decide) (by decide) (by decide) rfl rfl)) $$ HC HW1
  iintro ⟨HC, HW1⟩
  iapply (cur2 (wp_lane_drain X K c .v 1 (s := 7) (d := 0) (j := 0) (by decide) (by decide) (by decide) (by decide) rfl rfl)) $$ HC HV1
  iintro ⟨HC, HV1⟩
  rw [wp_ret]; imodintro
  try dsimp only
  rw [wp_bind, k0_part75_eq_skeleton]
  unfold k0_part75_skel
  simp only [Prog.lift, Prog.bind_op, Prog.bind_ret, Prog.pure_eq_ret, semSignalWord, semWaitWord, wp_deviceId]
  iapply (cur2 (wp_lane_drain X K c .w 1 (s := 7) (d := 1) (j := 1) (by decide) (by decide) (by decide) (by decide) rfl rfl)) $$ HC HW1
  iintro ⟨HC, HW1⟩
  iapply (cur2 (wp_lane_drain X K c .v 1 (s := 7) (d := 1) (j := 1) (by decide) (by decide) (by decide) (by decide) rfl rfl)) $$ HC HV1
  iintro ⟨HC, HV1⟩
  iapply (cur2 (wp_lane_drain X K c .w 1 (s := 7) (d := 2) (j := 2) (by decide) (by decide) (by decide) (by decide) rfl rfl)) $$ HC HW1
  iintro ⟨HC, HW1⟩
  rw [wp_ret]; imodintro
  try dsimp only
  rw [wp_bind, k0_part76_eq_skeleton]
  unfold k0_part76_skel
  simp only [Prog.lift, Prog.bind_op, Prog.bind_ret, Prog.pure_eq_ret, semSignalWord, semWaitWord, wp_deviceId]
  iapply (cur2 (wp_lane_drain X K c .v 1 (s := 7) (d := 2) (j := 2) (by decide) (by decide) (by decide) (by decide) rfl rfl)) $$ HC HV1
  iintro ⟨HC, HV1⟩
  iapply (cur2 (wp_lane_drain X K c .w 1 (s := 7) (d := 3) (j := 3) (by decide) (by decide) (by decide) (by decide) rfl rfl)) $$ HC HW1
  iintro ⟨HC, HW1⟩
  iapply (cur2 (wp_lane_drain X K c .v 1 (s := 7) (d := 3) (j := 3) (by decide) (by decide) (by decide) (by decide) rfl rfl)) $$ HC HV1
  iintro ⟨HC, HV1⟩
  rw [wp_ret]; imodintro
  try dsimp only
  rw [wp_bind, k0_part77_eq_skeleton]
  unfold k0_part77_skel
  simp only [Prog.lift, Prog.bind_op, Prog.bind_ret, Prog.pure_eq_ret, semSignalWord, semWaitWord, wp_deviceId]
  iapply (cur2 (wp_lane_drain X K c .w 1 (s := 7) (d := 4) (j := 4) (by decide) (by decide) (by decide) (by decide) rfl rfl)) $$ HC HW1
  iintro ⟨HC, HW1⟩
  iapply (cur2 (wp_lane_drain X K c .v 1 (s := 7) (d := 4) (j := 4) (by decide) (by decide) (by decide) (by decide) rfl rfl)) $$ HC HV1
  iintro ⟨HC, HV1⟩
  iapply (cur2 (wp_lane_drain X K c .w 1 (s := 7) (d := 5) (j := 5) (by decide) (by decide) (by decide) (by decide) rfl rfl)) $$ HC HW1
  iintro ⟨HC, HW1⟩
  rw [wp_ret]; imodintro
  try dsimp only
  rw [wp_bind, k0_part78_eq_skeleton]
  unfold k0_part78_skel
  simp only [Prog.lift, Prog.bind_op, Prog.bind_ret, Prog.pure_eq_ret, semSignalWord, semWaitWord, wp_deviceId]
  iapply (cur2 (wp_lane_drain X K c .v 1 (s := 7) (d := 5) (j := 5) (by decide) (by decide) (by decide) (by decide) rfl rfl)) $$ HC HV1
  iintro ⟨HC, HV1⟩
  iapply (cur2 (wp_lane_drain X K c .w 1 (s := 7) (d := 6) (j := 6) (by decide) (by decide) (by decide) (by decide) rfl rfl)) $$ HC HW1
  iintro ⟨HC, HW1⟩
  iapply (cur2 (wp_lane_drain X K c .v 1 (s := 7) (d := 6) (j := 6) (by decide) (by decide) (by decide) (by decide) rfl rfl)) $$ HC HV1
  iintro ⟨HC, HV1⟩
  rw [wp_ret]; imodintro
  try dsimp only
  rw [wp_bind, k0_part79_eq_skeleton]
  unfold k0_part79_skel
  simp only [Prog.lift, Prog.bind_op, Prog.bind_ret, Prog.pure_eq_ret, semSignalWord, semWaitWord, wp_deviceId]
  iapply (cur2 (wp_swait X c 0 0 (s := 16) (n := 40) (by decide) (by decide) (by decide) (by decide) rfl rfl)) $$ HC HS0
  iintro ⟨HC, HS0⟩
  iapply (cur2 (wp_swait X c 0 1 (s := 16) (n := 40) (by decide) (by decide) (by decide) (by decide) rfl rfl)) $$ HC HS0
  iintro ⟨HC, HS0⟩
  iapply (cur2 (wp_swait X c 0 2 (s := 16) (n := 40) (by decide) (by decide) (by decide) (by decide) rfl rfl)) $$ HC HS0
  iintro ⟨HC, HS0⟩
  iapply (cur2 (wp_swait X c 0 3 (s := 16) (n := 40) (by decide) (by decide) (by decide) (by decide) rfl rfl)) $$ HC HS0
  iintro ⟨HC, HS0⟩
  iapply (cur2 (wp_swait X c 0 4 (s := 16) (n := 40) (by decide) (by decide) (by decide) (by decide) rfl rfl)) $$ HC HS0
  iintro ⟨HC, HS0⟩
  rw [wp_ret]; imodintro
  try dsimp only
  rw [wp_bind, k0_part80_eq_skeleton]
  unfold k0_part80_skel
  simp only [Prog.lift, Prog.bind_op, Prog.bind_ret, Prog.pure_eq_ret, semSignalWord, semWaitWord, wp_deviceId]
  iapply (cur2 (wp_swait X c 0 5 (s := 16) (n := 40) (by decide) (by decide) (by decide) (by decide) rfl rfl)) $$ HC HS0
  iintro ⟨HC, HS0⟩
  iapply (cur2 (wp_swait X c 0 6 (s := 16) (n := 40) (by decide) (by decide) (by decide) (by decide) rfl rfl)) $$ HC HS0
  iintro ⟨HC, HS0⟩
  iapply (cur2 (wp_swait X c 0 7 (s := 16) (n := 40) (by decide) (by decide) (by decide) (by decide) rfl rfl)) $$ HC HS0
  iintro ⟨HC, HS0⟩
  iapply (cur2 (wp_swait X c 0 8 (s := 16) (n := 40) (by decide) (by decide) (by decide) (by decide) rfl rfl)) $$ HC HS0
  iintro ⟨HC, HS0⟩
  rw [wp_ret]; imodintro
  try dsimp only
  rw [wp_bind, k0_part81_eq_skeleton]
  unfold k0_part81_skel
  simp only [Prog.lift, Prog.bind_op, Prog.bind_ret, Prog.pure_eq_ret, semSignalWord, semWaitWord, wp_deviceId]
  iapply (cur2 (wp_swait X c 0 9 (s := 16) (n := 40) (by decide) (by decide) (by decide) (by decide) rfl rfl)) $$ HC HS0
  iintro ⟨HC, HS0⟩
  iapply (cur2 (wp_swait X c 0 10 (s := 16) (n := 40) (by decide) (by decide) (by decide) (by decide) rfl rfl)) $$ HC HS0
  iintro ⟨HC, HS0⟩
  iapply (cur2 (wp_swait X c 0 11 (s := 16) (n := 40) (by decide) (by decide) (by decide) (by decide) rfl rfl)) $$ HC HS0
  iintro ⟨HC, HS0⟩
  iapply (cur2 (wp_swait X c 0 12 (s := 16) (n := 40) (by decide) (by decide) (by decide) (by decide) rfl rfl)) $$ HC HS0
  iintro ⟨HC, HS0⟩
  iapply (cur2 (wp_swait X c 0 13 (s := 16) (n := 40) (by decide) (by decide) (by decide) (by decide) rfl rfl)) $$ HC HS0
  iintro ⟨HC, HS0⟩
  rw [wp_ret]; imodintro
  try dsimp only
  rw [wp_bind, k0_part82_eq_skeleton]
  unfold k0_part82_skel
  simp only [Prog.lift, Prog.bind_op, Prog.bind_ret, Prog.pure_eq_ret, semSignalWord, semWaitWord, wp_deviceId]
  iapply (cur2 (wp_swait X c 1 0 (s := 16) (n := 40) (by decide) (by decide) (by decide) (by decide) rfl rfl)) $$ HC HS1
  iintro ⟨HC, HS1⟩
  iapply (cur2 (wp_swait X c 1 1 (s := 16) (n := 40) (by decide) (by decide) (by decide) (by decide) rfl rfl)) $$ HC HS1
  iintro ⟨HC, HS1⟩
  iapply (cur2 (wp_swait X c 0 14 (s := 16) (n := 40) (by decide) (by decide) (by decide) (by decide) rfl rfl)) $$ HC HS0
  iintro ⟨HC, HS0⟩
  iapply (cur2 (wp_swait X c 0 15 (s := 16) (n := 40) (by decide) (by decide) (by decide) (by decide) rfl rfl)) $$ HC HS0
  iintro ⟨HC, HS0⟩
  rw [wp_ret]; imodintro
  try dsimp only
  rw [wp_bind, k0_part83_eq_skeleton]
  unfold k0_part83_skel
  simp only [Prog.lift, Prog.bind_op, Prog.bind_ret, Prog.pure_eq_ret, semSignalWord, semWaitWord, wp_deviceId]
  iapply (cur2 (wp_swait X c 1 2 (s := 16) (n := 40) (by decide) (by decide) (by decide) (by decide) rfl rfl)) $$ HC HS1
  iintro ⟨HC, HS1⟩
  iapply (cur2 (wp_swait X c 1 3 (s := 16) (n := 40) (by decide) (by decide) (by decide) (by decide) rfl rfl)) $$ HC HS1
  iintro ⟨HC, HS1⟩
  iapply (cur2 (wp_swait X c 1 4 (s := 16) (n := 40) (by decide) (by decide) (by decide) (by decide) rfl rfl)) $$ HC HS1
  iintro ⟨HC, HS1⟩
  iapply (cur2 (wp_swait X c 1 5 (s := 16) (n := 40) (by decide) (by decide) (by decide) (by decide) rfl rfl)) $$ HC HS1
  iintro ⟨HC, HS1⟩
  iapply (cur2 (wp_swait X c 1 6 (s := 16) (n := 40) (by decide) (by decide) (by decide) (by decide) rfl rfl)) $$ HC HS1
  iintro ⟨HC, HS1⟩
  rw [wp_ret]; imodintro
  try dsimp only
  rw [wp_bind, k0_part84_eq_skeleton]
  unfold k0_part84_skel
  simp only [Prog.lift, Prog.bind_op, Prog.bind_ret, Prog.pure_eq_ret, semSignalWord, semWaitWord, wp_deviceId]
  iapply (cur2 (wp_swait X c 1 7 (s := 16) (n := 40) (by decide) (by decide) (by decide) (by decide) rfl rfl)) $$ HC HS1
  iintro ⟨HC, HS1⟩
  iapply (cur2 (wp_swait X c 1 8 (s := 16) (n := 40) (by decide) (by decide) (by decide) (by decide) rfl rfl)) $$ HC HS1
  iintro ⟨HC, HS1⟩
  iapply (cur2 (wp_swait X c 1 9 (s := 16) (n := 40) (by decide) (by decide) (by decide) (by decide) rfl rfl)) $$ HC HS1
  iintro ⟨HC, HS1⟩
  iapply (cur2 (wp_swait X c 1 10 (s := 16) (n := 40) (by decide) (by decide) (by decide) (by decide) rfl rfl)) $$ HC HS1
  iintro ⟨HC, HS1⟩
  iapply (cur2 (wp_swait X c 1 11 (s := 16) (n := 40) (by decide) (by decide) (by decide) (by decide) rfl rfl)) $$ HC HS1
  iintro ⟨HC, HS1⟩
  rw [wp_ret]; imodintro
  try dsimp only

  iapply (cur2 (wp_swait X c 1 12 (s := 16) (n := 40) (by decide) (by decide) (by decide) (by decide) rfl rfl)) $$ HC HS1
  iintro ⟨HC, HS1⟩
  iapply (cur2 (wp_swait X c 1 13 (s := 16) (n := 40) (by decide) (by decide) (by decide) (by decide) rfl rfl)) $$ HC HS1
  iintro ⟨HC, HS1⟩
  rw [wp_ret]; imodintro
  iapply Hk
  unfold Finish
  isplitl [HC]; · iexact HC
  isplitl [Hbar]; · iexact Hbar
  isplitl [HB0]; · iexact HB0
  isplitl [HB1]; · iexact HB1
  isplitl [HA0]; · iexact HA0
  isplitl [HA1]; · iexact HA1
  isplitl [HW0]; · iexact HW0
  isplitl [HW1]; · iexact HW1
  isplitl [HV0]; · iexact HV0
  isplitl [HV1]; · iexact HV1
  isplitl [HK0]; · iexact HK0
  isplitl [HK1]; · iexact HK1
  isplitl [Hla0]; · iexact Hla0
  isplitl [Hla1]; · iexact Hla1
  isplitl [Hlw0]; · iexact Hlw0
  isplitl [Hlw1]; · iexact Hlw1
  isplitl [Hlv0]; · iexact Hlv0
  isplitl [Hlv1]; · iexact Hlv1
  isplitl [HS0] <;> iassumption

/-- The body, from start to finish. -/
theorem run_body (c : Dev nD) :
    Start X K c ⊢ wp frame (wpE (defs₀ (F := F)) 𝒱₀ (c : Thread nD τ) none) Set.univ (cc0_body (F := F) (Memref.whole main_arg0) (Memref.isWhole_whole _) (Memref.whole main_v1) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11) (fun _ => Finish X K c 16) := by
  iintro H
  rw [cc0_body_eq_skeleton]
  unfold cc0_body_skel
  rw [wp_bind]
  iapply ((run_first X K c)) $$ H
  iintro %v5 %v16 %v20 %v23 %v28 %v31 H
  dsimp only
  rw [wp_bind]
  iapply ((run_second X K c v5 v16 v20 v23 v28 v31)) $$ H
  unfold Finish
  iintro ⟨HC, Hbar, HB0, HB1, HA0, HA1, HW0, HW1, HV0, HV1, HK0, HK1, Hla0, Hla1, Hlw0, Hlw1, Hlv0, Hlv1, HS0, HS1⟩
  simp only [Prog.lift, Prog.bind_op, Prog.bind_ret, Prog.pure_eq_ret, semSignalWord, semWaitWord, wp_deviceId]
  iapply (cur2 (wp_swait X c 1 14 (s := 16) (n := 40) (by decide) (by decide) (by decide) (by decide) rfl rfl)) $$ HC HS1
  iintro ⟨HC, HS1⟩
  iapply (cur2 (wp_swait X c 1 15 (s := 16) (n := 40) (by decide) (by decide) (by decide) (by decide) rfl rfl)) $$ HC HS1
  iintro ⟨HC, HS1⟩
  rw [wp_ret]; imodintro
  isplitl [HC]; · iexact HC
  isplitl [Hbar]; · iexact Hbar
  isplitl [HB0]; · iexact HB0
  isplitl [HB1]; · iexact HB1
  isplitl [HA0]; · iexact HA0
  isplitl [HA1]; · iexact HA1
  isplitl [HW0]; · iexact HW0
  isplitl [HW1]; · iexact HW1
  isplitl [HV0]; · iexact HV0
  isplitl [HV1]; · iexact HV1
  isplitl [HK0]; · iexact HK0
  isplitl [HK1]; · iexact HK1
  isplitl [Hla0]; · iexact Hla0
  isplitl [Hla1]; · iexact Hla1
  isplitl [Hlw0]; · iexact Hlw0
  isplitl [Hlw1]; · iexact Hlw1
  isplitl [Hlv0]; · iexact Hlv0
  isplitl [Hlv1]; · iexact Hlv1
  isplitl [HS0] <;> iassumption

end Cert.RingProof

end
-- ==== Proof.Split.lean ====
/- The whole buffers and the runs of semaphores of a device, cut into the pieces the protocol deals in, and joined again. -/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Runs of numbers -/

theorem bigSep_fin_Ico {M : Type} [URA M] (n : ℕ) (Φ : ℕ → sProp M) : bigSep (Finset.univ : Finset (Fin n)) (fun i => Φ i.val) = bigSep (Finset.Ico 0 n) Φ := by
  rw [show Finset.Ico 0 n = (Finset.univ : Finset (Fin n)).map Fin.valEmbedding by
    rw [Fin.map_valEmbedding_univ]; ext x; simp only [Finset.mem_Ico, Finset.mem_Iio]; omega, bigSep_map]
  rfl

theorem bigSep_grid {M : Type} [URA M] (a n : ℕ) (Φ : ℕ → ℕ → sProp M) :
    bigSep (Finset.univ : Finset (Fin a × Fin n)) (fun t => Φ t.1.val t.2.val) = bigSep (Finset.Ico 0 a) fun i => bigSep (Finset.Ico 0 n) (Φ i) := by
  rw [bigSep_univ_prod, ← bigSep_fin_Ico a]
  exact bigSep_congr fun i _ => bigSep_fin_Ico n (Φ i.val)

theorem bigSep_Ico_two {M : Type} [URA M] (Φ : ℕ → sProp M) : bigSep (Finset.Ico 0 2) Φ = iprop(Φ 0 ∗ Φ 1) := by
  rw [← bigSep_fin_Ico 2]; exact bigSep_fin_two _

/-- A run from `b` on, counted from 0. -/
theorem bigSep_shift {M : Type} [URA M] (b n : ℕ) (Φ : ℕ → sProp M) :
    bigSep (Finset.Ico b (b + n)) Φ = bigSep (Finset.Ico 0 n) fun h => Φ (b + h) := by
  rw [show Finset.Ico b (b + n) = (Finset.Ico 0 n).map (addLeftEmbedding b) by
    ext x; simp only [Finset.mem_Ico, Finset.mem_map, addLeftEmbedding_apply]
    constructor
    · intro h; exact ⟨x - b, by omega, by omega⟩
    · rintro ⟨y, h, rfl⟩; omega, bigSep_map]
  rfl

/-- A run in two. -/
theorem bigSep_cut {M : Type} [URA M] {a b d : ℕ} (h1 : a ≤ b) (h2 : b ≤ d) (Φ : ℕ → sProp M) :
    bigSep (Finset.Ico a d) Φ = iprop((bigSep (Finset.Ico a b) Φ) ∗ bigSep (Finset.Ico b d) Φ) := by
  rw [← Finset.Ico_union_Ico_eq_Ico h1 h2, bigSep_union (Finset.Ico_disjoint_Ico_consecutive a b d)]
  rfl

/-- A run of even length, by twos. -/
theorem bigSep_twos {M : Type} [URA M] (n : ℕ) (Φ : ℕ → sProp M) :
    bigSep (Finset.Ico 0 (2 * n)) Φ = bigSep (Finset.Ico 0 n) fun j => iprop(Φ (2 * j) ∗ Φ (2 * j + 1)) := by
  induction n with
  | zero => rw [Nat.mul_zero, Finset.Ico_self, bigSep_empty, bigSep_empty]
  | succ n ih =>
    rw [show 2 * (n + 1) = 2 * n + 1 + 1 by omega, bigSep_cut (b := 2 * n) (Nat.zero_le _) (by omega), bigSep_cut (b := n) (Nat.zero_le n) (Nat.le_succ n), ih,
      bigSep_Ico_one, bigSep_Ico_succ_bot (show 2 * n < 2 * n + 1 + 1 by omega), bigSep_Ico_one]

/-! ## The semaphores of the lanes -/

/-- Over the send semaphores of a chain, and over its receive semaphores. -/
def overS {M : Type} [URA M] (f : Fam) (ch : ℕ) (Φ : ℕ → sProp M) : sProp M := bigSep (Finset.Ico 0 f.len) fun h => Φ (f.sBase ch + h)
def overR {M : Type} [URA M] (f : Fam) (ch : ℕ) (Φ : ℕ → sProp M) : sProp M := bigSep (Finset.Ico 0 f.len) fun h => Φ (f.rBase ch + h)
/-- Over all of them: the six chains' send semaphores and receive semaphores. -/
def overLanes {M : Type} [URA M] (Φ : ℕ → sProp M) : sProp M :=
  iprop((overS .a 0 Φ ∗ overS .a 1 Φ ∗ overS .w 0 Φ ∗ overS .w 1 Φ ∗ overS .v 0 Φ ∗ overS .v 1 Φ)
    ∗ (overR .a 0 Φ ∗ overR .a 1 Φ ∗ overR .w 0 Φ ∗ overR .w 1 Φ ∗ overR .v 0 Φ ∗ overR .v 1 Φ))

theorem overS_eq {M : Type} [URA M] (f : Fam) (ch : ℕ) (Φ : ℕ → sProp M) {b d : ℕ} (hb : f.sBase ch = b) (hd : b + f.len = d) :
    bigSep (Finset.Ico b d) Φ = overS f ch Φ := by
  subst hb hd; exact bigSep_shift _ _ Φ
theorem overR_eq {M : Type} [URA M] (f : Fam) (ch : ℕ) (Φ : ℕ → sProp M) {b d : ℕ} (hb : f.rBase ch = b) (hd : b + f.len = d) :
    bigSep (Finset.Ico b d) Φ = overR f ch Φ := by
  subst hb hd; exact bigSep_shift _ _ Φ

theorem lanes_eq {M : Type} [URA M] (Φ : ℕ → sProp M) : bigSep (Finset.Ico 34 114) Φ ⊣⊢ overLanes Φ := by
  rw [bigSep_cut (b := 40) (by decide) (by decide), bigSep_cut (a := 40) (b := 46) (by decide) (by decide), bigSep_cut (a := 46) (b := 52) (by decide) (by decide),
    bigSep_cut (a := 52) (b := 58) (by decide) (by decide), bigSep_cut (a := 58) (b := 65) (by decide) (by decide), bigSep_cut (a := 65) (b := 72) (by decide) (by decide),
    bigSep_cut (a := 72) (b := 79) (by decide) (by decide), bigSep_cut (a := 79) (b := 86) (by decide) (by decide), bigSep_cut (a := 86) (b := 93) (by decide) (by decide),
    bigSep_cut (a := 93) (b := 100) (by decide) (by decide), bigSep_cut (a := 100) (b := 107) (by decide) (by decide),
    overS_eq .a 0 Φ (b := 34) (d := 40) rfl rfl, overS_eq .a 1 Φ (b := 40) (d := 46) rfl rfl, overR_eq .a 0 Φ (b := 46) (d := 52) rfl rfl, overR_eq .a 1 Φ (b := 52) (d := 58) rfl rfl,
    overS_eq .w 0 Φ (b := 58) (d := 65) rfl rfl, overS_eq .w 1 Φ (b := 65) (d := 72) rfl rfl, overR_eq .w 0 Φ (b := 72) (d := 79) rfl rfl, overR_eq .w 1 Φ (b := 79) (d := 86) rfl rfl,
    overS_eq .v 0 Φ (b := 86) (d := 93) rfl rfl, overS_eq .v 1 Φ (b := 93) (d := 100) rfl rfl, overR_eq .v 0 Φ (b := 100) (d := 107) rfl rfl, overR_eq .v 1 Φ (b := 107) (d := 114) rfl rfl]
  unfold overLanes
  constructor
  · iintro ⟨A0, A1, B0, B1, C0, C1, D0, D1, E0, E1, G0, G1⟩
    isplitl [A0 A1 C0 C1 E0 E1]
    · isplitl [A0]; · iexact A0
      isplitl [A1]; · iexact A1
      isplitl [C0]; · iexact C0
      isplitl [C1]; · iexact C1
      isplitl [E0] <;> iassumption
    · isplitl [B0]; · iexact B0
      isplitl [B1]; · iexact B1
      isplitl [D0]; · iexact D0
      isplitl [D1]; · iexact D1
      isplitl [G0] <;> iassumption
  · iintro ⟨⟨A0, A1, C0, C1, E0, E1⟩, ⟨B0, B1, D0, D1, G0, G1⟩⟩
    isplitl [A0]; · iexact A0
    isplitl [A1]; · iexact A1
    isplitl [B0]; · iexact B0
    isplitl [B1]; · iexact B1
    isplitl [C0]; · iexact C0
    isplitl [C1]; · iexact C1
    isplitl [D0]; · iexact D0
    isplitl [D1]; · iexact D1
    isplitl [E0]; · iexact E0
    isplitl [E1]; · iexact E1
    isplitl [G0] <;> iassumption

/-- All the DMA semaphores: those of the loads, of the two channels' stores, and of the lanes. -/
theorem sems_split {M : Type} [URA M] (Φ : ℕ → sProp M) : bigSep (Finset.Ico 0 114) Φ
    = iprop((Φ 0 ∗ Φ 1) ∗ (bigSep (Finset.Ico 0 16) fun n => Φ (2 + 16 * 0 + n)) ∗ (bigSep (Finset.Ico 0 16) fun n => Φ (2 + 16 * 1 + n))
      ∗ bigSep (Finset.Ico 34 114) Φ) := by
  rw [bigSep_cut (b := 2) (by decide) (by decide), bigSep_cut (a := 2) (b := 18) (by decide) (by decide), bigSep_cut (a := 18) (b := 34) (by decide) (by decide),
    bigSep_Ico_two, show Finset.Ico 2 18 = Finset.Ico 2 (2 + 16) from rfl, bigSep_shift 2 16, show Finset.Ico 18 34 = Finset.Ico 18 (18 + 16) from rfl, bigSep_shift 18 16]

/-! ## A buffer in pieces -/

theorem sc3' : S256x1024.ShapeCasts S1x256x1024 := by decide
theorem sc5' : S512x1024.ShapeCasts S1x1x512x1024 := by decide

section Pieces
variable (c : Dev nD) {sp : Space} {s sh : Shape} {e : EltTy} (m : Memref sig .tc sp s e) {T : Type} [Fintype T] [DecidableEq T] (r : T → Rect s)
  (hr : ∀ t a, (r t).stride a = 1) (hd : ∀ t t', t ≠ t' → Disjoint (r t).set (r t').set) (hcov : (Finset.univ.biUnion fun t => (r t).set) = Finset.univ)
  (hq : ∀ t, (r t).shape.Squeezes sh) (hc : ∀ t, (r t).shape.ShapeCasts sh) (hc' : ∀ t, sh.ShapeCasts (r t).shape) (q : PosShare TreeShare)

include hd hcov hc in
theorem pieces_split (X : s.Idx → Elt F e) :
    owns (c : Thread nD τ) m q X ⊢ (bigSep Finset.univ fun t => iprop(∃ Y, owns (c : Thread nD τ) ((m.slice (r t) (hr t)).squeeze sh (hq t)) q Y) : sProp 𝕄) :=
  (owns_rects (c : Thread nD τ) m q r hr hd hcov X).trans (bigSep_mono fun t _ =>
    (owns_unsqueeze c m (r t) (hr t) (hq t) (hc t) q _).trans (exists_intro _))

include hd in
/-- Values given piece by piece are the values of one function. -/
theorem glue {α : Type} [Nonempty α] (Y : ∀ t, (r t).shape.Idx → α) : ∃ X : s.Idx → α, ∀ t j, X ((r t).emb j) = Y t j := by
  classical
  refine ⟨fun i => if h : ∃ t, ∃ j, (r t).emb j = i then Y h.choose h.choose_spec.choose else Classical.arbitrary α, fun t j => ?_⟩
  have h : ∃ t', ∃ j', (r t').emb j' = (r t).emb j := ⟨t, j, rfl⟩
  dsimp only
  rw [dif_pos h]
  have key : ∀ (t' : T) (j' : (r t').shape.Idx), (r t').emb j' = (r t).emb j → Y t' j' = Y t j := by
    intro t' j' he
    by_cases ht : t' = t
    · subst ht; rw [(r t').emb.injective he]
    · exfalso
      have h1 : (r t').emb j' ∈ (r t').set := by rw [← Rect.map_emb_univ]; exact Finset.mem_map_of_mem _ (Finset.mem_univ _)
      have h2 : (r t').emb j' ∈ (r t).set := by rw [he, ← Rect.map_emb_univ]; exact Finset.mem_map_of_mem _ (Finset.mem_univ _)
      exact Finset.disjoint_left.mp (hd t' t ht) h1 h2
  exact key _ _ h.choose_spec.choose_spec

include hd hcov hc hc' in
theorem pieces_join (Y : T → sh.Idx → Elt F e) :
    (bigSep Finset.univ fun t => owns (c : Thread nD τ) ((m.slice (r t) (hr t)).squeeze sh (hq t)) q (Y t) : sProp 𝕄) ⊢ iprop(∃ X, owns (c : Thread nD τ) m q X) := by
  obtain ⟨X, hX⟩ := glue r hd (fun t => shapeCast (r t).shape (Y t) (hc' t))
  refine ((bigSep_mono fun t _ => ?_).trans (owns_of_rects (c : Thread nD τ) m q r hr hd hcov X)).trans ?_
  · rw [show (fun j => X ((r t).emb j)) = shapeCast (r t).shape (Y t) (hc' t) from funext fun j => hX t j]
    exact owns_squeeze c m (r t) (hr t) (hq t) (hc t) (hc' t) q (Y t)
  · exact exists_intro (Φ := fun X => (owns (c : Thread nD τ) m q X : sProp 𝕄)) X

include hd hcov hc hc' in
theorem pieces_join_any :
    (bigSep Finset.univ fun t => iprop(∃ Y, owns (c : Thread nD τ) ((m.slice (r t) (hr t)).squeeze sh (hq t)) q Y) : sProp 𝕄) ⊢ iprop(∃ X, owns (c : Thread nD τ) m q X) := by
  iintro H
  ihave ⟨%Y, H⟩ := (BI.bigSep_exists_pi Finset.univ (fun (t : T) (Y : sh.Idx → Elt F e) =>
    (owns (c : Thread nD τ) ((m.slice (r t) (hr t)).squeeze sh (hq t)) q Y : sProp 𝕄))) $$ H
  iapply (pieces_join c m r hr hd hcov hq hc hc' q Y)
  iexact H

end Pieces

/-! ### The slots of the three transfer buffers, and the two load buffers -/

theorem rA_disj (t t' : Fin 2 × Fin 7) (h : t ≠ t') : Disjoint (rA t.1 t.2).set (rA t'.1 t'.2).set := by
  have h1 := t.1.isLt; have h2 := t.2.isLt; have h3 := t'.1.isLt; have h4 := t'.2.isLt
  by_cases h0 : t.1 = t'.1
  · have hn : t.2.val ≠ t'.2.val := fun e => h (Prod.ext h0 (Fin.ext e))
    refine Rect.unit_disjoint (1 : Fin 4) ?_
    show t.2.val % 7 + 1 ≤ t'.2.val % 7 ∨ t'.2.val % 7 + 1 ≤ t.2.val % 7
    omega
  · have hn : t.1.val ≠ t'.1.val := fun e => h0 (Fin.ext e)
    refine Rect.unit_disjoint (0 : Fin 4) ?_
    show t.1.val % 2 + 1 ≤ t'.1.val % 2 ∨ t'.1.val % 2 + 1 ≤ t.1.val % 2
    omega
theorem rB_disj (t t' : Fin 2 × Fin 8) (h : t ≠ t') : Disjoint (rB t.1 t.2).set (rB t'.1 t'.2).set := by
  have h1 := t.1.isLt; have h2 := t.2.isLt; have h3 := t'.1.isLt; have h4 := t'.2.isLt
  by_cases h0 : t.1 = t'.1
  · have hn : t.2.val ≠ t'.2.val := fun e => h (Prod.ext h0 (Fin.ext e))
    refine Rect.unit_disjoint (1 : Fin 4) ?_
    show t.2.val % 8 + 1 ≤ t'.2.val % 8 ∨ t'.2.val % 8 + 1 ≤ t.2.val % 8
    omega
  · have hn : t.1.val ≠ t'.1.val := fun e => h0 (Fin.ext e)
    refine Rect.unit_disjoint (0 : Fin 4) ?_
    show t.1.val % 2 + 1 ≤ t'.1.val % 2 ∨ t'.1.val % 2 + 1 ≤ t.1.val % 2
    omega
theorem rX_disj (t t' : Fin 2) (h : t ≠ t') : Disjoint (rX t).set (rX t').set := by
  have h1 := t.isLt; have h2 := t'.isLt
  have hn : t.val ≠ t'.val := fun e => h (Fin.ext e)
  refine Rect.unit_disjoint (0 : Fin 3) ?_
  show t.val % 2 + 1 ≤ t'.val % 2 ∨ t'.val % 2 + 1 ≤ t.val % 2
  omega

theorem rA_cover : (Finset.univ.biUnion fun t : Fin 2 × Fin 7 => (rA t.1 t.2).set) = Finset.univ := by
  ext i
  simp only [Finset.mem_biUnion, Finset.mem_univ, true_and, iff_true]
  have h0 : (i 0).val < 2 := (i 0).isLt
  have h1 : (i 1).val < 7 := (i 1).isLt
  refine ⟨(⟨(i 0).val, h0⟩, ⟨(i 1).val, h1⟩), ?_⟩
  rw [Rect.mem_set_unit]
  intro a; fin_cases a
  · show (i 0).val % 2 ≤ (i 0).val ∧ (i 0).val < (i 0).val % 2 + 1; omega
  · show (i 1).val % 7 ≤ (i 1).val ∧ (i 1).val < (i 1).val % 7 + 1; omega
  · exact ⟨Nat.zero_le _, (i 2).isLt⟩
  · exact ⟨Nat.zero_le _, (i 3).isLt⟩
theorem rB_cover : (Finset.univ.biUnion fun t : Fin 2 × Fin 8 => (rB t.1 t.2).set) = Finset.univ := by
  ext i
  simp only [Finset.mem_biUnion, Finset.mem_univ, true_and, iff_true]
  have h0 : (i 0).val < 2 := (i 0).isLt
  have h1 : (i 1).val < 8 := (i 1).isLt
  refine ⟨(⟨(i 0).val, h0⟩, ⟨(i 1).val, h1⟩), ?_⟩
  rw [Rect.mem_set_unit]
  intro a; fin_cases a
  · show (i 0).val % 2 ≤ (i 0).val ∧ (i 0).val < (i 0).val % 2 + 1; omega
  · show (i 1).val % 8 ≤ (i 1).val ∧ (i 1).val < (i 1).val % 8 + 1; omega
  · exact ⟨Nat.zero_le _, (i 2).isLt⟩
  · exact ⟨Nat.zero_le _, (i 3).isLt⟩
theorem rX_cover : (Finset.univ.biUnion fun t : Fin 2 => (rX t).set) = Finset.univ := by
  ext i
  simp only [Finset.mem_biUnion, Finset.mem_univ, true_and, iff_true]
  have h0 : (i 0).val < 2 := (i 0).isLt
  refine ⟨⟨(i 0).val, h0⟩, ?_⟩
  rw [Rect.mem_set_unit]
  intro a; fin_cases a
  · show (i 0).val % 2 ≤ (i 0).val ∧ (i 0).val < (i 0).val % 2 + 1; omega
  · exact ⟨Nat.zero_le _, (i 1).isLt⟩
  · exact ⟨Nat.zero_le _, (i 2).isLt⟩

/-- A slot at some contents. -/
def anySlot (f : Fam) (c : Dev nD) (ch j : ℕ) : sProp 𝕄 := iprop(∃ Y, owns (c : Thread nD τ) (slot f ch j) fullShare Y)
/-- All slots of a family's buffer. -/
def anySlots (f : Fam) (c : Dev nD) : sProp 𝕄 := bigSep (Finset.Ico 0 2) fun ch => bigSep (Finset.Ico 0 (f.len + 1)) (anySlot f c ch)
/-- A family's buffer. -/
def anyBuf (f : Fam) (c : Dev nD) : sProp 𝕄 := match f with
  | .a => iprop(∃ X, owns (c : Thread nD τ) aM fullShare X)
  | .w => iprop(∃ X, owns (c : Thread nD τ) wM fullShare X)
  | .v => iprop(∃ X, owns (c : Thread nD τ) vM fullShare X)

theorem buf_split (f : Fam) (c : Dev nD) : anyBuf (F := F) f c ⊢ anySlots f c := by
  unfold anySlots
  rw [← bigSep_grid]
  cases f
  · exact exists_elim fun X => pieces_split c aM (fun t : Fin 2 × Fin 7 => rA t.1 t.2) (fun _ _ => rfl) rA_disj rA_cover (fun _ => squeezes_S1x1x256x1024_S256x1024) (fun _ => sc4) fullShare X
  · exact exists_elim fun X => pieces_split c wM (fun t : Fin 2 × Fin 8 => rB t.1 t.2) (fun _ _ => rfl) rB_disj rB_cover (fun _ => squeezes_S1x1x512x1024_S512x1024) (fun _ => sc5) fullShare X
  · exact exists_elim fun X => pieces_split c vM (fun t : Fin 2 × Fin 8 => rB t.1 t.2) (fun _ _ => rfl) rB_disj rB_cover (fun _ => squeezes_S1x1x512x1024_S512x1024) (fun _ => sc5) fullShare X
theorem buf_join (f : Fam) (c : Dev nD) : anySlots (F := F) f c ⊢ anyBuf f c := by
  unfold anySlots
  rw [← bigSep_grid]
  cases f
  · exact pieces_join_any c aM (fun t : Fin 2 × Fin 7 => rA t.1 t.2) (fun _ _ => rfl) rA_disj rA_cover (fun _ => squeezes_S1x1x256x1024_S256x1024) (fun _ => sc4) (fun _ => sc4') fullShare
  · exact pieces_join_any c wM (fun t : Fin 2 × Fin 8 => rB t.1 t.2) (fun _ _ => rfl) rB_disj rB_cover (fun _ => squeezes_S1x1x512x1024_S512x1024) (fun _ => sc5) (fun _ => sc5') fullShare
  · exact pieces_join_any c vM (fun t : Fin 2 × Fin 8 => rB t.1 t.2) (fun _ _ => rfl) rB_disj rB_cover (fun _ => squeezes_S1x1x512x1024_S512x1024) (fun _ => sc5) (fun _ => sc5') fullShare

theorem xb_split (c : Dev nD) : iprop(∃ X, owns (c : Thread nD τ) bM fullShare X)
    ⊢ (iprop((∃ Y, owns (c : Thread nD τ) (xbuf 0) fullShare Y) ∗ ∃ Y, owns (c : Thread nD τ) (xbuf 1) fullShare Y) : sProp 𝕄) :=
  (exists_elim fun X => pieces_split c bM (fun t : Fin 2 => rX t) (fun _ _ => rfl) rX_disj rX_cover (fun _ => squeezes_S1x256x1024_S256x1024) (fun _ => sc3) fullShare X).trans
    (Entails.of_eq (bigSep_fin_two _))
theorem xb_join (c : Dev nD) : (iprop((∃ Y, owns (c : Thread nD τ) (xbuf 0) fullShare Y) ∗ ∃ Y, owns (c : Thread nD τ) (xbuf 1) fullShare Y) : sProp 𝕄)
    ⊢ iprop(∃ X, owns (c : Thread nD τ) bM fullShare X) :=
  (Entails.of_eq (bigSep_fin_two _).symm).trans
    (pieces_join_any c bM (fun t : Fin 2 => rX t) (fun _ _ => rfl) rX_disj rX_cover (fun _ => squeezes_S1x256x1024_S256x1024) (fun _ => sc3) (fun _ => sc3') fullShare)

/-- The slots: the first of each channel, and those copies land in. -/
theorem slots_land (f : Fam) (c : Dev nD) : anySlots (F := F) f c ⊢ iprop(anySlot f c 0 0 ∗ anySlot f c 1 0 ∗ landSlots f c) := by
  have h : ∀ ch, bigSep (Finset.Ico 0 (f.len + 1)) (anySlot (F := F) f c ch) = iprop(anySlot f c ch 0 ∗ chSlots f ch c) := fun ch => by
    rw [show f.len + 1 = 1 + f.len from Nat.add_comm _ _, bigSep_Ico_succ_bot (by omega), show 0 + 1 = 1 from rfl, bigSep_shift]
    unfold chSlots
    simp only [Nat.add_comm 1]
    rfl
  unfold anySlots
  rw [bigSep_Ico_two, h, h, land_split]
  iintro ⟨⟨H1, H2⟩, H3, H4⟩
  isplitl [H1]; · iexact H1
  isplitl [H3]; · iexact H3
  isplitl [H2] <;> iassumption

theorem half_any (X : Arg (F := F)) (f : Fam) (ch : ℕ) (c : Dev nD) (t : Fin 2) (g : ((bufM f).view.slice (rH ch t)).ty.Contents (Elt F)) :
    (((bufM f).view.slice (rH ch t)).loc (c : Thread nD τ) ↦[((bufM f).view.slice (rH ch t)).set]{fullShare} g : sProp 𝕄) ⊢ halfGot X f ch c t.val 3 := by
  unfold halfGot half
  iintro H
  ihave H := (owns_intro (c : Thread nD τ) ((bufM f).slice (rH ch t) (fun _ => rfl)) fullShare g) $$ H
  ihave H := (owns_unsqueeze c (bufM f) (rH ch t) (fun _ => rfl) squeezes_S1x1x256x1024_S256x1024 sc4 fullShare _) $$ H
  iexists _
  isplitl [H]
  · iexact H
  · ipureintro
    intro h
    unfold slotOf at h; omega

/-- Slot 0 of a ring gather, in halves, nothing scattered yet. -/
theorem slot0_halves (X : Arg (F := F)) (f : Fam) (ch : ℕ) (c : Dev nD) {q : PosShare TreeShare} {Y : S512x1024.Idx → Elt F .bf16} :
    owns (c : Thread nD τ) (((bufM f).slice (rB ch 0) (fun _ => rfl)).squeeze S512x1024 squeezes_S1x1x512x1024_S512x1024) fullShare Y ⊢ HalfSt X f ch c 3 := by
  iintro H
  ihave H := (owns_squeeze c (bufM f) (rB ch 0) (fun _ => rfl) squeezes_S1x1x512x1024_S512x1024 sc5 sc5' fullShare _) $$ H
  ihave ⟨%g, %hg, H⟩ := (owns_some c _ _ _) $$ H
  have hset : ((bufM f).view.slice (rB ch 0)).set = (Finset.univ.biUnion fun t : Fin 2 => ((bufM f).view.slice (rH ch t)).set) := by
    simp only [View.set_slice]
    rw [← rH_union ch]
    ext y; simp only [Finset.mem_biUnion, Finset.mem_map]
    constructor
    · rintro ⟨x, ⟨t, h1, h2⟩, h3⟩; exact ⟨t, h1, x, h2, h3⟩
    · rintro ⟨t, h1, x, h2, h3⟩; exact ⟨x, ⟨t, h1, h2⟩, h3⟩
  have hdv : ∀ t ∈ (Finset.univ : Finset (Fin 2)), ∀ t' ∈ (Finset.univ : Finset (Fin 2)), t ≠ t' →
      Disjoint ((bufM f).view.slice (rH ch t)).set ((bufM f).view.slice (rH ch t')).set := by
    intro t _ t' _ h
    rw [View.set_slice, View.set_slice]; exact (Finset.disjoint_map _).mpr (rH_disj ch t t' h)
  have hsplit : (((bufM f).view.slice (rB ch 0)).loc (c : Thread nD τ) ↦[((bufM f).view.slice (rB ch 0)).set]{fullShare} g : sProp 𝕄)
      = iprop((((bufM f).view.slice (rB ch 0)).loc (c : Thread nD τ) ↦[((bufM f).view.slice (rH ch (0 : Fin 2))).set]{fullShare} g)
        ∗ (((bufM f).view.slice (rB ch 0)).loc (c : Thread nD τ) ↦[((bufM f).view.slice (rH ch (1 : Fin 2))).set]{fullShare} g)) := by
    rw [hset]; exact (pointsTo_biUnion Finset.univ _ hdv).trans (bigSep_fin_two _)
  ihave H := (Entails.of_eq hsplit) $$ H
  icases H with ⟨H0, H1⟩
  unfold HalfSt
  isplitl [H0]
  · iapply (half_any X f ch c 0 g); iexact H0
  · iapply (half_any X f ch c 1 g); iexact H1

end Cert.RingProof

end
-- ==== Proof.Out.lean ====
/- What the kernel leaves in the result, and what a device has once its run has ended. -/
module

public import proofs.«01_k».proof.Proof.Split

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Arg (F := F))

/-- The place of an index of the result within its window. -/
def rowIdx (i : S16384x1024.Idx) : S512x1024.Idx := fun a => match a with
  | ⟨0, _⟩ => (⟨(i 0).val % 512, Nat.mod_lt _ (by decide)⟩ : Fin 512)
  | ⟨1, _⟩ => (i 1 : Fin 1024)

/-- What the kernel leaves in the result of a device: window `q` holds the half block that the device of its ring at place
    `q / 4` started a gather with, upward for an even window and downward for an odd one. -/
def OUT (c : Dev nD) : S16384x1024.Idx → Elt F .bf16 := fun i =>
  ring0 X (if (i 0).val / 512 % 2 = 0 then .w else .v) (devAt ((i 0).val / 512 / 4) (yc c)) ((i 0).val / 512 / 2 % 2) (rowIdx i)

theorem pv_iter : ∀ (c : Dev nD), ∀ k < 8, pv^[k] c = devAt ((pos c + 8 - k) % 8) (yc c) := by decide +kernel
theorem nx_iter : ∀ (c : Dev nD), ∀ k < 8, nx^[k] c = devAt ((pos c + k) % 8) (yc c) := by decide +kernel

theorem qOf_lt (c : Dev nD) (ch n : ℕ) : qOf c ch n < 32 := by
  unfold qOf; split <;> omega

theorem qOf_inj (c : Dev nD) {ch n ch' n' : ℕ} (h1 : ch < 2) (h2 : n < 16) (h3 : ch' < 2) (h4 : n' < 16) (h : qOf c ch n = qOf c ch' n') : ch = ch' ∧ n = n' := by
  have hp := pos_lt c
  unfold qOf at h
  split at h <;> split at h <;> omega

theorem qOf_onto (c : Dev nD) (q : ℕ) (hq : q < 32) : ∃ ch < 2, ∃ n < 16, qOf c ch n = q := by
  have hp := pos_lt c
  by_cases hq2 : q % 2 = 0
  · refine ⟨q / 2 % 2, by omega, 2 * ((pos c + 8 - q / 4) % 8), by omega, ?_⟩
    unfold qOf; rw [if_pos (by omega)]; omega
  · refine ⟨q / 2 % 2, by omega, 2 * ((q / 4 + 8 - pos c) % 8) + 1, by omega, ?_⟩
    unfold qOf; rw [if_neg (by omega)]; omega

theorem rO_disj (c : Dev nD) (t t' : Fin 2 × Fin 16) (h : t ≠ t') : Disjoint (rO (qOf c t.1 t.2)).set (rO (qOf c t'.1 t'.2)).set := by
  have hn : qOf c t.1 t.2 ≠ qOf c t'.1 t'.2 := fun e => by
    have := qOf_inj c t.1.isLt t.2.isLt t'.1.isLt t'.2.isLt e
    exact h (Prod.ext (Fin.ext this.1) (Fin.ext this.2))
  have h1 := qOf_lt c t.1 t.2; have h2 := qOf_lt c t'.1 t'.2
  refine Rect.unit_disjoint (0 : Fin 2) ?_
  show 512 * (qOf c t.1 t.2 % 32) + 512 ≤ 512 * (qOf c t'.1 t'.2 % 32) ∨ 512 * (qOf c t'.1 t'.2 % 32) + 512 ≤ 512 * (qOf c t.1 t.2 % 32)
  omega

theorem rO_cover (c : Dev nD) : (Finset.univ.biUnion fun t : Fin 2 × Fin 16 => (rO (qOf c t.1 t.2)).set) = Finset.univ := by
  ext i
  simp only [Finset.mem_biUnion, Finset.mem_univ, true_and, iff_true]
  have h0 : (i 0).val < 16384 := (i 0).isLt
  obtain ⟨ch, hc, n, hn, e⟩ := qOf_onto c ((i 0).val / 512) (by omega)
  refine ⟨(⟨ch, hc⟩, ⟨n, hn⟩), ?_⟩
  rw [Rect.mem_set_unit]
  intro a; fin_cases a
  · show 512 * (qOf c ch n % 32) ≤ (i 0).val ∧ (i 0).val < 512 * (qOf c ch n % 32) + 512
    rw [e]; omega
  · exact ⟨Nat.zero_le _, (i 1).isLt⟩

/-- What a store wrote is its window of that. -/
theorem bval_out (c : Dev nD) {ch n : ℕ} (hc : ch < 2) (hn : n < 16) : bval X n ch (n / 2) c = fun j => OUT X c ((rO (qOf c ch n)).emb j) := by
  have hp := pos_lt c
  funext j
  have hj : (j 0).val < 512 := (j 0).isLt
  have hq := qOf_lt c ch n
  have e0 : ((rO (qOf c ch n)).emb j 0).val = 512 * qOf c ch n + (j 0).val := by
    show 512 * (qOf c ch n % 32) + 1 * (j 0).val = _
    omega
  have er : rowIdx ((rO (qOf c ch n)).emb j) = j := by
    refine Shape.idx_ext₂ ?_ ?_
    · show ((rO (qOf c ch n)).emb j 0).val % 512 = (j 0).val
      rw [e0]; omega
    · show 0 + 1 * (j 1).val = (j 1).val
      omega
  have ed : (512 * qOf c ch n + (j 0).val) / 512 = qOf c ch n := by omega
  unfold OUT
  rw [er, e0, ed]
  by_cases h2 : n % 2 = 0
  · have eq : qOf c ch n = 4 * ((pos c + 8 - n / 2) % 8) + 2 * (ch % 2) := by unfold qOf; rw [if_pos h2]
    rw [eq, if_pos (by omega), show (4 * ((pos c + 8 - n / 2) % 8) + 2 * (ch % 2)) / 4 = (pos c + 8 - n / 2) % 8 by omega,
      show (4 * ((pos c + 8 - n / 2) % 8) + 2 * (ch % 2)) / 2 % 2 = ch by omega, ← pv_iter c (n / 2) (by omega)]
    unfold bval; rw [if_pos h2]; rfl
  · have eq : qOf c ch n = 4 * ((pos c + n / 2) % 8) + 2 * (ch % 2) + 1 := by unfold qOf; rw [if_neg h2]
    rw [eq, if_neg (by omega), show (4 * ((pos c + n / 2) % 8) + 2 * (ch % 2) + 1) / 4 = (pos c + n / 2) % 8 by omega,
      show (4 * ((pos c + n / 2) % 8) + 2 * (ch % 2) + 1) / 2 % 2 = ch by omega, ← nx_iter c (n / 2) (by omega)]
    unfold bval; rw [if_neg h2]; rfl

/-- The result, cut into the windows of the stores, -/
theorem out_split (c : Dev nD) (Y : S16384x1024.Idx → Elt F .bf16) :
    (owns (c : Thread nD τ) oM fullShare Y : sProp 𝕄)
      ⊢ bigSep (Finset.Ico 0 2) fun ch => bigSep (Finset.Ico 0 16) fun n => iprop(∃ Y, owns (c : Thread nD τ) (oWin (qOf c ch n)) fullShare Y) := by
  rw [← bigSep_grid 2 16 (fun ch n => iprop(∃ Y, owns (c : Thread nD τ) (oWin (qOf c ch n)) fullShare Y))]
  exact (owns_rects (c : Thread nD τ) oM fullShare (fun t : Fin 2 × Fin 16 => rO (qOf c t.1 t.2)) (fun _ _ => rfl) (rO_disj c) (rO_cover c) Y).trans
    (bigSep_mono fun t _ => exists_intro (Φ := fun Y => (owns (c : Thread nD τ) (oWin (qOf c t.1 t.2)) fullShare Y : sProp 𝕄)) _)
/-- and joined from them. -/
theorem out_join (c : Dev nD) :
    (bigSep (Finset.Ico 0 2) fun ch => bigSep (Finset.Ico 0 16) fun n => owns (c : Thread nD τ) (oWin (qOf c ch n)) fullShare (bval X n ch (n / 2) c) : sProp 𝕄)
      ⊢ owns (c : Thread nD τ) oM fullShare (OUT X c) := by
  rw [← bigSep_grid 2 16 (fun ch n => owns (c : Thread nD τ) (oWin (qOf c ch n)) fullShare (bval X n ch (n / 2) c))]
  have h : ∀ t : Fin 2 × Fin 16, (owns (c : Thread nD τ) (oWin (qOf c t.1 t.2)) fullShare (bval X t.2 t.1 (t.2.val / 2) c) : sProp 𝕄)
      = owns (c : Thread nD τ) (oM.slice (rO (qOf c t.1 t.2)) (fun _ => rfl)) fullShare (fun j => OUT X c ((rO (qOf c t.1 t.2)).emb j)) := by
    intro t
    rw [bval_out X c t.1.isLt t.2.isLt]; rfl
  rw [bigSep_congr fun t _ => h t]
  exact owns_of_rects (c : Thread nD τ) oM fullShare (fun t : Fin 2 × Fin 16 => rO (qOf c t.1 t.2)) (fun _ _ => rfl) (rO_disj c) (rO_cover c) (OUT X c)

/-! ## The end of a device's run -/

variable (K : Dev nD × Fin 81 → ℕ)

/-- A slot whose two halves are back. -/
theorem slot_back (f : Fam) (c : Dev nD) (ch j : ℕ) :
    iprop(owns (c : Thread nD τ) (slot f ch j) fullShare.left (lv X f ch j c) ∗ owns (c : Thread nD τ) (slot f ch j) fullShare.right (lv X f ch j c)) ⊢ anySlot (F := F) f c ch j := by
  unfold anySlot
  exact (owns_halves (c : Thread nD τ) (slot f ch j) fullShare (lv X f ch j c)).2.trans (exists_intro (Φ := fun Y => (owns (c : Thread nD τ) (slot f ch j) fullShare Y : sProp 𝕄)) _)

/-- The slots of a channel, from the left halves of a finished chain, its last slot's, and the right halves. -/
theorem slots_back (f : Fam) (c : Dev nD) (ch : ℕ) {n : ℕ} (hn : f.len = n) :
    iprop((bigSep (Finset.Ico 0 n) fun h => owns (c : Thread nD τ) (slot f ch h) fullShare.left (lv X f ch h c))
      ∗ owns (c : Thread nD τ) (slot f ch n) fullShare.left (lv X f ch n c)
      ∗ (bigSep (Finset.Ico 0 (n + 1)) fun h => owns (c : Thread nD τ) (slot f ch h) fullShare.right (lv X f ch h c)))
      ⊢ bigSep (Finset.Ico 0 (n + 1)) (anySlot (F := F) f c ch) := by
  subst hn
  refine BIBase.Entails.trans ?_ (bigSep_mono fun h _ => slot_back X f c ch h)
  rw [bigSep_sep', bigSep_Ico_succ_top (Nat.zero_le f.len) (fun h => owns (c : Thread nD τ) (slot f ch h) fullShare.left (lv X f ch h c))]
  iintro ⟨H1, H2, H3⟩
  isplitl [H1 H2]
  · isplitl [H2] <;> iassumption
  iexact H3

/-- The right halves of the slots of the ring gathers, from the stores of a channel. -/
theorem stores_back (c : Dev nD) (ch : ℕ) : Stores X ch c 16 16
    ⊢ iprop((bigSep (Finset.Ico 0 16) fun n => owns (c : Thread nD τ) (oWin (qOf c ch n)) fullShare (bval X n ch (n / 2) c))
      ∗ (bigSep (Finset.Ico 0 (8)) fun h => owns (c : Thread nD τ) (slot .w ch h) fullShare.right (lv X .w ch h c))
      ∗ (bigSep (Finset.Ico 0 (8)) fun h => owns (c : Thread nD τ) (slot .v ch h) fullShare.right (lv X .v ch h c))
      ∗ (bigSep (Finset.Ico 0 16) fun n => semVal (tcell c (2 + 16 * ch + n)) 0)) := by
  unfold Stores storePost
  rw [Finset.Ico_self, bigSep_sep', bigSep_sep', bigSep_twos 8 (fun n => owns (c : Thread nD τ) (bslot n ch (n / 2)) fullShare.right (bval X n ch (n / 2) c))]
  have e : ∀ j, (iprop(owns (c : Thread nD τ) (bslot (2 * j) ch (2 * j / 2)) fullShare.right (bval X (2 * j) ch (2 * j / 2) c)
      ∗ owns (c : Thread nD τ) (bslot (2 * j + 1) ch ((2 * j + 1) / 2)) fullShare.right (bval X (2 * j + 1) ch ((2 * j + 1) / 2) c)) : sProp 𝕄)
      = iprop(owns (c : Thread nD τ) (slot .w ch j) fullShare.right (lv X .w ch j c) ∗ owns (c : Thread nD τ) (slot .v ch j) fullShare.right (lv X .v ch j c)) := by
    intro j
    unfold bslot bval
    rw [if_pos (by omega), if_pos (by omega), if_neg (by omega), if_neg (by omega), show 2 * j / 2 = j by omega, show (2 * j + 1) / 2 = j by omega]
  rw [bigSep_congr fun j _ => e j, bigSep_sep', bigSep_empty, bigSep_empty]
  iintro ⟨-, -, ⟨H1, H2, H3⟩, H4⟩
  isplitl [H1]; · iexact H1
  isplitl [H2]; · iexact H2
  isplitl [H3] <;> iassumption

/-- What a finished chain gives back: the left halves of its slots and its semaphores. -/
theorem chain_back (f : Fam) (ch : ℕ) (c : Dev nD) {n : ℕ} (hn : f.len = n) : Chain X f ch c n n n
    ⊢ iprop((bigSep (Finset.Ico 0 n) fun h => owns (c : Thread nD τ) (slot f ch h) fullShare.left (lv X f ch h c))
      ∗ overS f ch (fun n => semVal (tcell c n) 0) ∗ overR f ch (fun n => semVal (tcell c n) 0)) := by
  subst hn
  unfold Chain overS overR
  simp only [Finset.Ico_self, nil_sep]
  iintro ⟨H1, H2, H3⟩
  isplitl [H2]; · iexact H2
  isplitl [H1] <;> iassumption

/-- What a device has at the end: its two arrays, its scratch buffers and its semaphores. -/
def Done (c : Dev nD) : sProp 𝕄 :=
  iprop(owns (c : Thread nD τ) xM fullShare (X c) ∗ owns (c : Thread nD τ) oM fullShare (OUT X c)
    ∗ (anyBuf .a c ∗ anyBuf .w c ∗ anyBuf .v c ∗ ∃ Y, owns (c : Thread nD τ) bM fullShare Y)
    ∗ semVal (barCell c) 0 ∗ bigSep (Finset.Ico 0 114) (fun n => semVal (tcell c n) 0))

theorem fam_back (f : Fam) (c : Dev nD) :
    iprop((bigSep (Finset.Ico 0 (f.len + 1)) (anySlot (F := F) f c 0)) ∗ (bigSep (Finset.Ico 0 (f.len + 1)) (anySlot (F := F) f c 1))) ⊢ anyBuf (F := F) f c := by
  refine Entails.trans (Entails.of_eq ?_) (buf_join f c)
  unfold anySlots; rw [bigSep_Ico_two]

theorem finish_done (c : Dev nD) : Finish X K c 16 ⊢ iprop(Done X c ∗ ∃ W, owes (c : Thread nD τ) 0 W) := by
  unfold Finish Core LBuf Keep
  iintro ⟨⟨-, -, HO⟩, Hbar, ⟨%Y0, Hx0, Hb0, Hs0⟩, ⟨%Y1, Hx1, Hb1, Hs1⟩, Ca0, Ca1, Cw0, Cw1, Cv0, Cv1, Ka0, Ka1, La0, La1, Lw0, Lw1, Lv0, Lv1, S0, S1⟩
  ihave ⟨Ca0, Sa0, Ra0⟩ := (chain_back X .a 0 c (n := 6) rfl) $$ Ca0
  ihave ⟨Ca1, Sa1, Ra1⟩ := (chain_back X .a 1 c (n := 6) rfl) $$ Ca1
  ihave ⟨Cw0, Sw0, Rw0⟩ := (chain_back X .w 0 c (n := 7) rfl) $$ Cw0
  ihave ⟨Cw1, Sw1, Rw1⟩ := (chain_back X .w 1 c (n := 7) rfl) $$ Cw1
  ihave ⟨Cv0, Sv0, Rv0⟩ := (chain_back X .v 0 c (n := 7) rfl) $$ Cv0
  ihave ⟨Cv1, Sv1, Rv1⟩ := (chain_back X .v 1 c (n := 7) rfl) $$ Cv1
  ihave ⟨O0, Kw0, Kv0, T0⟩ := (stores_back X c 0) $$ S0
  ihave ⟨O1, Kw1, Kv1, T1⟩ := (stores_back X c 1) $$ S1
  ihave Ba0 := (slots_back X .a c 0 (n := 6) rfl) $$ [Ca0 La0 Ka0]
  · isplitl [Ca0]; · iexact Ca0
    isplitl [La0] <;> iassumption
  ihave Ba1 := (slots_back X .a c 1 (n := 6) rfl) $$ [Ca1 La1 Ka1]
  · isplitl [Ca1]; · iexact Ca1
    isplitl [La1] <;> iassumption
  ihave Bw0 := (slots_back X .w c 0 (n := 7) rfl) $$ [Cw0 Lw0 Kw0]
  · isplitl [Cw0]; · iexact Cw0
    isplitl [Lw0] <;> iassumption
  ihave Bw1 := (slots_back X .w c 1 (n := 7) rfl) $$ [Cw1 Lw1 Kw1]
  · isplitl [Cw1]; · iexact Cw1
    isplitl [Lw1] <;> iassumption
  ihave Bv0 := (slots_back X .v c 0 (n := 7) rfl) $$ [Cv0 Lv0 Kv0]
  · isplitl [Cv0]; · iexact Cv0
    isplitl [Lv0] <;> iassumption
  ihave Bv1 := (slots_back X .v c 1 (n := 7) rfl) $$ [Cv1 Lv1 Kv1]
  · isplitl [Cv1]; · iexact Cv1
    isplitl [Lv1] <;> iassumption
  isplitr [HO]
  swap
  · rw [show oweAt c 40 = 0 from rfl]; iexact HO
  unfold Done
  isplitl [Hx0 Hx1]
  · iapply (owns_halves (c : Thread nD τ) xM fullShare (X c)).2
    isplitl [Hx0]; · iexact Hx0
    iexact Hx1
  isplitl [O0 O1]
  · iapply (out_join X c)
    rw [bigSep_Ico_two]
    isplitl [O0] <;> iassumption
  isplitl [Ba0 Ba1 Bw0 Bw1 Bv0 Bv1 Hb0 Hb1]
  · isplitl [Ba0 Ba1]
    · iapply (fam_back .a c); isplitl [Ba0]; · iexact Ba0
      iexact Ba1
    isplitl [Bw0 Bw1]
    · iapply (fam_back .w c); isplitl [Bw0]; · iexact Bw0
      iexact Bw1
    isplitl [Bv0 Bv1]
    · iapply (fam_back .v c); isplitl [Bv0]; · iexact Bv0
      iexact Bv1
    iapply (xb_join c)
    isplitl [Hb0]
    · iexists Y0; iexact Hb0
    · iexists Y1; iexact Hb1
  isplitl [Hbar]; · iexact Hbar
  iapply (Entails.of_eq (sems_split (fun n => (semVal (tcell c n) 0 : sProp 𝕄))).symm)
  isplitl [Hs0 Hs1]
  · isplitl [Hs0] <;> iassumption
  isplitl [T0]; · iexact T0
  isplitl [T1]; · iexact T1
  iapply (lanes_eq (fun n => (semVal (tcell c n) 0 : sProp 𝕄))).2
  unfold overLanes
  isplitl [Sa0 Sa1 Sw0 Sw1 Sv0 Sv1]
  · isplitl [Sa0]; · iexact Sa0
    isplitl [Sa1]; · iexact Sa1
    isplitl [Sw0]; · iexact Sw0
    isplitl [Sw1]; · iexact Sw1
    isplitl [Sv0] <;> iassumption
  · isplitl [Ra0]; · iexact Ra0
    isplitl [Ra1]; · iexact Ra1
    isplitl [Rw0]; · iexact Rw0
    isplitl [Rw1]; · iexact Rw1
    isplitl [Rv0] <;> iassumption

end Cert.RingProof

end
-- ==== Proof.Deal.lean ====
/- The launch of the protocol: its semaphores, its tokens dealt to the devices that pay them, and what each device is due. -/
module

public import proofs.«01_k».proof.Proof.Out
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Arg (F := F))

/-! ## The semaphores of the protocol, by number -/

/-- What the protocol's semaphores are, by number: the barrier, then those of the lanes. -/
theorem cells_eq {M : Type} [URA M] (Φ : SemLoc sig → sProp M) :
    bigSep Finset.univ (fun k : Fin 81 => Φ (csem k)) = iprop(Φ (.reg barS) ∗ bigSep (Finset.Ico 34 114) fun n => Φ (.dma (dsem n))) := by
  have h := bigSep_fin_Ico 81 (fun i => Φ (if i = 0 then .reg barS else .dma (dsem (33 + i))))
  refine Eq.trans h ?_
  rw [bigSep_Ico_succ_bot (by decide : (0 : ℕ) < 81), if_pos rfl, show Finset.Ico (0 + 1) 81 = Finset.Ico 1 (1 + 80) from rfl, bigSep_shift 1 80,
    show Finset.Ico 34 114 = Finset.Ico 34 (34 + 80) from rfl, bigSep_shift 34 80]
  congr 1

theorem dsem_inj {n n' : ℕ} (h1 : n < 114) (h2 : n' < 114) (h : (SemLoc.dma (dsem n) : SemLoc sig) = .dma (dsem n')) : n = n' := by
  have h3 : dsem n = dsem n' := SemLoc.dma.inj h
  have h4 := congrArg Fin.val h3
  rw [dsem_val h1, dsem_val h2] at h4; exact h4

theorem csem_injective : Function.Injective csem := by
  intro k k' h
  have h1 := k.isLt; have h2 := k'.isLt
  unfold csem at h
  by_cases hk : k.val = 0 <;> by_cases hk' : k'.val = 0
  · exact Fin.ext (hk.trans hk'.symm)
  · rw [if_pos hk, if_neg hk'] at h; cases h
  · rw [if_neg hk, if_pos hk'] at h; cases h
  · rw [if_neg hk, if_neg hk'] at h
    have := dsem_inj (by omega) (by omega) h
    exact Fin.ext (by omega)

theorem kcell_injective : Function.Injective (kcell : Dev nD × Fin 81 → GSem nD τ sig) := by
  rintro ⟨c, k⟩ ⟨c', k'⟩ h
  have h1 : c = c' := congrArg (fun g : GSem nD τ sig => g.1.1) h
  have h2 : csem k = csem k' := congrArg Prod.snd h
  rw [h1, csem_injective h2]

theorem tcell_inj {c c' : Dev nD} {n n' : ℕ} (h1 : n < 114) (h2 : n' < 114) (h : tcell c n = tcell c' n') : c = c' ∧ n = n' :=
  ⟨congrArg (fun g : GSem nD τ sig => g.1.1) h, dsem_inj h1 h2 (congrArg Prod.snd h)⟩

theorem bar_ne_tcell (c c' : Dev nD) (n : ℕ) : barCell c ≠ tcell c' n := fun h => by
  have := congrArg Prod.snd h; cases this

/-- The protocol's semaphores. -/
def ringCells : Finset (GSem nD τ sig) := Finset.univ.map ⟨kcell, kcell_injective⟩

/-! ## The tokens -/

/-- A device's tokens as minted: the barrier's four, and one for each of the lanes' semaphores. -/
def tokN (c : Dev nD) (j : ℕ) : GSem nD τ sig × ℕ × Fin 4 :=
  if j < 4 then (barCell c, 0, ⟨j % 4, Nat.mod_lt _ (by decide)⟩) else (tcell c (30 + j), 0, 0)
def tokOf (cj : Dev nD × Fin 84) : GSem nD τ sig × ℕ × Fin 4 := tokN cj.1 cj.2.val

theorem tokOf_injective : Function.Injective tokOf := by
  rintro ⟨c, j⟩ ⟨c', j'⟩ h
  have l1 := j.isLt; have l2 := j'.isLt
  unfold tokOf tokN at h
  dsimp only at h
  by_cases h1 : j.val < 4 <;> by_cases h2 : j'.val < 4
  · rw [if_pos h1, if_pos h2] at h
    have e1 : c = c' := congrArg (fun x : GSem nD τ sig × ℕ × Fin 4 => x.1.1.1) h
    have e2 : j.val % 4 = j'.val % 4 := congrArg (fun x : GSem nD τ sig × ℕ × Fin 4 => x.2.2.val) h
    exact Prod.ext e1 (Fin.ext (by show j.val = j'.val; omega))
  · rw [if_pos h1, if_neg h2] at h
    exact absurd (congrArg Prod.fst h) (bar_ne_tcell _ _ _)
  · rw [if_neg h1, if_pos h2] at h
    exact absurd (congrArg Prod.fst h).symm (bar_ne_tcell _ _ _)
  · rw [if_neg h1, if_neg h2] at h
    have e := tcell_inj (by omega) (by omega) (congrArg Prod.fst h)
    exact Prod.ext e.1 (Fin.ext (by show j.val = j'.val; omega))

def ringToks : Finset (GSem nD τ sig × ℕ × Fin 4) := Finset.univ.map ⟨tokOf, tokOf_injective⟩

/-- The tokens of a device's own semaphores. -/
def toks (c : Dev nD) : sProp 𝕄 :=
  iprop((dutyTok ER (barCell c) 0 0 ∗ dutyTok ER (barCell c) 0 1 ∗ dutyTok ER (barCell c) 0 2 ∗ dutyTok ER (barCell c) 0 3)
    ∗ overLanes fun n => dutyTok ER (tcell c n) 0 0)

/-- The tokens of what a device pays. -/
def payToks (c : Dev nD) : sProp 𝕄 :=
  iprop((dutyTok ER (barCell (yl c)) 0 0 ∗ dutyTok ER (barCell (yr c)) 0 1 ∗ dutyTok ER (barCell (nx c)) 0 2 ∗ dutyTok ER (barCell (pv c)) 0 3)
    ∗ (overS .a 0 (fun n => dutyTok ER (tcell c n) 0 0) ∗ overS .a 1 (fun n => dutyTok ER (tcell c n) 0 0)
      ∗ overS .w 0 (fun n => dutyTok ER (tcell c n) 0 0) ∗ overS .w 1 (fun n => dutyTok ER (tcell c n) 0 0)
      ∗ overS .v 0 (fun n => dutyTok ER (tcell c n) 0 0) ∗ overS .v 1 (fun n => dutyTok ER (tcell c n) 0 0))
    ∗ (overR .a 0 (fun n => dutyTok ER (tcell (Fam.tgt .a c) n) 0 0) ∗ overR .a 1 (fun n => dutyTok ER (tcell (Fam.tgt .a c) n) 0 0)
      ∗ overR .w 0 (fun n => dutyTok ER (tcell (Fam.tgt .w c) n) 0 0) ∗ overR .w 1 (fun n => dutyTok ER (tcell (Fam.tgt .w c) n) 0 0)
      ∗ overR .v 0 (fun n => dutyTok ER (tcell (Fam.tgt .v c) n) 0 0) ∗ overR .v 1 (fun n => dutyTok ER (tcell (Fam.tgt .v c) n) 0 0)))

/-- The devices, by whom they send to in a family. -/
def tgtE (f : Fam) : Dev nD ≃ Dev nD := ⟨f.tgt, f.src, src_tgt f, tgt_src f⟩

theorem deal {M : Type} [URA M] (e : Dev nD ≃ Dev nD) (Φ : Dev nD → sProp M) : bigSep Finset.univ Φ = bigSep Finset.univ fun c => Φ (e c) :=
  bigSep_univ_equiv e Φ

/-- Each token goes to the device that pays it. -/
theorem toks_around : (bigSep Finset.univ fun c : Dev nD => (toks (F := F) c)) ⊢ bigSep Finset.univ fun c : Dev nD => payToks (F := F) c := by
  unfold toks payToks overLanes
  simp only [bigSep_sep']
  rw [deal (tgtE .a).symm (fun c => (dutyTok ER (barCell c) 0 0 : sProp 𝕄)), deal (tgtE .a) (fun c => (dutyTok ER (barCell c) 0 1 : sProp 𝕄)),
    deal (tgtE .w) (fun c => (dutyTok ER (barCell c) 0 2 : sProp 𝕄)), deal (tgtE .v) (fun c => (dutyTok ER (barCell c) 0 3 : sProp 𝕄)),
    deal (tgtE .a) (fun c => overR .a 0 (fun n => (dutyTok ER (tcell c n) 0 0 : sProp 𝕄))), deal (tgtE .a) (fun c => overR .a 1 (fun n => (dutyTok ER (tcell c n) 0 0 : sProp 𝕄))),
    deal (tgtE .w) (fun c => overR .w 0 (fun n => (dutyTok ER (tcell c n) 0 0 : sProp 𝕄))), deal (tgtE .w) (fun c => overR .w 1 (fun n => (dutyTok ER (tcell c n) 0 0 : sProp 𝕄))),
    deal (tgtE .v) (fun c => overR .v 0 (fun n => (dutyTok ER (tcell c n) 0 0 : sProp 𝕄))), deal (tgtE .v) (fun c => overR .v 1 (fun n => (dutyTok ER (tcell c n) 0 0 : sProp 𝕄)))]
  exact BIBase.Entails.rfl

/-! ## What a device owes a semaphore at launch -/

theorem oweL_bar (d c : Dev nD) (l : List Lane) : oweL d l (barCell c) () = 0 := by
  by_contra h
  obtain ⟨x, -, e⟩ := oweL_pos d l (Nat.pos_of_ne_zero h)
  exact bar_ne_tcell _ _ _ e

theorem rCell_inj {f f' : Fam} {c c' : Dev nD} {ch h ch' h' : ℕ} (h1 : ch < 2) (h2 : h < f.len) (h3 : ch' < 2) (h4 : h' < f'.len)
    (e : rCell f c ch h = rCell f' c' ch' h') : c = c' ∧ (f, ch, h) = (f', ch', h') := by
  have k := tcell_inj (rBase_lt h1 h2).2 (rBase_lt h3 h4).2 e
  refine ⟨k.1, ?_⟩
  have := (decode_r h1 h2).symm.trans ((congrArg decode k.2).trans (decode_r h3 h4))
  exact (Prod.mk.inj (Option.some.inj this)).2

theorem oweL_r (d c : Dev nD) {f : Fam} {ch h : ℕ} (hc : ch < 2) (hh : h < f.len) (l : List Lane) (hl : ∀ x ∈ l, x.2.1 < 2 ∧ x.2.2 < x.1.len) :
    oweL d l (rCell f c ch h) () = if d = f.src c then l.count (f, ch, h) * f.N else 0 := by
  induction l with
  | nil => show 0 = _; rw [List.count_nil, Nat.zero_mul]; split <;> rfl
  | cons x l ih =>
    have hx := hl x List.mem_cons_self
    unfold oweL
    rw [Pi.add_apply, Finsupp.add_apply, tallyAt_apply, ih fun y hy => hl y (List.mem_cons_of_mem _ hy), List.count_cons]
    by_cases e : rCell f c ch h = rCell x.1 (x.1.tgt d) x.2.1 x.2.2
    · obtain ⟨e1, e2⟩ := rCell_inj hc hh hx.1 hx.2 e
      have e3 : x = (f, ch, h) := e2.symm
      subst e3
      have e4 : d = f.src c := by rw [e1]; exact (src_tgt f d).symm
      rw [if_pos e4, if_pos e4, if_pos ⟨e, rfl⟩, if_pos (beq_self_eq_true _), Nat.add_mul, Nat.one_mul]
    · have e' : ¬ (rCell f c ch h = rCell x.1 (x.1.tgt d) x.2.1 x.2.2 ∧ () = ()) := fun h' => e h'.1
      by_cases e4 : d = f.src c
      · have e5 : ¬ x = (f, ch, h) := fun e3 => e (by subst e3; rw [e4, tgt_src])
        rw [if_pos e4, if_pos e4, if_neg e', if_neg (by rw [beq_iff_eq]; exact e5), Nat.add_zero, Nat.add_zero]
      · rw [if_neg e4, if_neg e4, if_neg e']

theorem sends_count {f : Fam} {ch h : ℕ} (hc : ch < 2) (hh : h < f.len) : sends.count (f, ch, h) = 1 := by
  have e : ch = 0 ∨ ch = 1 := by omega
  rcases e with rfl | rfl
  · have key : ∀ h < f.len, sends.count (f, 0, h) = 1 := by cases f <;> decide
    exact key h hh
  · have key : ∀ h < f.len, sends.count (f, 1, h) = 1 := by cases f <;> decide
    exact key h hh

theorem bar_eq {a b : Dev nD} : barCell a = barCell b ↔ a = b :=
  ⟨fun h => congrArg (fun g : GSem nD τ sig => g.1.1) h, fun h => h ▸ rfl⟩

theorem owed_bar (d c : Dev nD) : O₀ d (barCell c) () = (if d = yl c then 1 else 0) + (if d = pv c then 1 else 0) + (if d = nx c then 1 else 0) + (if d = yr c then 1 else 0) := by
  unfold O₀ oweB1 oweB2 oweB3 oweAt
  rw [Pi.add_apply, Finsupp.add_apply, Pi.add_apply, Finsupp.add_apply, Pi.add_apply, Finsupp.add_apply, Pi.add_apply, Finsupp.add_apply, oweL_bar,
    tallyAt_apply, tallyAt_apply, tallyAt_apply, tallyAt_apply, Nat.zero_add]
  have k : ∀ (t s : Dev nD → Dev nD), (∀ x, s (t x) = x) → (∀ x, t (s x) = x) → (barCell c = barCell (t d) ↔ d = s c) := fun t s h1 h2 =>
    ⟨fun h => by rw [bar_eq.mp h, h1], fun h => by rw [h, h2]⟩
  simp only [and_true, k pv nx nx_pv pv_nx, k nx pv pv_nx nx_pv, k yr yl yl_yr yr_yl, k yl yr yr_yl yl_yr]
  omega

theorem owed_r (d c : Dev nD) {f : Fam} {ch h : ℕ} (hc : ch < 2) (hh : h < f.len) : O₀ d (rCell f c ch h) () = if d = f.src c then f.N else 0 := by
  unfold O₀ oweB1 oweB2 oweB3 oweAt
  rw [Pi.add_apply, Finsupp.add_apply, Pi.add_apply, Finsupp.add_apply, Pi.add_apply, Finsupp.add_apply, Pi.add_apply, Finsupp.add_apply,
    tallyAt_apply, tallyAt_apply, tallyAt_apply, tallyAt_apply, if_neg fun h => bar_ne_tcell _ _ _ h.1.symm, if_neg fun h => bar_ne_tcell _ _ _ h.1.symm,
    if_neg fun h => bar_ne_tcell _ _ _ h.1.symm, if_neg fun h => bar_ne_tcell _ _ _ h.1.symm,
    oweL_r d c hc hh _ (fun x hx => (sends_after 0 (by decide) x hx).2), show sends.drop 0 = sends from rfl, sends_count hc hh, Nat.one_mul, Nat.add_zero]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib, Finset.sum_add_distrib]
  simp only [Finset.sum_ite_eq', Finset.mem_univ, if_true]

theorem launch_r (c : Dev nD) {f : Fam} {ch h : ℕ} (hc : ch < 2) (hh : h < f.len) :
    tallyOn (rCell f c ch h) (launchCredit (Pipeline.owing O₀) 0 (rCell f c ch h)) = (tallyAt (rCell f c ch h) () f.N : CellTallies nD τ sig Unit) := by
  unfold tallyAt; refine congrArg _ (Finsupp.ext fun u => ?_); cases u
  rw [Pipeline.launchCredit_owing, Finsupp.single_eq_same, Finset.sum_congr rfl fun d _ => owed_r d c hc hh]
  simp only [Finset.sum_ite_eq', Finset.mem_univ, if_true]

/-- The credit of a chain's arrivals. -/
def credR (f : Fam) (ch : ℕ) (c : Dev nD) : sProp 𝕄 := bigSep (Finset.Ico 0 f.len) fun h => cred (tallyAt (rCell f c ch h) () f.N)

/-- What a device is due at launch. -/
def credAll (c : Dev nD) : sProp 𝕄 :=
  iprop(cred (tallyAt (barCell c) () 4) ∗ credR .a 0 c ∗ credR .a 1 c ∗ credR .w 0 c ∗ credR .w 1 c ∗ credR .v 0 c ∗ credR .v 1 c)

theorem credR_intro (f : Fam) {ch : ℕ} (hc : ch < 2) (c : Dev nD) :
    (overR f ch (fun n => cred (tallyOn (tcell c n) (launchCredit (Pipeline.owing O₀) 0 (tcell c n)))) : sProp 𝕄) ⊢ credR f ch c := by
  unfold overR credR
  refine bigSep_mono fun h hh => ?_
  exact Entails.of_eq (congrArg cred (launch_r c hc (Finset.mem_Ico.mp hh).2))

theorem creds_deal (c : Dev nD) : (iprop(cred (tallyAt (barCell c) () 4)
    ∗ bigSep (Finset.Ico 34 114) fun n => cred (tallyOn (tcell c n) (launchCredit (Pipeline.owing O₀) 0 (tcell c n)))) : sProp 𝕄) ⊢ credAll c := by
  unfold credAll
  iintro ⟨H1, H2⟩
  isplitl [H1]; · iexact H1
  ihave H2 := (lanes_eq (fun n => (cred (tallyOn (tcell c n) (launchCredit (Pipeline.owing O₀) 0 (tcell c n))) : sProp 𝕄))).1 $$ H2
  unfold overLanes
  icases H2 with ⟨-, A0, A1, W0, W1, V0, V1⟩
  isplitl [A0]; · iapply (credR_intro .a (by decide) c); iexact A0
  isplitl [A1]; · iapply (credR_intro .a (by decide) c); iexact A1
  isplitl [W0]; · iapply (credR_intro .w (by decide) c); iexact W0
  isplitl [W1]; · iapply (credR_intro .w (by decide) c); iexact W1
  isplitl [V0]; · iapply (credR_intro .v (by decide) c); iexact V0
  iapply (credR_intro .v (by decide) c); iexact V1

theorem creds (c : Dev nD) : (Pipeline.launchCred O₀ c : sProp 𝕄) ⊢ credAll c := by
  unfold Pipeline.launchCred
  refine (bigSep_subset (Finset.subset_univ (Finset.univ.image csem))).trans ?_
  rw [bigSep_image_of_injOn (csem_injective.injOn),
    cells_eq (fun sm => (cred (tallyOn ((c : Thread nD τ), sm) (launchCredit (Pipeline.owing O₀) 0 ((c : Thread nD τ), sm))) : sProp 𝕄)), launch_bar]
  exact creds_deal c

/-! ## The protocol's ghost state at launch -/

/-- A device's own DMA semaphores. -/
abbrev osem : Fin 114 → SemLoc sig := fun i => .dma i

theorem ownSemFacts : Pipeline.OwnSemFacts cfg0.spec osem := ⟨fun k => by revert k; decide, fun k k' h => SemLoc.dma.inj h, fun k w => w.elim0⟩

theorem ownSems0_eq (c : Dev nD) : (Pipeline.ownSems0 (Ix := Unit) (Name := ℕ) (U := UU) (Lvl := ℕ) (Val := Elt F) (τ := τ) osem c : sProp 𝕄)
    = bigSep (Finset.Ico 0 114) fun n => semVal (tcell c n) 0 := by
  unfold Pipeline.ownSems0
  rw [← bigSep_fin_Ico]
  refine bigSep_congr fun k _ => ?_
  rw [show tcell c k.val = ((c : Thread nD τ), osem k) from congrArg (fun q => ((c : Thread nD τ), SemLoc.dma q)) (Fin.ext (Nat.mod_eq_of_lt k.isLt))]

theorem unscopedSems0_eq (c : Dev nD) : (unscopedSems0 c : sProp 𝕄) = semVal (barCell c) 0 := by
  unfold unscopedSems0; rw [bigSep_eq_bigSepL_of_eq [SemLoc.reg barS] (by decide) (by decide)]; rfl

def u₀ : UU := (initOf (Pipeline.cells cfgs cellOf_inj) (Pipeline.launchToks cfgs cellOf_inj), (initOf ringCells ringToks, 1))

/-- What a device is dealt of the protocol's state. -/
def G (c : Dev nD) : sProp 𝕄 :=
  iprop((bigSep Finset.univ fun k : Fin 81 => roundState ER (Rd X) (kcell (c, k)) 0)
    ∗ (bigSep Finset.univ fun k : Fin 81 => reached ER (kcell (c, k)) 0)
    ∗ (atPos ER (barCell c) 0 ∅ 0 ∗ overLanes fun n => atPos ER (tcell c n) 0 ∅ 0) ∗ toks c)

theorem G_all : bigSep Finset.univ (G X) = iprop((bigSep Finset.univ fun c : Dev nD => bigSep Finset.univ fun k : Fin 81 => roundState ER (Rd X) (kcell (c, k)) 0)
    ∗ (bigSep Finset.univ fun c : Dev nD => bigSep Finset.univ fun k : Fin 81 => reached ER (kcell (c, k)) 0)
    ∗ (bigSep Finset.univ fun c : Dev nD => iprop(atPos ER (barCell c) 0 ∅ 0 ∗ overLanes fun n => atPos ER (tcell c n) 0 ∅ 0))
    ∗ bigSep Finset.univ fun c : Dev nD => toks c) := by
  rw [← bigSep_sep', ← bigSep_sep', ← bigSep_sep']; rfl

theorem lanes_over (P : Dev nD → sProp 𝕄) (Φ : Dev nD → ℕ → sProp 𝕄) :
    (bigSep Finset.univ fun c => iprop(P c ∗ bigSep (Finset.Ico 34 114) (Φ c))) ⊢ bigSep Finset.univ fun c => iprop(P c ∗ overLanes (Φ c)) :=
  bigSep_mono fun c _ => BI.sep_mono (BIBase.Entails.rfl (P := P c)) (lanes_eq (Φ c)).1

theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : Fin 81 => Φ (kcell (c, k)) := by
    unfold ringCells; rw [bigSep_map, bigSep_univ_prod]; rfl
  have hA : bigSep ringCells (fun g => (atPos ER g 0 ∅ 0 : sProp 𝕄))
      = bigSep Finset.univ fun c : Dev nD => iprop(atPos ER (barCell c) 0 ∅ 0 ∗ bigSep (Finset.Ico 34 114) fun n => atPos ER (tcell c n) 0 ∅ 0) := by
    rw [hX]
    exact bigSep_congr fun c _ => cells_eq (fun sm => (atPos ER ((c : Thread nD τ), sm) 0 ∅ 0 : sProp 𝕄))
  have hT : bigSep ringToks (fun x => (dutyTok ER x.1 x.2.1 x.2.2 : sProp 𝕄))
      = bigSep Finset.univ fun c : Dev nD => iprop((dutyTok ER (barCell c) 0 0 ∗ dutyTok ER (barCell c) 0 1 ∗ dutyTok ER (barCell c) 0 2 ∗ dutyTok ER (barCell c) 0 3)
        ∗ bigSep (Finset.Ico 34 114) fun n => dutyTok ER (tcell c n) 0 0) := by
    unfold ringToks; rw [bigSep_map, bigSep_univ_prod]
    refine bigSep_congr fun c _ => ?_
    refine Eq.trans (bigSep_fin_Ico 84 fun j => (dutyTok ER (tokN c j).1 (tokN c j).2.1 (tokN c j).2.2 : sProp 𝕄)) ?_
    rw [bigSep_cut (b := 4) (by decide) (by decide), show Finset.Ico 4 84 = Finset.Ico 4 (4 + 80) from rfl, bigSep_shift 4 80,
      show Finset.Ico 34 114 = Finset.Ico 34 (34 + 80) from rfl, bigSep_shift 34 80,
      bigSep_Ico_succ_bot (by decide : (0 : ℕ) < 4), bigSep_Ico_succ_bot (by decide : 0 + 1 < 4), bigSep_Ico_succ_bot (by decide : 0 + 1 + 1 < 4),
      bigSep_Ico_succ_bot (by decide : 0 + 1 + 1 + 1 < 4), show Finset.Ico (0 + 1 + 1 + 1 + 1) 4 = ∅ from rfl, sep_nil]
    congr 1
  iintro HX
  imod (Rounds.fund ER (Rd X) ringCells ringToks) $$ HX with ⟨Hst, Hr, Hat, Htok⟩
  imodintro
  ihave Hst := (Entails.of_eq (hX fun g => roundState ER (Rd X) g 0)) $$ Hst
  ihave Hr := (Entails.of_eq (hX fun g => reached ER g 0)) $$ Hr
  ihave Hat := (Entails.of_eq hA) $$ Hat
  ihave Htok := (Entails.of_eq hT) $$ Htok
  ihave Hat := (lanes_over (fun c => atPos ER (barCell c) 0 ∅ 0) fun c n => atPos ER (tcell c n) 0 ∅ 0) $$ Hat
  ihave Htok := (lanes_over (fun c => iprop(dutyTok ER (barCell c) 0 0 ∗ dutyTok ER (barCell c) 0 1 ∗ dutyTok ER (barCell c) 0 2 ∗ dutyTok ER (barCell c) 0 3))
    fun c n => dutyTok ER (tcell c n) 0 0) $$ Htok
  iapply (Entails.of_eq (G_all X).symm)
  isplitl [Hst]; · iexact Hst
  isplitl [Hr]; · iexact Hr
  isplitl [Hat]; · iexact Hat
  iexact Htok

/-- The semaphores the device itself keeps: those of its loads and its stores. -/
def lowSems (c : Dev nD) : sProp 𝕄 :=
  iprop((semVal (tcell c 0) 0 ∗ semVal (tcell c 1) 0) ∗ (bigSep (Finset.Ico 0 16) fun n => semVal (tcell c (2 + 16 * 0 + n)) 0)
    ∗ (bigSep (Finset.Ico 0 16) fun n => semVal (tcell c (2 + 16 * 1 + n)) 0))

/-- What stays with a device once every semaphore of the protocol runs by the schedule. -/
def Kept (c : Dev nD) : sProp 𝕄 := iprop((atPos ER (barCell c) 0 ∅ 0 ∗ overLanes fun n => atPos ER (tcell c n) 0 ∅ 0) ∗ lowSems c)

/-- What a device has of the protocol as its run begins. -/
def G' (c : Dev nD) : sProp 𝕄 := iprop(∃ K, records X K ∗ Kept c ∗ payToks c)

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Fin 81 => iprop((∃ κ : ℕ, cellInv ER (Rd X) κ (kcell (c, k))) ∗ reached ER (kcell (c, k)) 0))
          ∗ Kept c ∗ toks c) := by
  unfold G Kept lowSems
  rw [ownSems0_eq, unscopedSems0_eq, sems_split, bigSep_sep']
  iintro ⟨⟨H1, H2, H3, H4⟩, HB, Hst, Hr, Hat, Htok⟩
  ihave Hv := (Entails.of_eq (cells_eq (fun sm => (semVal ((c : Thread nD τ), sm) 0 : sProp 𝕄))).symm) $$ [HB H4]
  · isplitl [HB]; · iexact HB
    iexact H4
  imod (show iprop((bigSep Finset.univ fun k : Fin 81 => semVal (kcell (c, k)) 0) ∗ bigSep Finset.univ fun k : Fin 81 => roundState ER (Rd X) (kcell (c, k)) 0)
      ⊢ (|={Set.univ}=> bigSep Finset.univ fun k : Fin 81 => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv]; · iexact Hv
    iexact Hst
  imodintro
  isplitl [Hinv Hr]
  · isplitl [Hinv]; · iexact Hinv
    iexact Hr
  isplitl [Hat H1 H2 H3]
  · isplitl [Hat]; · iexact Hat
    isplitl [H1]; · iexact H1
    isplitl [H2]; · iexact H2
    iexact H3
  iexact Htok

theorem ghost_intro (K : Dev nD × Fin 81 → ℕ) (c : Dev nD) : iprop(records X K ∗ Kept c ∗ payToks c) ⊢ G' X c := by
  unfold G'
  iintro H; iexists K; iexact H

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 81 => iprop((∃ κ : ℕ, cellInv ER (Rd X) κ (kcell (c, k))) ∗ reached ER (kcell (c, k)) 0))
          ∗ Kept c ∗ toks c) : sProp 𝕄)
      ⊢ bigSep Finset.univ (G' X) := by
  rw [bigSep_sep', bigSep_sep', ← bigSep_univ_prod (fun ck : Dev nD × Fin 81 => iprop((∃ κ : ℕ, cellInv ER (Rd X) κ (kcell ck)) ∗ reached ER (kcell ck) 0)), bigSep_sep']
  iintro ⟨⟨HI, HR⟩, Hk, Htok⟩
  ihave ⟨%K, HI⟩ := (BI.bigSep_exists_pi Finset.univ (fun (ck : Dev nD × Fin 81) (κ : ℕ) => (cellInv ER (Rd X) κ (kcell ck) : sProp 𝕄))) $$ HI
  ihave Htk := (toks_around (F := F)) $$ Htok
  iapply (with_persistent (R := records X K) fun c _ => ghost_intro X K c)
  isplitl [HI HR]
  · unfold records
    rw [bigSep_sep']
    isplitl [HI]; · iexact HI
    iexact HR
  · rw [bigSep_sep']
    isplitl [Hk]; · iexact Hk
    iexact Htk

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Cert.RingProof

end
-- ==== Proof.Launch.lean ====
/- The launch: what each device starts with, its kernel run from there, and the run of the whole program. -/
module

public import proofs.«01_k».proof.Proof.RunA
public import proofs.«01_k».proof.Proof.Deal
public import Idealize.ShloMosaic.Lib.Pipeline.CollectiveSegs
public import Idealize.ShloMosaic.Lib.Quiescent

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline (Dat Cfg Window BodyObligation cellOf)

/-! ## From what the launch deals to what the run starts with -/

section Pieces
variable (X : Arg (F := F)) (K : Dev nD × Fin 81 → ℕ)

theorem stores_start (ch : ℕ) (c : Dev nD) :
    iprop((bigSep (Finset.Ico 0 16) fun n => iprop(∃ Y, owns (c : Thread nD τ) (oWin (qOf c ch n)) fullShare Y))
      ∗ bigSep (Finset.Ico 0 16) fun n => semVal (tcell c (2 + 16 * ch + n)) 0) ⊢ Stores X ch c 0 0 := by
  unfold Stores storePre
  rw [Finset.Ico_self, ← bigSep_sep', sep_nil, sep_nil]

theorem out_stores (c : Dev nD) (Y : S16384x1024.Idx → Elt F .bf16) :
    iprop(owns (c : Thread nD τ) oM fullShare Y ∗ (bigSep (Finset.Ico 0 16) fun n => semVal (tcell c (2 + 16 * 0 + n)) 0)
      ∗ bigSep (Finset.Ico 0 16) fun n => semVal (tcell c (2 + 16 * 1 + n)) 0) ⊢ iprop(Stores X 0 c 0 0 ∗ Stores X 1 c 0 0) := by
  have h : (bigSep (Finset.Ico 0 2) fun ch => bigSep (Finset.Ico 0 16) fun n => iprop(∃ Y, owns (c : Thread nD τ) (oWin (qOf c ch n)) fullShare Y))
      = (iprop((bigSep (Finset.Ico 0 16) fun n => iprop(∃ Y, owns (c : Thread nD τ) (oWin (qOf c 0 n)) fullShare Y))
        ∗ bigSep (Finset.Ico 0 16) fun n => iprop(∃ Y, owns (c : Thread nD τ) (oWin (qOf c 1 n)) fullShare Y)) : sProp 𝕄) := bigSep_Ico_two _
  iintro ⟨H, S0, S1⟩
  ihave H := (out_split c Y) $$ H
  ihave H := (Entails.of_eq h) $$ H
  icases H with ⟨H0, H1⟩
  isplitl [H0 S0]
  · iapply (stores_start X 0 c)
    isplitl [H0]; · iexact H0
    iexact S0
  · iapply (stores_start X 1 c)
    isplitl [H1]; · iexact H1
    iexact S1

theorem chain_start (f : Fam) (ch : ℕ) (c : Dev nD) :
    iprop(overS f ch (fun n => dutyTok ER (tcell c n) 0 0) ∗ overR f ch (fun n => dutyTok ER (tcell (f.tgt c) n) 0 0)
      ∗ overS f ch (fun n => atPos ER (tcell c n) 0 ∅ 0) ∗ overR f ch (fun n => atPos ER (tcell c n) 0 ∅ 0) ∗ credR f ch c) ⊢ (Chain0 f ch c : sProp 𝕄) := by
  unfold Chain0 recvPre overS overR credR
  rw [bigSep_sep']

theorem chains_start (c : Dev nD) : (iprop(payToks c ∗ (overLanes fun n => atPos ER (tcell c n) 0 ∅ 0)
    ∗ (credR .a 0 c ∗ credR .a 1 c ∗ credR .w 0 c ∗ credR .w 1 c ∗ credR .v 0 c ∗ credR .v 1 c)) : sProp 𝕄)
    ⊢ iprop((dutyTok ER (barCell (yl c)) 0 0 ∗ dutyTok ER (barCell (yr c)) 0 1 ∗ dutyTok ER (barCell (nx c)) 0 2 ∗ dutyTok ER (barCell (pv c)) 0 3)
      ∗ Chain0 .a 0 c ∗ Chain0 .a 1 c ∗ Chain0 .w 0 c ∗ Chain0 .w 1 c ∗ Chain0 .v 0 c ∗ Chain0 .v 1 c) := by
  unfold payToks overLanes
  iintro ⟨⟨HB, ⟨S1, S2, S3, S4, S5, S6⟩, R1, R2, R3, R4, R5, R6⟩, ⟨⟨P1, P2, P3, P4, P5, P6⟩, Q1, Q2, Q3, Q4, Q5, Q6⟩, C1, C2, C3, C4, C5, C6⟩
  isplitl [HB]; · iexact HB
  isplitl [S1 R1 P1 Q1 C1]
  · iapply (chain_start .a 0 c)
    isplitl [S1]; · iexact S1
    isplitl [R1]; · iexact R1
    isplitl [P1]; · iexact P1
    isplitl [Q1]; · iexact Q1
    iexact C1
  isplitl [S2 R2 P2 Q2 C2]
  · iapply (chain_start .a 1 c)
    isplitl [S2]; · iexact S2
    isplitl [R2]; · iexact R2
    isplitl [P2]; · iexact P2
    isplitl [Q2]; · iexact Q2
    iexact C2
  isplitl [S3 R3 P3 Q3 C3]
  · iapply (chain_start .w 0 c)
    isplitl [S3]; · iexact S3
    isplitl [R3]; · iexact R3
    isplitl [P3]; · iexact P3
    isplitl [Q3]; · iexact Q3
    iexact C3
  isplitl [S4 R4 P4 Q4 C4]
  · iapply (chain_start .w 1 c)
    isplitl [S4]; · iexact S4
    isplitl [R4]; · iexact R4
    isplitl [P4]; · iexact P4
    isplitl [Q4]; · iexact Q4
    iexact C4
  isplitl [S5 R5 P5 Q5 C5]
  · iapply (chain_start .v 0 c)
    isplitl [S5]; · iexact S5
    isplitl [R5]; · iexact R5
    isplitl [P5]; · iexact P5
    isplitl [Q5]; · iexact Q5
    iexact C5
  · iapply (chain_start .v 1 c)
    isplitl [S6]; · iexact S6
    isplitl [R6]; · iexact R6
    isplitl [P6]; · iexact P6
    isplitl [Q6]; · iexact Q6
    iexact C6

theorem loads_start (c : Dev nD) :
    iprop(owns (c : Thread nD τ) xM fullShare (X c) ∗ (∃ Y, owns (c : Thread nD τ) bM fullShare Y) ∗ semVal (tcell c 0) 0 ∗ semVal (tcell c 1) 0)
      ⊢ iprop((∃ Y, LBuf X c 0 Y) ∗ ∃ Y, LBuf X c 1 Y) := by
  unfold LBuf
  iintro ⟨Hx, Hb, S0, S1⟩
  ihave Hx := (owns_halves (c : Thread nD τ) xM fullShare (X c)).1 $$ Hx
  ihave Hb := (xb_split c) $$ Hb
  icases Hx with ⟨Hx0, Hx1⟩
  icases Hb with ⟨⟨%Y0, Hb0⟩, %Y1, Hb1⟩
  isplitl [Hx0 Hb0 S0]
  · iexists Y0
    isplitl [Hx0]; · iexact Hx0
    isplitl [Hb0]; · iexact Hb0
    iexact S0
  · iexists Y1
    isplitl [Hx1]; · iexact Hx1
    isplitl [Hb1]; · iexact Hb1
    iexact S1

theorem anySlot_half (f : Fam) (ch : ℕ) (c : Dev nD) :
    iprop(∃ Y, owns (c : Thread nD τ) (((bufM f).slice (rB ch 0) (fun _ => rfl)).squeeze S512x1024 squeezes_S1x1x512x1024_S512x1024) fullShare Y) ⊢ HalfSt X f ch c 3 :=
  exists_elim fun Y => slot0_halves X f ch c (q := fullShare) (Y := Y)

theorem slots_start (c : Dev nD) : iprop(anyBuf .a c ∗ anyBuf .w c ∗ anyBuf .v c)
    ⊢ iprop((landSlots .a c ∗ landSlots .v c ∗ landSlots .w c)
      ∗ ((∃ Y, owns (c : Thread nD τ) (slot .a 0 0) fullShare Y) ∗ (∃ Y, owns (c : Thread nD τ) (slot .a 1 0) fullShare Y))
      ∗ HalfSt X .w 0 c 3 ∗ HalfSt X .v 0 c 3 ∗ HalfSt X .w 1 c 3 ∗ HalfSt X .v 1 c 3) := by
  iintro ⟨Ha, Hw, Hv⟩
  ihave Ha := ((buf_split .a c).trans (slots_land .a c)) $$ Ha
  ihave Hw := ((buf_split .w c).trans (slots_land .w c)) $$ Hw
  ihave Hv := ((buf_split .v c).trans (slots_land .v c)) $$ Hv
  icases Ha with ⟨A0, A1, AL⟩
  icases Hw with ⟨W0, W1, WL⟩
  icases Hv with ⟨V0, V1, VL⟩
  isplitl [AL WL VL]
  · isplitl [AL]; · iexact AL
    isplitl [VL]; · iexact VL
    iexact WL
  isplitl [A0 A1]
  · unfold anySlot
    isplitl [A0]; · iexact A0
    iexact A1
  unfold anySlot
  isplitl [W0]; · iapply (anySlot_half X .w 0 c); iexact W0
  isplitl [V0]; · iapply (anySlot_half X .v 0 c); iexact V0
  isplitl [W1]; · iapply (anySlot_half X .w 1 c); iexact W1
  iapply (anySlot_half X .v 1 c); iexact V1

/-- All a device has as its kernel starts. -/
theorem start_all (c : Dev nD) (Y : S16384x1024.Idx → Elt F .bf16) :
    iprop((records X K ∗ Kept c ∗ payToks c) ∗ credAll c ∗ levAts L lev ∗ owns (c : Thread nD τ) xM fullShare (X c) ∗ owns (c : Thread nD τ) oM fullShare Y
      ∗ (anyBuf .a c ∗ anyBuf .w c ∗ anyBuf .v c ∗ ∃ Y, owns (c : Thread nD τ) bM fullShare Y)
      ∗ ∃ W, owes (c : Thread nD τ) (O₀ c) W) ⊢ Start X K c := by
  unfold Kept lowSems credAll
  iintro ⟨⟨HR, ⟨⟨HaB, Hpos⟩, ⟨Hs0, Hs1⟩, Ht0, Ht1⟩, Htok⟩, ⟨HcB, Hcr⟩, Hlev, Hx, Ho, ⟨Ha, Hw, Hv, Hb⟩, HO⟩
  ihave HC := (chains_start c) $$ [Htok Hpos Hcr]
  · isplitl [Htok]; · iexact Htok
    isplitl [Hpos]; · iexact Hpos
    iexact Hcr
  icases HC with ⟨HB, HC⟩
  ihave HX := (loads_start X c) $$ [Hx Hb Hs0 Hs1]
  · isplitl [Hx]; · iexact Hx
    isplitl [Hb]; · iexact Hb
    isplitl [Hs0]; · iexact Hs0
    iexact Hs1
  icases HX with ⟨HX0, HX1⟩
  ihave HS := (slots_start X c) $$ [Ha Hw Hv]
  · isplitl [Ha]; · iexact Ha
    isplitl [Hw]; · iexact Hw
    iexact Hv
  icases HS with ⟨HL, ⟨HA0, HA1⟩, HH0, HH1, HH2, HH3⟩
  ihave HT := (out_stores X c Y) $$ [Ho Ht0 Ht1]
  · isplitl [Ho]; · iexact Ho
    isplitl [Ht0]; · iexact Ht0
    iexact Ht1
  icases HC with ⟨C1, C2, C3, C4, C5, C6⟩
  unfold Start
  isplitl [HR]; · iexact HR
  isplitl [Hlev]; · iexact Hlev
  isplitl [HO]; · iexact HO
  isplitl [HB]; · iexact HB
  isplitl [HL]; · iexact HL
  isplitl [HaB HcB]
  · isplitl [HaB]; · iexact HaB
    iexact HcB
  isplitl [HX0]; · iexact HX0
  isplitl [HX1]; · iexact HX1
  isplitl [HA0]; · iexact HA0
  isplitl [HA1]; · iexact HA1
  isplitl [C1]; · iexact C1
  isplitl [C2]; · iexact C2
  isplitl [C3]; · iexact C3
  isplitl [C4]; · iexact C4
  isplitl [C5]; · iexact C5
  isplitl [C6]; · iexact C6
  isplitl [HH0]; · iexact HH0
  isplitl [HH1]; · iexact HH1
  isplitl [HH2]; · iexact HH2
  isplitl [HH3]; · iexact HH3
  iexact HT

end Pieces

/-! ## The run -/

variable (m : (ℓ : Loc nD τ sig) → Buf (Elt F) ℓ) (ρ : Dev nD → PrngReg)

/-- The devices' arguments. -/
def XA : Arg (F := F) := fun c => m ((c : Thread nD τ).loc main_arg0)

/-- The state at launch. -/
def s₀ : MemSt nD τ sig (Elt F) := ⟨m, fun _ => 0, ρ⟩

/-- What a device enters the kernel with, its scratch aside, -/
def entry (c : Dev nD) : sProp 𝕄 :=
  iprop(G' (XA m) c ∗ credAll c ∗ levAts L lev ∗ owns (c : Thread nD τ) xM fullShare (XA m c) ∗ ∃ Y, owns (c : Thread nD τ) oM fullShare Y)
/-- its scratch, at any contents, -/
def scratch (c : Dev nD) : sProp 𝕄 := iprop(anyBuf .a c ∗ anyBuf .w c ∗ anyBuf .v c ∗ ∃ Y, owns (c : Thread nD τ) bM fullShare Y)
/-- what it takes out of the kernel, -/
def exitY (c : Dev nD) : sProp 𝕄 :=
  iprop(owns (c : Thread nD τ) xM fullShare (XA m c) ∗ owns (c : Thread nD τ) oM fullShare (OUT (XA m) c) ∗ unscopedSems0 c)
/-- and what that says of the final memory. -/
def exitQ (c : Dev nD) (s : MemSt nD τ sig (Elt F)) : Prop :=
  s.mem ((c : Thread nD τ).loc main_arg0) = m ((c : Thread nD τ).loc main_arg0) ∧ s.mem ((c : Thread nD τ).loc main_v1) = OUT (XA m) c
    ∧ ∀ sm : SemLoc sig, sm.isScoped .tc = false → s.sem ((c.tc : Thread nD τ), sm) = 0

def dats (_ : Fin 1) (c : Dev nD) : Dat τ (Elt F) Unit ℕ UU ℕ cfg0 c where
  A := fun w => w.elim0
  after := fun w => w.elim0
  Φ := fun t => match t with | ⟨0, _⟩ => iprop(entry m c ∗ scratch c) | ⟨_ + 1, _⟩ => Done (XA m) c
  q := fun w => w.elim0
  owed := fun t => match t with | ⟨0, _⟩ => O₀ c | ⟨_ + 1, _⟩ => 0

theorem kernel_run (c : Dev nD) : iprop((entry m c ∗ scratch c) ∗ ∃ W, owes (c : Thread nD τ) (O₀ c) W)
    ⊢ wp frame (wpE (defs₀ (F := F)) 𝒱₀ (c : Thread nD τ) none) Set.univ
        (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11)
        (fun _ => iprop(Done (XA m) c ∗ ∃ W, owes (c : Thread nD τ) 0 W)) := by
  unfold entry scratch G'
  iintro ⟨⟨⟨⟨%K, HG⟩, Hcr, Hlev, Hx, %Y, Ho⟩, Hs⟩, HO⟩
  ihave HS := (start_all (XA m) K c Y) $$ [HG Hcr Hlev Hx Ho Hs HO]
  · isplitl [HG]; · iexact HG
    isplitl [Hcr]; · iexact Hcr
    isplitl [Hlev]; · iexact Hlev
    isplitl [Hx]; · iexact Hx
    isplitl [Ho]; · iexact Ho
    isplitl [Hs]; · iexact Hs
    iexact HO
  ihave HW := (run_body (XA m) K c) $$ HS
  iapply (wp_mono _ _ _ fun _ => finish_done (XA m) K c)
  iexact HW

theorem bigSep_none {n : ℕ} (hn : n = 0) (Φ : Fin n → sProp 𝕄) : bigSep Finset.univ Φ = iprop(emp) := by
  subst hn; exact bigSep_empty

theorem owes_in (c : Dev nD) : (dats m 0 c).owesAt () t0_0.castSucc ⊢ (iprop(∃ W, owes (c : Thread nD τ) (O₀ c) W) : sProp 𝕄) := by
  unfold Dat.owesAt Pipeline.owesWithin
  rw [show (dats m 0 c).owed t0_0.castSucc = O₀ c from rfl]
  iintro ⟨%W, -, HO⟩
  iexists W; iexact HO

theorem owes_out (c : Dev nD) : (iprop(∃ W, owes (c : Thread nD τ) 0 W) : sProp 𝕄) ⊢ (dats m 0 c).owesAt () t0_0.succ := by
  unfold Dat.owesAt Pipeline.owesWithin
  rw [show (dats m 0 c).owed t0_0.succ = 0 from rfl]
  iintro ⟨%W, HO⟩
  iexists W
  isplitr; · ipureintro; exact fun _ _ => Or.inl trivial
  iexact HO

theorem kernel_step (c : Dev nD) : iprop((entry m c ∗ scratch c) ∗ (dats m 0 c).owesAt () t0_0.castSucc ∗ emp)
    ⊢ wp frame (wpE (defs₀ (F := F)) 𝒱₀ (c : Thread nD τ) none) Set.univ
        (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11)
        (fun _ => iprop(Done (XA m) c ∗ (dats m 0 c).owesAt () t0_0.succ ∗ emp)) := by
  iintro ⟨H, HO, -⟩
  ihave HO := (owes_in m c) $$ HO
  ihave HW := (kernel_run m c) $$ [H HO]
  · isplitl [H]; · iexact H
    iexact HO
  iapply (wp_wand _ _ _) $$ HW
  iintro %u ⟨HD, HO⟩
  ihave HO := (owes_out m c) $$ HO
  isplitl [HD]; · iexact HD
  isplitl [HO]; · iexact HO
  iempintro

/-- The kernel's run, as the launch asks for it. -/
theorem body_obligation (c : Dev nD) : BodyObligation (dats m 0 c) (defs₀ (F := F)) 𝒱₀ () Set.univ := fun t => by
  obtain rfl : t = t0_0 := fin_N0 t
  have h0 : ∀ Φ : Fin cfg0.W → sProp 𝕄, bigSep Finset.univ Φ = iprop(emp) := bigSep_none rfl
  rw [h0, h0]
  have hp : defs₀ (F := F) .tc cfg0.body (cfg0.bodyArgs t0_0 (cfg0.slots t0_0)) = (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) := rfl
  rw [hp]
  have h1 : (dats m 0 c).Φ t0_0.castSucc = iprop(entry m c ∗ scratch c) := rfl
  have h2 : (dats m 0 c).Φ t0_0.succ = Done (XA m) c := rfl
  rw [h1, h2]
  refine (kernel_step m c).trans (Entails.of_eq ?_)
  congr 1

theorem share_eq (c : Dev nD) (w : Fin cfg0.W) : (dats m 0 c).share w = fullShare := w.elim0

theorem waits (c : Dev nD) : (levAts L lev : sProp 𝕄) ⊢ Pipeline.cellsWaits cfgs (dats m) () 0 c :=
  Pipeline.cellsWaits_intro cfgs (dats m) () 0 c fun w => w.elim0

theorem start_intro (c : Dev nD) :
    iprop(Pipeline.unscopedRestP Pipeline.Prefetch.none cfg0.spec c (fun b => m ((c : Thread nD τ).loc b)) ∗ levAts L lev
        ∗ Pipeline.launchCred O₀ c ∗ prngReg c (ρ c) ∗ G' (XA m) c)
      ⊢ |={Set.univ}=> iprop(entry m c ∗ emp) := by
  rw [Pipeline.unscopedRestP_none, unscopedRest0_eq]
  rw [← owns_whole (c : Thread nD τ) main_arg0, ← owns_whole (c : Thread nD τ) main_v1]
  iintro ⟨⟨Hx, Ho⟩, Hlev, Hcr, -, HG⟩
  ihave Hc := (creds (F := F) c) $$ Hcr
  imodintro
  unfold entry XA
  isplitl
  · isplitl [HG]; · iexact HG
    isplitl [Hc]; · iexact Hc
    isplitl [Hlev]; · iexact Hlev
    isplitl [Hx]; · iexact Hx
    iexists (m ((c : Thread nD τ).loc main_v1)); iexact Ho
  · iempintro

theorem whole_any (c : Dev nD) (b : Ref sig .tc) :
    iprop(∃ f : Buf (Elt F) ((c : Thread nD τ).loc b), ((c : Thread nD τ).loc b) ↦{fullShare} f) = (iprop(∃ X, owns (c : Thread nD τ) (Memref.whole b) fullShare X) : sProp 𝕄) :=
  congrArg (fun Φ : b.ty.Contents (Elt F) → sProp 𝕄 => iprop(∃ X, Φ X)) (funext fun X => (owns_whole (c : Thread nD τ) b fullShare X).symm)

theorem scratch_eq (c : Dev nD) : (Pipeline.scopedRest (Ix := Unit) (Name := ℕ) (U := UU) (Lvl := ℕ) (Val := Elt F) cfg0.spec c : sProp 𝕄) = scratch c := by
  rw [scopedRest0_eq, whole_any, whole_any, whole_any, whole_any]; rfl

theorem phi0_intro (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(entry m c ∗ scratch c) from rfl, scratch_eq]
  iintro ⟨Hs, -, Hr⟩
  isplitl [Hs]; · iexact Hs
  iexact Hr

theorem phi1_exit (c : Dev nD) :
    (dats m 0 c).Φ (Fin.last cfg0.N) ⊢ iprop(exitY m c ∗ Pipeline.ownSems0 osem c ∗ Pipeline.scopedRest cfg0.spec c) := by
  rw [show (dats m 0 c).Φ (Fin.last cfg0.N) = Done (XA m) c from rfl, scratch_eq, ownSems0_eq]
  unfold exitY Done
  rw [unscopedSems0_eq, show iprop(anyBuf .a c ∗ anyBuf .w c ∗ anyBuf .v c ∗ ∃ Y, owns (c : Thread nD τ) bM fullShare Y) = scratch (F := F) c from rfl]
  iintro ⟨Hx, Ho, Hs, HB, HD⟩
  isplitl [Hx Ho HB]
  · isplitl [Hx]; · iexact Hx
    isplitl [Ho]; · iexact Ho
    iexact HB
  isplitl [HD]; · iexact HD
  iexact Hs

theorem whole_read (c : Dev nD) (b : Ref sig .tc) (f : b.ty.Contents (Elt F)) (s' : Phys nD τ sig (Elt F)) :
    iprop(owns (c : Thread nD τ) (Memref.whole b) fullShare f ∗ SI s') ⊢ (iprop(⌜s'.mem.mem ((c : Thread nD τ).loc b) = f⌝ ∗ SI s') : sProp 𝕄) := by
  rw [owns_whole]
  iintro ⟨H, HS⟩
  ihave ⟨%h, HS⟩ := (pointsTo_read_all (Finset.univ : Finset (Fin 1)) (fun _ => (c : Thread nD τ).loc b) (fun _ => f) s') $$ [H HS]
  · rw [show (Finset.univ : Finset (Fin 1)) = {0} from rfl, bigSep_singleton]
    isplitl [H]; · iexact H
    iexact HS
  isplitr
  · ipureintro; exact h 0 (Finset.mem_univ _)
  · iexact HS

theorem exit_read (c : Dev nD) (s' : Phys nD τ sig (Elt F)) :
    iprop(exitY m c ∗ emp ∗ SI s') ⊢ (|={Set.univ}=> iprop(⌜exitQ m c s'.mem⌝ ∗ SI s') : sProp 𝕄) := by
  unfold exitY
  iintro ⟨⟨Hx, Ho, Hs⟩, -, HSI⟩
  ihave ⟨%hx, HSI⟩ := (whole_read c main_arg0 (XA m c) s') $$ [Hx HSI]
  · isplitl [Hx]; · iexact Hx
    iexact HSI
  ihave ⟨%ho, HSI⟩ := (whole_read c main_v1 (OUT (XA m) c) s') $$ [Ho HSI]
  · isplitl [Ho]; · iexact Ho
    iexact HSI
  imod (Pipeline.unscopedSems0_read (X := unscopedSems0 c) (c := c) fupd_intro s') $$ [Hs HSI] with ⟨%hs, HSI⟩
  · isplitl [Hs]; · iexact Hs
    iexact HSI
  imodintro
  isplitr
  · ipureintro; exact ⟨hx, ho, hs⟩
  · iexact HSI

theorem ring_own : (BI.own (embR (initOf ringCells ringToks, (1 : Counters))) : sProp 𝕄) ⊢ (|==> bigSep Finset.univ (G (XA m)) : sProp 𝕄) :=
  fund_ring (XA m)

/-- What the run leaves: each device's argument as it was, and its result the all-reduce's. -/
def QC : PUnit × MemSt nD τ sig (Elt F) → Prop := fun r =>
  ∀ c : Dev nD, r.2.mem ((c : Thread nD τ).loc main_arg0) = m ((c : Thread nD τ).loc main_arg0) ∧ r.2.mem ((c : Thread nD τ).loc main_v1) = OUT (XA m) c

set_option maxRecDepth 8000 in
/-- From any memory with every counter at zero, for any float values, every weakly fair execution of the program ends, with
    each device's argument as it was, its result the all-reduce's, and every counter at zero again. -/
theorem run_main : θ_run defs (onTc (τ := τ) (main (F := F))) (s₀ m ρ) (fun r => QC m r ∧ r.2.sem = fun _ => 0) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := ?b) (hne := fun w => w.elim0) (harr := arr_whole0) (hstage := stage_whole0) (hshare := share_eq m)
    (hdistinct := winFacts0.arr_inj)
    (O₀ := O₀) (howed₀ := fun _ => rfl) (howedN := fun _ => rfl)
    (L := L) (lv := lev) (hL := L_of_ne) (hwaits := waits m)
    (G := G (XA m)) (G' := G' (XA m)) (u₀ := u₀)
    (hu₀ := ?u)
    (hglob := ?g)
    (hA := fun _ w => w.elim0) (hpf := fun _ k => k.elim0)
    (X := entry m) (Y := exitY m) (Z := fun _ => iprop(emp))
    (hX := ?X) (hin := ?i) (hout := ?o)
    (QY := exitQ m) (hY := ?Y)
    (hQ := ?Q)
  case Q => exact fun _ h hs => ⟨fun c => ⟨(h c).2.2.1, (h c).2.2.2.1⟩, sem_eq_zero hs fun c => (h c).2.2.2.2⟩
  case g => exact glob (XA m)
  case X => exact start_intro m ρ
  case i => exact phi0_intro m
  case o => exact phi1_exit m
  case Y => exact exit_read m
  case b => exact fun c => (body_obligation m c).loose
  case u =>
      unfold u₀
      iintro Hu
      ihave H := (ownU_pair _ _) $$ Hu
      icases H with ⟨HP, HX⟩
      imod (ring_own m) $$ HX with HG
      imodintro
      isplitl [HP] <;> iassumption

end Cert.RingProof

end
-- ==== Proof.Value.lean ====
/- That over the reals the result is, at each row, the sum of the four blocks of the whole array; and so is the reference's. -/
module

public import proofs.«01_k».proof.Proof.Out
public import Idealize.ShloMosaic.Lib.Layout
public import Idealize.ShloMosaic.Lib.IdealHost
public import Idealize.ShloMosaic.Lib.Pointwise

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Arg (F := Ideal)) (W : (⟨2, ![65536, 1024]⟩ : Shape).Idx → EReal)

theorem yc_yl (c : Dev nD) : yc (yl c) = (yc c + 3) % 4 := by revert c; decide +kernel
theorem pos_yl (c : Dev nD) : pos (yl c) = pos c := by revert c; decide +kernel
theorem pos_devAt : ∀ P < 8, ∀ Y < 4, pos (devAt P Y) = P := by decide +kernel

/-- Over the reals a device sends first the sub-block of its own coordinate; -/
theorem av_zero (ch : ℕ) (c : Dev nD) (j : S256x1024.Idx) : av X ch 0 c j = xl X c ch (yc c) j := by
  rw [av]; rfl

/-- in the next three slots stands what came in, with the device's own sub-block added; -/
theorem av_add (ch h : ℕ) (hh : h < 3) (c : Dev nD) (j : S256x1024.Idx) :
    (av X ch (h + 1) c j : EReal) = (av X ch h (yl c) j : EReal) + (xl X c ch (yc c + 3 - h) j : EReal) := by
  rw [av, if_pos hh]; rfl

/-- and after them what came in. -/
theorem av_pass (ch h : ℕ) (hh : 3 ≤ h) (c : Dev nD) : av X ch (h + 1) c = av X ch h (yl c) := by
  rw [av, if_neg (by omega)]

/-- The row `r` of block `y`, as an index of the whole array. -/
def wIdx (y r : ℕ) (k : Fin 1024) : (⟨2, ![65536, 1024]⟩ : Shape).Idx :=
  ix2 (⟨(16384 * (y % 4) + r % 16384) % 65536, Nat.mod_lt _ (by decide)⟩ : Fin 65536) k

/-- Every device holds the block of its coordinate. -/
def Held : Prop := ∀ (c : Dev nD) (j : S16384x1024.Idx), X c j = W (wIdx (yc c) (j 0).val (j 1))

variable {X W}

theorem xl_eq (hX : Held X W) (c : Dev nD) (ch sb sb' : ℕ) (hs : sb % 4 = sb' % 4) (j : S256x1024.Idx) :
    (xl X c ch sb j : EReal) = W (wIdx (yc c) (256 * (8 * pos c + 4 * (ch % 2) + sb' % 4) + (j 0).val) (j 1)) := by
  have hp := pos_lt c
  have h0 : (j 0).val < 256 := (j 0).isLt
  unfold xl
  rw [hX]
  have e0 : ((rI (8 * pos c + 4 * (ch % 2) + sb % 4)).emb j 0).val = 256 * (8 * pos c + 4 * (ch % 2) + sb' % 4) + (j 0).val := by
    show 256 * ((8 * pos c + 4 * (ch % 2) + sb % 4) % 64) + 1 * (j 0).val = _
    omega
  have e1 : (rI (8 * pos c + 4 * (ch % 2) + sb % 4)).emb j 1 = j 1 := by
    refine Fin.ext ?_
    show 0 + 1 * (j 1).val = (j 1).val
    omega
  rw [e0]
  exact congrArg (fun k => W (wIdx _ _ k)) e1

theorem wIdx_mod (y y' r : ℕ) (h : y % 4 = y' % 4) (k : Fin 1024) : wIdx y r k = wIdx y' r k := by
  unfold wIdx; simp only [h]

/-- Four terms added from any place on, once around, are their sum. -/
theorem sum_turn (f : ℕ → EReal) (hf : ∀ a b, a % 4 = b % 4 → f a = f b) (y a b c : ℕ) (hy : y < 4) (ha : a % 4 = (y + 1) % 4) (hb : b % 4 = (y + 2) % 4)
    (hc : c % 4 = (y + 3) % 4) : f a + f b + f c + f y = ∑ z : Fin 4, f z.val := by
  rw [Fin.sum_univ_four, hf a _ ha, hf b _ hb, hf c _ hc]
  show _ = f 0 + f 1 + f 2 + f 3
  have h4 : y = 0 ∨ y = 1 ∨ y = 2 ∨ y = 3 := by omega
  have m4 : f 4 = f 0 := hf _ _ rfl
  have m5 : f 5 = f 1 := hf _ _ rfl
  have m6 : f 6 = f 2 := hf _ _ rfl
  rcases h4 with e | e | e | e <;> subst e
  · show f 1 + f 2 + f 3 + f 0 = _
    ac_rfl
  · show f 2 + f 3 + f 4 + f 1 = _
    rw [m4]; ac_rfl
  · show f 3 + f 4 + f 5 + f 2 = _
    rw [m4, m5]; ac_rfl
  · show f 4 + f 5 + f 6 + f 3 = _
    rw [m4, m5, m6]

/-- After the third hop a sub-block is the sum of the four devices' blocks. -/
theorem av_three (hX : Held X W) (c : Dev nD) (ch : ℕ) (j : S256x1024.Idx) (sb : ℕ) (hs : sb % 4 = (yc c + 1) % 4) :
    (av X ch 3 c j : EReal) = ∑ y : Fin 4, W (wIdx y.val (256 * (8 * pos c + 4 * (ch % 2) + sb % 4) + (j 0).val) (j 1)) := by
  have hy := yc_lt c
  rw [av_add X ch 2 (by omega), av_add X ch 1 (by omega), av_add X ch 0 (by omega), av_zero]
  have y1 := yc_yl c
  have y2 := yc_yl (yl c)
  have y3 := yc_yl (yl (yl c))
  rw [xl_eq hX c ch _ sb (by omega), xl_eq hX (yl c) ch _ sb (by omega), xl_eq hX (yl (yl c)) ch _ sb (by omega),
    xl_eq hX (yl (yl (yl c))) ch _ sb (by omega)]
  simp only [pos_yl]
  exact sum_turn (fun y => W (wIdx y (256 * (8 * pos c + 4 * (ch % 2) + sb % 4) + (j 0).val) (j 1)))
    (fun a b h => congrArg W (wIdx_mod a b _ h _)) (yc c) _ _ _ hy (by omega) (by omega) (by omega)

/-- The three hops after it hand the sums on. -/
theorem av_late (hX : Held X W) (ch : ℕ) (j : S256x1024.Idx) (sb : ℕ) : ∀ (k : ℕ) (c : Dev nD), sb % 4 = (yc c + 1 + 3 * k) % 4 →
    (av X ch (3 + k) c j : EReal) = ∑ y : Fin 4, W (wIdx y.val (256 * (8 * pos c + 4 * (ch % 2) + sb % 4) + (j 0).val) (j 1))
  | 0, c, h => av_three hX c ch j sb h
  | k + 1, c, h => by
    rw [show 3 + (k + 1) = (3 + k) + 1 from rfl, av_pass X ch (3 + k) (by omega), av_late hX ch j sb k (yl c) (by rw [yc_yl]; omega), pos_yl]

theorem full_eq (hX : Held X W) (c : Dev nD) (ch sb : ℕ) (hs : sb < 4) (j : S256x1024.Idx) :
    (full X c ch sb j : EReal) = ∑ y : Fin 4, W (wIdx y.val (256 * (8 * pos c + 4 * (ch % 2) + sb) + (j 0).val) (j 1)) := by
  have hy := yc_lt c
  unfold full slotOf
  rw [av_late hX ch j sb _ c (by omega), Nat.mod_eq_of_lt hs]

/-- What the kernel leaves in a device's result: at each row the sum of the four blocks' rows. -/
theorem OUT_eq (hX : Held X W) (c : Dev nD) (i : S16384x1024.Idx) :
    (OUT X c i : EReal) = ∑ y : Fin 4, W (wIdx y.val (i 0).val (i 1)) := by
  have h0 : (i 0).val < 16384 := (i 0).isLt
  have hy := yc_lt c
  have er : (rowIdx i 0).val = (i 0).val % 512 := rfl
  have key : ∀ f : Fam, (if f = .v then 2 else 0) = 2 * ((i 0).val / 512 % 2) →
      (ring0 X f (devAt ((i 0).val / 512 / 4) (yc c)) ((i 0).val / 512 / 2 % 2) (rowIdx i) : EReal)
        = ∑ y : Fin 4, W (wIdx y.val (i 0).val (i 1)) := fun f hf => by
    unfold ring0
    rw [hf, er, full_eq hX _ _ _ (by omega), pos_devAt _ (by omega) _ hy]
    refine Finset.sum_congr rfl fun y _ => ?_
    have e : 256 * (8 * ((i 0).val / 512 / 4) + 4 * ((i 0).val / 512 / 2 % 2 % 2) + (2 * ((i 0).val / 512 % 2) + (i 0).val % 512 / 256))
        + (lowIdx (rowIdx i) 0).val = (i 0).val := by
      show _ + (i 0).val % 512 % 256 = _
      omega
    rw [e]; rfl
  unfold OUT
  by_cases h2 : (i 0).val / 512 % 2 = 0
  · rw [if_pos h2]; exact key .w (by rw [if_neg (by decide)]; omega)
  · rw [if_neg h2]; exact key .v (by rw [if_pos rfl]; omega)

/-- The reference's result: at each row the sum of the four blocks' rows. -/
theorem ref_eq (W : FVec Ideal (⟨2, ![65536, 1024]⟩ : Shape) .f32) (hc : (⟨2, ![65536, 1024]⟩ : Shape).ShapeCasts ⟨3, ![4, 16384, 1024]⟩)
    (hr : (⟨3, ![4, 16384, 1024]⟩ : Shape).ReducesTo [0] ⟨2, ![16384, 1024]⟩) (hu : 0 < (⟨0, ![]⟩ : Shape).numel)
    (hb : FTy.bf16.bits < FTy.f32.bits) (i : (⟨2, ![16384, 1024]⟩ : Shape).Idx) :
    (truncf (F := Ideal) .bf16 (Host.reduceAdd (shapeCast _ W hc) (constant (F := Ideal) ⟨0, ![]⟩ .f32 0x00000000#32) hr hu) hb i : EReal)
      = ∑ y : Fin 4, W (wIdx y.val (i 0).val (i 1)) := by
  have h0 : (i 0).val < 16384 := (i 0).isLt
  have hz : (constant (F := Ideal) ⟨0, ![]⟩ .f32 0x00000000#32 (Shape.Idx.first hu) : EReal) = 0 := by simp [pointwise]
  show Ideal.hostReduceAdd hr (shapeCast _ W hc) (constant (F := Ideal) ⟨0, ![]⟩ .f32 0x00000000#32 (Shape.Idx.first hu)) i = _
  rw [Ideal.hostReduceAdd_r3_a0, hz, zero_add]
  refine Finset.sum_congr rfl fun y _ => ?_
  have hy := y.isLt
  refine congrArg W (Shape.reshapeEquiv_eq_of_vals hc _ _ _ _ (rowMajor_val2 _ 1024 rfl) (rowMajor_val3 _ 16777216 1024 rfl rfl) ?_)
  show (16384 * (y.val % 4) + (i 0).val % 16384) % 65536 * 1024 + (i 1).val = y.val * 16777216 + (i 0).val * 1024 + (i 1).val
  omega

theorem mesh_yc : ∀ c : Dev nD, Layout.meshLin [2, 4, 4] c.val [1] = yc c := by decide +kernel

/-- A device that holds its block of the whole array holds the block of its coordinate. -/
theorem held_of (h : ∀ c : Dev nD, X c = Layout.blockN ⟨2, ![16384, 1024]⟩ ⟨2, ![65536, 1024]⟩ (Layout.meshBlock [2, 4, 4] ![[1], []] c) W) :
    Held X W := fun c j => by
  have h0 : (j 0).val < 16384 := (j 0).isLt
  have hy := yc_lt c
  rw [h c, Layout.blockN_apply]
  refine congrArg W (Shape.idx_ext₂ ?_ ?_)
  · rw [Layout.TilesN.idx_val]
    show Layout.meshLin [2, 4, 4] c.val [1] * 16384 + (j 0).val = (16384 * (yc c % 4) + (j 0).val % 16384) % 65536
    rw [mesh_yc]; omega
  · rw [Layout.TilesN.idx_val]
    show 0 * 1024 + (j 1).val = (j 1).val
    omega

end Cert.RingProof

end
-- ==== Proof.lean ====
/- The all-reduce's claims: the program's run, at the machine's floats and over the reals; the reference's run; that the two
   readings of the program are one; and that over the reals every device ends with the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.RingProof

/-- At the machine's floats the program runs, its argument ends as it was, and every counter ends at zero. -/
theorem frame_kernel : Cert.quiescent_Kernel := fun m ρ _ =>
  (θ_run Cert.KernelIdeal.defs _ _).mono (fun _ h => ⟨fun c => (h.1 c).1, h.2⟩) (run_main (F := Bits) m ρ)

/-- So it does over the reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference runs, its argument ends as it was, and it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result, from its argument's contents. -/
def refOut (W : FVec Ideal Cert.ReferenceIdeal.S65536x1024 .f32) : FVec Ideal Cert.ReferenceIdeal.S16384x1024 .bf16 :=
  truncf .bf16 (Host.reduceAdd (shapeCast Cert.ReferenceIdeal.S4x16384x1024 W Cert.ReferenceIdeal.Gen.shapeCasts_S65536x1024_S4x16384x1024)
    (constant Cert.ReferenceIdeal.S_ .f32 0x00000000#32) Cert.ReferenceIdeal.Gen.reducesTo_S4x16384x1024_S16384x1024_d0 Cert.ReferenceIdeal.Gen.h_S_)
    Cert.ReferenceIdeal.Gen.bitsLt_bf16_f32

/-- From the blocks of the reference's argument, over the reals, every device's result is the reference's. -/
theorem algebraic : Cert.algebraic_KernelIdeal_ReferenceIdeal := by
  intro m g m' g' _ hm
  refine ⟨refOut (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h.1 c).2.trans (funext fun i => ?_), (h.1 c).1⟩) (run_main (F := Ideal) m g)
    exact (OUT_eq (X := XA m) (held_of hm) c i).trans (ref_eq _ _ _ _ _ i).symm
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
